-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_PackDown (m : (ℓ : Loc Cert.PackDown.nD Cert.PackDown.τ Cert.PackDown.sig) → Buf (Elt Bits) ℓ) : Prop :=
  True

def Pre_PackDownRef (m : (ℓ : Loc Cert.PackDownRef.nD Cert.PackDownRef.τ Cert.PackDownRef.sig) → Buf (Elt Bits) ℓ) : Prop :=
  True

def Pre_PackUp (m : (ℓ : Loc Cert.PackUp.nD Cert.PackUp.τ Cert.PackUp.sig) → Buf (Elt Bits) ℓ) : Prop :=
  True

def Pre_PackUpRef (m : (ℓ : Loc Cert.PackUpRef.nD Cert.PackUpRef.τ Cert.PackUpRef.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_PackDown [hPackDown : Cert.PackDown.Facts] : Prop :=
  ∀ (m : (ℓ : Loc Cert.PackDown.nD Cert.PackDown.τ Cert.PackDown.sig) → Buf (Elt Bits) ℓ) (g : Dev Cert.PackDown.nD → PrngReg), Pre_PackDown m →
    θ_run (Cert.PackDown.defs (F := Bits)) (onTc (τ := Cert.PackDown.τ) (Cert.PackDown.main (F := Bits))) ⟨m, fun _ => 0, g⟩ (fun r => (∀ c : Dev Cert.PackDown.nD,
      r.2.mem ((c.tc : Thread Cert.PackDown.nD Cert.PackDown.τ).loc Cert.PackDown.main_arg0) = m ((c.tc : Thread Cert.PackDown.nD Cert.PackDown.τ).loc Cert.PackDown.main_arg0))
      ∧ r.2.sem = fun _ => 0)

def quiescent_PackDownRef [hPackDownRef : Cert.PackDownRef.Facts] : Prop :=
  ∀ (m : (ℓ : Loc Cert.PackDownRef.nD Cert.PackDownRef.τ Cert.PackDownRef.sig) → Buf (Elt Bits) ℓ) (g : Dev Cert.PackDownRef.nD → PrngReg), Pre_PackDownRef m →
    θ_run (Cert.PackDownRef.defs (F := Bits)) (onTc (τ := Cert.PackDownRef.τ) (Cert.PackDownRef.main (F := Bits))) ⟨m, fun _ => 0, g⟩ (fun r => (∀ c : Dev Cert.PackDownRef.nD,
      r.2.mem ((c.tc : Thread Cert.PackDownRef.nD Cert.PackDownRef.τ).loc Cert.PackDownRef.main_arg0) = m ((c.tc : Thread Cert.PackDownRef.nD Cert.PackDownRef.τ).loc Cert.PackDownRef.main_arg0))
      ∧ r.2.sem = fun _ => 0)

def quiescent_PackUp [hPackUp : Cert.PackUp.Facts] : Prop :=
  ∀ (m : (ℓ : Loc Cert.PackUp.nD Cert.PackUp.τ Cert.PackUp.sig) → Buf (Elt Bits) ℓ) (g : Dev Cert.PackUp.nD → PrngReg), Pre_PackUp m →
    θ_run (Cert.PackUp.defs (F := Bits)) (onTc (τ := Cert.PackUp.τ) (Cert.PackUp.main (F := Bits))) ⟨m, fun _ => 0, g⟩ (fun r => (∀ c : Dev Cert.PackUp.nD,
      r.2.mem ((c.tc : Thread Cert.PackUp.nD Cert.PackUp.τ).loc Cert.PackUp.main_arg0) = m ((c.tc : Thread Cert.PackUp.nD Cert.PackUp.τ).loc Cert.PackUp.main_arg0))
      ∧ r.2.sem = fun _ => 0)

def quiescent_PackUpRef [hPackUpRef : Cert.PackUpRef.Facts] : Prop :=
  ∀ (m : (ℓ : Loc Cert.PackUpRef.nD Cert.PackUpRef.τ Cert.PackUpRef.sig) → Buf (Elt Bits) ℓ) (g : Dev Cert.PackUpRef.nD → PrngReg), Pre_PackUpRef m →
    θ_run (Cert.PackUpRef.defs (F := Bits)) (onTc (τ := Cert.PackUpRef.τ) (Cert.PackUpRef.main (F := Bits))) ⟨m, fun _ => 0, g⟩ (fun r => (∀ c : Dev Cert.PackUpRef.nD,
      r.2.mem ((c.tc : Thread Cert.PackUpRef.nD Cert.PackUpRef.τ).loc Cert.PackUpRef.main_arg0) = m ((c.tc : Thread Cert.PackUpRef.nD Cert.PackUpRef.τ).loc Cert.PackUpRef.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97_0)) (v1 : (c : Dev Cert.KernelIdeal.nD) → Buf (Elt Ideal) ((c.tc : Thread Cert.KernelIdeal.nD Cert.KernelIdeal.τ).loc Cert.KernelIdeal.main_v97_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_0) = v0 c
          ∧ r.2.mem ((c.tc : Thread Cert.KernelIdeal.nD Cert.KernelIdeal.τ).loc Cert.KernelIdeal.main_v97_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v355) = v0 c
          ∧ r.2.mem ((c.tc : Thread Cert.ReferenceIdeal.nD Cert.ReferenceIdeal.τ).loc Cert.ReferenceIdeal.main_v356) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def bitexact_PackDown_PackDownRef [hPackDown : Cert.PackDown.Facts] [hPackDownRef : Cert.PackDownRef.Facts] : Prop :=
  ∀ (m : (ℓ : Loc Cert.PackDown.nD Cert.PackDown.τ Cert.PackDown.sig) → Buf (Elt Bits) ℓ) (g : Dev Cert.PackDown.nD → PrngReg)
    (m' : (ℓ : Loc Cert.PackDownRef.nD Cert.PackDownRef.τ Cert.PackDownRef.sig) → Buf (Elt Bits) ℓ) (g' : Dev Cert.PackDownRef.nD → PrngReg), Pre_PackDown m →
    (∀ c : Dev Cert.PackDown.nD,
      m' ((c.tc : Thread Cert.PackDownRef.nD Cert.PackDownRef.τ).loc Cert.PackDownRef.main_arg0) = m ((c.tc : Thread Cert.PackDown.nD Cert.PackDown.τ).loc Cert.PackDown.main_arg0)) →
    ∃ (v0 : (c : Dev Cert.PackDown.nD) → Buf (Elt Bits) ((c.tc : Thread Cert.PackDown.nD Cert.PackDown.τ).loc Cert.PackDown.main_v1)),
      θ_run (Cert.PackDown.defs (F := Bits)) (onTc (τ := Cert.PackDown.τ) (Cert.PackDown.main (F := Bits))) ⟨m, fun _ => 0, g⟩ (fun r => ∀ c : Dev Cert.PackDown.nD,
          r.2.mem ((c.tc : Thread Cert.PackDown.nD Cert.PackDown.τ).loc Cert.PackDown.main_v1) = v0 c
          ∧ r.2.mem ((c.tc : Thread Cert.PackDown.nD Cert.PackDown.τ).loc Cert.PackDown.main_arg0) = m ((c.tc : Thread Cert.PackDown.nD Cert.PackDown.τ).loc Cert.PackDown.main_arg0))
      ∧ θ_run (Cert.PackDownRef.defs (F := Bits)) (onTc (τ := Cert.PackDownRef.τ) (Cert.PackDownRef.main (F := Bits))) ⟨m', fun _ => 0, g'⟩ (fun r => ∀ c : Dev Cert.PackDownRef.nD,
          r.2.mem ((c.tc : Thread Cert.PackDownRef.nD Cert.PackDownRef.τ).loc Cert.PackDownRef.main_v7) = v0 c
          ∧ r.2.mem ((c.tc : Thread Cert.PackDownRef.nD Cert.PackDownRef.τ).loc Cert.PackDownRef.main_arg0) = m' ((c.tc : Thread Cert.PackDownRef.nD Cert.PackDownRef.τ).loc Cert.PackDownRef.main_arg0))

def bitexact_PackUp_PackUpRef [hPackUp : Cert.PackUp.Facts] [hPackUpRef : Cert.PackUpRef.Facts] : Prop :=
  ∀ (m : (ℓ : Loc Cert.PackUp.nD Cert.PackUp.τ Cert.PackUp.sig) → Buf (Elt Bits) ℓ) (g : Dev Cert.PackUp.nD → PrngReg)
    (m' : (ℓ : Loc Cert.PackUpRef.nD Cert.PackUpRef.τ Cert.PackUpRef.sig) → Buf (Elt Bits) ℓ) (g' : Dev Cert.PackUpRef.nD → PrngReg), Pre_PackUp m →
    (∀ c : Dev Cert.PackUp.nD,
      m' ((c.tc : Thread Cert.PackUpRef.nD Cert.PackUpRef.τ).loc Cert.PackUpRef.main_arg0) = m ((c.tc : Thread Cert.PackUp.nD Cert.PackUp.τ).loc Cert.PackUp.main_arg0)) →
    ∃ (v0 : (c : Dev Cert.PackUp.nD) → Buf (Elt Bits) ((c.tc : Thread Cert.PackUp.nD Cert.PackUp.τ).loc Cert.PackUp.main_v1)),
      θ_run (Cert.PackUp.defs (F := Bits)) (onTc (τ := Cert.PackUp.τ) (Cert.PackUp.main (F := Bits))) ⟨m, fun _ => 0, g⟩ (fun r => ∀ c : Dev Cert.PackUp.nD,
          r.2.mem ((c.tc : Thread Cert.PackUp.nD Cert.PackUp.τ).loc Cert.PackUp.main_v1) = v0 c
          ∧ r.2.mem ((c.tc : Thread Cert.PackUp.nD Cert.PackUp.τ).loc Cert.PackUp.main_arg0) = m ((c.tc : Thread Cert.PackUp.nD Cert.PackUp.τ).loc Cert.PackUp.main_arg0))
      ∧ θ_run (Cert.PackUpRef.defs (F := Bits)) (onTc (τ := Cert.PackUpRef.τ) (Cert.PackUpRef.main (F := Bits))) ⟨m', fun _ => 0, g'⟩ (fun r => ∀ c : Dev Cert.PackUpRef.nD,
          r.2.mem ((c.tc : Thread Cert.PackUpRef.nD Cert.PackUpRef.τ).loc Cert.PackUpRef.main_v9) = v0 c
          ∧ r.2.mem ((c.tc : Thread Cert.PackUpRef.nD Cert.PackUpRef.τ).loc Cert.PackUpRef.main_arg0) = m' ((c.tc : Thread Cert.PackUpRef.nD Cert.PackUpRef.τ).loc Cert.PackUpRef.main_arg0))

def Claim : Prop :=
  ∃ (hKernel : Cert.Kernel.Facts) (hKernelIdeal : Cert.KernelIdeal.Facts) (hReferenceIdeal : Cert.ReferenceIdeal.Facts) (hPackDown : Cert.PackDown.Facts) (hPackDownRef : Cert.PackDownRef.Facts) (hPackUp : Cert.PackUp.Facts) (hPackUpRef : Cert.PackUpRef.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PackDown (hPackDown := hPackDown)
    ∧ quiescent_PackDownRef (hPackDownRef := hPackDownRef)
    ∧ quiescent_PackUp (hPackUp := hPackUp)
    ∧ quiescent_PackUpRef (hPackUpRef := hPackUpRef)
    ∧ preserves_Kernel_KernelIdeal
    ∧ algebraic_KernelIdeal_ReferenceIdeal_pre_finite (hKernelIdeal := hKernelIdeal) (hReferenceIdeal := hReferenceIdeal) (hPre_finite := hPre_finite)
    ∧ bitexact_PackDown_PackDownRef (hPackDown := hPackDown) (hPackDownRef := hPackDownRef)
    ∧ bitexact_PackUp_PackUpRef (hPackUp := hPackUp) (hPackUpRef := hPackUpRef)
-- ==== Pre_finite.lean ====
abbrev S8x2048x1024 : Shape := ⟨3, ![8, 2048, 1024]⟩
abbrev S1x1024x4864 : Shape := ⟨3, ![1, 1024, 4864]⟩
abbrev S1x8 : Shape := ⟨2, ![1, 8]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S8x2048x1024 : S_.BroadcastsInDim S8x2048x1024 (![] : Fin 0 → Fin S8x2048x1024.rank)
  bcast_S_S1x1024x4864 : S_.BroadcastsInDim S1x1024x4864 (![] : Fin 0 → Fin S1x1024x4864.rank)
  bcast_S_S1x8 : S_.BroadcastsInDim S1x8 (![] : Fin 0 → Fin S1x8.rank)

variable [Facts]

def fn {F : FTy → Type} [FloatOps F] (main_arg0 : FVec F S8x2048x1024 .f32) (main_arg1 : FVec F S1x1024x4864 .f32) (main_arg2 : FVec F S1x8 .f32) (main_arg3 : FVec F S1x512 .f32) (main_arg4 : FVec F S1x512x1024 .f32) (main_arg5 : FVec F S1x512x1024 .f32) (main_arg6 : FVec F S1x1024x1024 .f32) (main_arg7 : FVec F S1x1024 .f32) (main_arg8 : FVec F S1x1024 .f32) : IVec S8x2048x1024 1 × IVec S1x1024x4864 1 × IVec S1x8 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1x1024x4864 .f32 := Host.absf main_arg1
  let main_cst_0 : FVec F S_ .f32 := constant S_ .f32 0x7F800000#32
  let main_v4 : FVec F S1x1024x4864 .f32 := broadcastInDim S1x1024x4864 ![] bcast_S_S1x1024x4864 main_cst_0
  let main_v5 : IVec S1x1024x4864 1 := cmpf .olt main_v3 main_v4
  let main_v6 : FVec F S1x8 .f32 := Host.absf main_arg2
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Kernel.lean ====
abbrev S8x2048x1024 : Shape := ⟨3, ![8, 2048, 1024]⟩
abbrev S1x1024x4864 : Shape := ⟨3, ![1, 1024, 4864]⟩
abbrev S1x8 : Shape := ⟨2, ![1, 8]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S8 : Shape := ⟨1, ![8]⟩
abbrev S1x128x256 : Shape := ⟨3, ![1, 128, 256]⟩
abbrev S8x1x1 : Shape := ⟨3, ![8, 1, 1]⟩
abbrev S8x128x256 : Shape := ⟨3, ![8, 128, 256]⟩
abbrev S4 : Shape := ⟨1, ![4]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1024x4864 : Shape := ⟨2, ![1024, 4864]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S640x128 : Shape := ⟨2, ![640, 128]⟩
abbrev S512x512 : Shape := ⟨2, ![512, 512]⟩
abbrev S1024x512 : Shape := ⟨2, ![1024, 512]⟩
abbrev S1024x128 : Shape := ⟨2, ![1024, 128]⟩
abbrev S512x128 : Shape := ⟨2, ![512, 128]⟩
abbrev S256x128 : Shape := ⟨2, ![256, 128]⟩
abbrev S128x64 : Shape := ⟨2, ![128, 64]⟩
abbrev S256x64 : Shape := ⟨2, ![256, 64]⟩
abbrev S1x1 : Shape := ⟨2, ![1, 1]⟩
abbrev S512x1 : Shape := ⟨2, ![512, 1]⟩

abbrev nBuf : Space → Nat
  | .hbm => 130
  | .vmem => 23
  | .smem => 1
  | _ => 0

abbrev hbmTy0_0 (i : Nat) : BufTy := match i % 128 with
  | 0 => ⟨S8x2048x1024, .f32⟩
  | 1 => ⟨S1x1024x4864, .f32⟩
  | 2 => ⟨S1x8, .f32⟩
  | 3 => ⟨S1x512, .f32⟩
  | 4 => ⟨S1x512x1024, .f32⟩
  | 5 => ⟨S1x512x1024, .f32⟩
  | 6 => ⟨S1x1024x1024, .f32⟩
  | 7 => ⟨S1x1024, .f32⟩
  | 8 => ⟨S1x1024, .f32⟩
  | 9 => ⟨S128, .i32⟩
  | 10 => ⟨S128x1, .i32⟩
  | 11 => ⟨S_, .i32⟩
  | 12 => ⟨S128x1, .i32⟩
  | 13 => ⟨S128x1, .i32⟩
  | 14 => ⟨S256, .i32⟩
  | 15 => ⟨S1x256, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i1⟩
  | 25 => ⟨S128x256, .i1⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S1x128x256, .i1⟩
  | 40 => ⟨S8x1x1, .f32⟩
  | 41 => ⟨S8x1x1, .f32⟩
  | 42 => ⟨S128x256, .f32⟩
  | 43 => ⟨S1x128x256, .f32⟩
  | 44 => ⟨S8x128x256, .f32⟩
  | 45 => ⟨S8x128x256, .f32⟩
  | 46 => ⟨S8x128x256, .f32⟩
  | 47 => ⟨S_, .f32⟩
  | 48 => ⟨S_, .f32⟩
  | 49 => ⟨S8x128x256, .i1⟩
  | 50 => ⟨S8x128x256, .f32⟩
  | 51 => ⟨S8x128x256, .f32⟩
  | 52 => ⟨S4, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S4, .f32⟩
  | 60 => ⟨S4, .f32⟩
  | 61 => ⟨S128, .f32⟩
  | 62 => ⟨S128x1, .f32⟩
  | 63 => ⟨S1x128, .f32⟩
  | 64 => ⟨S128x128, .f32⟩
  | 65 => ⟨S128x128, .f32⟩
  | 66 => ⟨S128x128, .f32⟩
  | 67 => ⟨S_, .f32⟩
  | 68 => ⟨S128x128, .f32⟩
  | 69 => ⟨S128x128, .i1⟩
  | 70 => ⟨S_, .f32⟩
  | 71 => ⟨S128x128, .f32⟩
  | 72 => ⟨S128x128, .f32⟩
  | 73 => ⟨S4x1x1, .f32⟩
  | 74 => ⟨S1x128x128, .f32⟩
  | 75 => ⟨S4x128x128, .f32⟩
  | 76 => ⟨S4x128x128, .f32⟩
  | 77 => ⟨S4x128x128, .f32⟩
  | 78 => ⟨S4x128x128, .f32⟩
  | 79 => ⟨S_, .f32⟩
  | 80 => ⟨S_, .f32⟩
  | 81 => ⟨S4x128x128, .i1⟩
  | 82 => ⟨S4x128x128, .f32⟩
  | 83 => ⟨S4x128x128, .f32⟩
  | 84 => ⟨S_, .f32⟩
  | 85 => ⟨S128, .f32⟩
  | 86 => ⟨S128, .f32⟩
  | 87 => ⟨S4x1, .f32⟩
  | 88 => ⟨S1x128, .f32⟩
  | 89 => ⟨S4x128, .f32⟩
  | 90 => ⟨S4x128, .f32⟩
  | 91 => ⟨S4x128, .f32⟩
  | 92 => ⟨S4x128, .f32⟩
  | 93 => ⟨S_, .f32⟩
  | 94 => ⟨S128, .f32⟩
  | 95 => ⟨S128, .f32⟩
  | 96 => ⟨S4x1, .f32⟩
  | 97 => ⟨S1x128, .f32⟩
  | 98 => ⟨S4x128, .f32⟩
  | 99 => ⟨S4x128, .f32⟩
  | 100 => ⟨S4x128, .f32⟩
  | 101 => ⟨S4x128, .f32⟩
  | 102 => ⟨S_, .f32⟩
  | 103 => ⟨S4, .f32⟩
  | 104 => ⟨S4, .f32⟩
  | 105 => ⟨S4, .f32⟩
  | 106 => ⟨S4x128x1, .f32⟩
  | 107 => ⟨S4x128x128, .f32⟩
  | 108 => ⟨S4x128x1, .f32⟩
  | 109 => ⟨S4x128x128, .f32⟩
  | 110 => ⟨S4x1x1, .f32⟩
  | 111 => ⟨S4x128x128, .f32⟩
  | 112 => ⟨S1024x4864, .f32⟩
  | 113 => ⟨S1024x4864, .bf16⟩
  | 114 => ⟨S8, .f32⟩
  | 115 => ⟨S1x8, .f32⟩
  | 116 => ⟨S512, .f32⟩
  | 117 => ⟨S1x512, .f32⟩
  | 118 => ⟨S512x1024, .f32⟩
  | 119 => ⟨S512x1024, .bf16⟩
  | 120 => ⟨S512x1024, .f32⟩
  | 121 => ⟨S512x1024, .bf16⟩
  | 122 => ⟨S1024x1024, .f32⟩
  | 123 => ⟨S1024x1024, .bf16⟩
  | 124 => ⟨S1024, .f32⟩
  | 125 => ⟨S1x1024, .f32⟩
  | 126 => ⟨S1024, .f32⟩
  | 127 => ⟨S1x1024, .f32⟩
  | _ => ⟨S8x2048x1024, .f32⟩

abbrev hbmTy0_1 (i : Nat) : BufTy := match i % 128 with
  | 0 => ⟨S8x2048x1024, .f32⟩
  | 1 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1024x4864, .bf16⟩
  | .local _ .vmem, ⟨3, _⟩ => ⟨S8x128x256, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | .local _ .vmem, ⟨7, _⟩ => ⟨S4x128x128, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | .local _ .vmem, ⟨18, _⟩ => ⟨S640x128, .bf16⟩
  | .local _ .vmem, ⟨19, _⟩ => ⟨S640x128, .bf16⟩
  | .local _ .vmem, ⟨20, _⟩ => ⟨S4x128x128, .f32⟩
  | .local _ .vmem, ⟨21, _⟩ => ⟨S512x512, .f32⟩
  | .local _ .vmem, ⟨22, _⟩ => ⟨S512x512, .f32⟩
  | .local _ .smem, ⟨0, _⟩ => ⟨S1x8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97_0 : Ref sig .tc := ⟨.hbm, 128, rfl⟩
abbrev main_v97_1 : Ref sig .tc := ⟨.hbm, 129, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8x2048x1024 : Shape := ⟨3, ![8, 2048, 1024]⟩
abbrev S1x1024x4864 : Shape := ⟨3, ![1, 1024, 4864]⟩
abbrev S1x8 : Shape := ⟨2, ![1, 8]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024x4864 : Shape := ⟨2, ![1024, 4864]⟩
abbrev S8x2048x4864 : Shape := ⟨3, ![8, 2048, 4864]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S_ : Shape := ⟨0, ![]⟩
abbrev S8x2048x2x64 : Shape := ⟨4, ![8, 2048, 2, 64]⟩
abbrev S8 : Shape := ⟨1, ![8]⟩
abbrev S8x16x128x2x4x64 : Shape := ⟨6, ![8, 16, 128, 2, 4, 64]⟩
abbrev S8x16x128x2x64 : Shape := ⟨5, ![8, 16, 128, 2, 64]⟩
abbrev S8x17x128x2x64 : Shape := ⟨5, ![8, 17, 128, 2, 64]⟩
abbrev S8x16x256x2x64 : Shape := ⟨5, ![8, 16, 256, 2, 64]⟩
abbrev S8x16x2x256x128x4 : Shape := ⟨6, ![8, 16, 2, 256, 128, 4]⟩
abbrev S8x16x2x4x128x256 : Shape := ⟨6, ![8, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x16x1x1x128x256 : Shape := ⟨6, ![1, 16, 1, 1, 128, 256]⟩
abbrev S8x16x2x4x128x1 : Shape := ⟨6, ![8, 16, 2, 4, 128, 1]⟩
abbrev S8x16x2x4x128x257 : Shape := ⟨6, ![8, 16, 2, 4, 128, 257]⟩
abbrev S8x16x2x4x128 : Shape := ⟨5, ![8, 16, 2, 4, 128]⟩
abbrev S8x16x2x64x4x128 : Shape := ⟨6, ![8, 16, 2, 64, 4, 128]⟩
abbrev S8x2048x4x128 : Shape := ⟨4, ![8, 2048, 4, 128]⟩
abbrev S4 : Shape := ⟨1, ![4]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S8x16x128x4x128 : Shape := ⟨5, ![8, 16, 128, 4, 128]⟩
abbrev S16x8x4x128x128 : Shape := ⟨5, ![16, 8, 4, 128, 128]⟩
abbrev S1x1x4x128x128 : Shape := ⟨5, ![1, 1, 4, 128, 128]⟩
abbrev S4x128x1 : Shape := ⟨3, ![4, 128, 1]⟩
abbrev S1x1x4x128x1 : Shape := ⟨5, ![1, 1, 4, 128, 1]⟩
abbrev S8x4x128x128 : Shape := ⟨4, ![8, 4, 128, 128]⟩
abbrev S1x4x1x1 : Shape := ⟨4, ![1, 4, 1, 1]⟩
abbrev S1x8x4x128x128 : Shape := ⟨5, ![1, 8, 4, 128, 128]⟩
abbrev S512 : Shape := ⟨1, ![512]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S512x1024 : Shape := ⟨2, ![512, 1024]⟩
abbrev S1024x1024 : Shape := ⟨2, ![1024, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 423
  | .vmem => 0
  | .smem => 0
  | _ => 0

abbrev hbmTy0_0 (i : Nat) : BufTy := match i % 128 with
  | 0 => ⟨S8x2048x1024, .f32⟩
  | 1 => ⟨S1x1024x4864, .f32⟩
  | 2 => ⟨S1x8, .f32⟩
  | 3 => ⟨S1x512, .f32⟩
  | 4 => ⟨S1x512x1024, .f32⟩
  | 5 => ⟨S1x512x1024, .f32⟩
  | 6 => ⟨S1x1024x1024, .f32⟩
  | 7 => ⟨S1x1024, .f32⟩
  | 8 => ⟨S1x1024, .f32⟩
  | 9 => ⟨S1024x4864, .f32⟩
  | 10 => ⟨S8x2048x4864, .f32⟩
  | 11 => ⟨S8x2048x512, .f32⟩
  | 12 => ⟨S8x2048x128, .f32⟩
  | 13 => ⟨S8x2048x128, .f32⟩
  | 14 => ⟨S8x2048x512, .f32⟩
  | 15 => ⟨S8x2048x512, .f32⟩
  | 16 => ⟨S8x2048x512, .f32⟩
  | 17 => ⟨S8x2048x512, .f32⟩
  | 18 => ⟨S8x2048x1024, .f32⟩
  | 19 => ⟨S8x2048x1024, .f32⟩
  | 20 => ⟨S8x2048x8x64, .f32⟩
  | 21 => ⟨S_, .f32⟩
  | 22 => ⟨S8x2048x8x64, .f32⟩
  | 23 => ⟨S8x2048x8x64, .f32⟩
  | 24 => ⟨S8x2048x2x64, .f32⟩
  | 25 => ⟨S8x2048x2x64, .f32⟩
  | 26 => ⟨S8, .f32⟩
  | 27 => ⟨S8x16x128x2x4x64, .f32⟩
  | 28 => ⟨S8x16x128x2x64, .f32⟩
  | 29 => ⟨S8x16x128x2x64, .f32⟩
  | 30 => ⟨S_, .i32⟩
  | 31 => ⟨S_, .f32⟩
  | 32 => ⟨S8x17x128x2x64, .f32⟩
  | 33 => ⟨S8x16x128x2x64, .f32⟩
  | 34 => ⟨S8x16x256x2x64, .f32⟩
  | 35 => ⟨S_, .i32⟩
  | 36 => ⟨S_, .f32⟩
  | 37 => ⟨S8x17x128x2x64, .f32⟩
  | 38 => ⟨S8x16x128x2x64, .f32⟩
  | 39 => ⟨S8x16x256x2x64, .f32⟩
  | 40 => ⟨S8x16x2x256x128x4, .f32⟩
  | 41 => ⟨S8x16x2x4x128x256, .f32⟩
  | 42 => ⟨S128, .i32⟩
  | 43 => ⟨S128x1, .i32⟩
  | 44 => ⟨S_, .i32⟩
  | 45 => ⟨S128x1, .i32⟩
  | 46 => ⟨S128x1, .i32⟩
  | 47 => ⟨S256, .i32⟩
  | 48 => ⟨S1x256, .i32⟩
  | 49 => ⟨S128x256, .i32⟩
  | 50 => ⟨S128x256, .i32⟩
  | 51 => ⟨S128x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S16, .i32⟩
  | 60 => ⟨S16x1x1, .i32⟩
  | 61 => ⟨S_, .i32⟩
  | 62 => ⟨S16x1x1, .i32⟩
  | 63 => ⟨S16x1x1, .i1⟩
  | 64 => ⟨S256, .i32⟩
  | 65 => ⟨S1x1x256, .i32⟩
  | 66 => ⟨S_, .i32⟩
  | 67 => ⟨S1x1x256, .i32⟩
  | 68 => ⟨S1x1x256, .i1⟩
  | 69 => ⟨S16x1x256, .i1⟩
  | 70 => ⟨S16x1x256, .i1⟩
  | 71 => ⟨S16x1x256, .i1⟩
  | 72 => ⟨S1x128x256, .i1⟩
  | 73 => ⟨S16x128x256, .i1⟩
  | 74 => ⟨S16x128x256, .i1⟩
  | 75 => ⟨S16x128x256, .i1⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S2x4x1x1, .f32⟩
  | 90 => ⟨S128x256, .f32⟩
  | 91 => ⟨S1x1x128x256, .f32⟩
  | 92 => ⟨S2x4x128x256, .f32⟩
  | 93 => ⟨S2x4x128x256, .f32⟩
  | 94 => ⟨S2x4x128x256, .f32⟩
  | 95 => ⟨S1x1x2x4x128x256, .f32⟩
  | 96 => ⟨S8x16x2x4x128x256, .f32⟩
  | 97 => ⟨S8x16x2x4x128x256, .f32⟩
  | 98 => ⟨S1x16x1x1x128x256, .i1⟩
  | 99 => ⟨S_, .f32⟩
  | 100 => ⟨S_, .f32⟩
  | 101 => ⟨S8x16x2x4x128x256, .i1⟩
  | 102 => ⟨S8x16x2x4x128x256, .f32⟩
  | 103 => ⟨S8x16x2x4x128x256, .f32⟩
  | 104 => ⟨S2x4x1x1, .f32⟩
  | 105 => ⟨S8x16x2x4x128x1, .f32⟩
  | 106 => ⟨S8x16x2x4x128x257, .f32⟩
  | 107 => ⟨S_, .f32⟩
  | 108 => ⟨S8x16x2x4x128, .f32⟩
  | 109 => ⟨S_, .f32⟩
  | 110 => ⟨S8x16x2x4x128, .f32⟩
  | 111 => ⟨S8x16x2x4x128, .f32⟩
  | 112 => ⟨S8x16x2x4x128x1, .f32⟩
  | 113 => ⟨S8x16x2x4x128x257, .f32⟩
  | 114 => ⟨S8x16x2x4x128x257, .f32⟩
  | 115 => ⟨S8x16x2x4x128x257, .f32⟩
  | 116 => ⟨S_, .f32⟩
  | 117 => ⟨S8x16x2x4x128, .f32⟩
  | 118 => ⟨S8x16x2x4x128x1, .f32⟩
  | 119 => ⟨S8x16x2x4x128x257, .f32⟩
  | 120 => ⟨S8x16x2x4x128x257, .f32⟩
  | 121 => ⟨S8x16x2x4x128x256, .f32⟩
  | 122 => ⟨S8x16x2x64x4x128, .f32⟩
  | 123 => ⟨S8x16x128x2x4x64, .f32⟩
  | 124 => ⟨S8x2048x512, .f32⟩
  | 125 => ⟨S8x2048x4x128, .f32⟩
  | 126 => ⟨S_, .f32⟩
  | 127 => ⟨S8x2048x4x128, .f32⟩
  | _ => ⟨S8x2048x1024, .f32⟩

abbrev hbmTy0_1 (i : Nat) : BufTy := match i % 128 with
  | 0 => ⟨S8x2048x4x128, .f32⟩
  | 1 => ⟨S8x2048x4x128, .f32⟩
  | 2 => ⟨S8x2048x4x128, .f32⟩
  | 3 => ⟨S4, .f32⟩
  | 4 => ⟨S_, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S128, .f32⟩
  | 13 => ⟨S128x1, .f32⟩
  | 14 => ⟨S1x128, .f32⟩
  | 15 => ⟨S128x128, .f32⟩
  | 16 => ⟨S128x128, .f32⟩
  | 17 => ⟨S128x128, .f32⟩
  | 18 => ⟨S_, .f32⟩
  | 19 => ⟨S128x128, .f32⟩
  | 20 => ⟨S128x128, .i1⟩
  | 21 => ⟨S_, .f32⟩
  | 22 => ⟨S128x128, .f32⟩
  | 23 => ⟨S128x128, .f32⟩
  | 24 => ⟨S4x1x1, .f32⟩
  | 25 => ⟨S1x128x128, .f32⟩
  | 26 => ⟨S4x128x128, .f32⟩
  | 27 => ⟨S4x128x128, .f32⟩
  | 28 => ⟨S4x128x128, .f32⟩
  | 29 => ⟨S4x128x128, .f32⟩
  | 30 => ⟨S_, .f32⟩
  | 31 => ⟨S_, .f32⟩
  | 32 => ⟨S4x128x128, .i1⟩
  | 33 => ⟨S4x128x128, .f32⟩
  | 34 => ⟨S4x128x128, .f32⟩
  | 35 => ⟨S_, .f32⟩
  | 36 => ⟨S128, .f32⟩
  | 37 => ⟨S128, .f32⟩
  | 38 => ⟨S4x1, .f32⟩
  | 39 => ⟨S1x128, .f32⟩
  | 40 => ⟨S4x128, .f32⟩
  | 41 => ⟨S4x128, .f32⟩
  | 42 => ⟨S4x128, .f32⟩
  | 43 => ⟨S4x128, .f32⟩
  | 44 => ⟨S_, .f32⟩
  | 45 => ⟨S128, .f32⟩
  | 46 => ⟨S128, .f32⟩
  | 47 => ⟨S4x1, .f32⟩
  | 48 => ⟨S1x128, .f32⟩
  | 49 => ⟨S4x128, .f32⟩
  | 50 => ⟨S4x128, .f32⟩
  | 51 => ⟨S4x128, .f32⟩
  | 52 => ⟨S4x128, .f32⟩
  | 53 => ⟨S_, .f32⟩
  | 54 => ⟨S4, .f32⟩
  | 55 => ⟨S4, .f32⟩
  | 56 => ⟨S4, .f32⟩
  | 57 => ⟨S8x16x128x4x128, .f32⟩
  | 58 => ⟨S16x8x4x128x128, .f32⟩
  | 59 => ⟨S8x16x128x4x128, .f32⟩
  | 60 => ⟨S16x8x4x128x128, .f32⟩
  | 61 => ⟨S8x16x128x4x128, .f32⟩
  | 62 => ⟨S16x8x4x128x128, .f32⟩
  | 63 => ⟨S16x8x4x128x128, .f32⟩
  | 64 => ⟨S1x1x4x128x128, .f32⟩
  | 65 => ⟨S16x8x4x128x128, .f32⟩
  | 66 => ⟨S16x8x4x128x128, .f32⟩
  | 67 => ⟨S16x8x4x128x128, .f32⟩
  | 68 => ⟨S4x128x1, .f32⟩
  | 69 => ⟨S1x1x4x128x1, .f32⟩
  | 70 => ⟨S16x8x4x128x128, .f32⟩
  | 71 => ⟨S16x8x4x128x128, .f32⟩
  | 72 => ⟨S16x8x4x128x128, .f32⟩
  | 73 => ⟨S_, .f32⟩
  | 74 => ⟨S8x4x128x128, .f32⟩
  | 75 => ⟨S1x4x1x1, .f32⟩
  | 76 => ⟨S8x4x128x128, .f32⟩
  | 77 => ⟨S8x4x128x128, .f32⟩
  | 78 => ⟨S1x8x4x128x128, .f32⟩
  | 79 => ⟨S8x4x128x128, .f32⟩
  | 80 => ⟨S8x4x128x128, .f32⟩
  | 81 => ⟨S1x4x1x1, .f32⟩
  | 82 => ⟨S8x4x128x128, .f32⟩
  | 83 => ⟨S8x4x128x128, .f32⟩
  | 84 => ⟨S1x8x4x128x128, .f32⟩
  | 85 => ⟨S8x4x128x128, .f32⟩
  | 86 => ⟨S8x4x128x128, .f32⟩
  | 87 => ⟨S1x4x1x1, .f32⟩
  | 88 => ⟨S8x4x128x128, .f32⟩
  | 89 => ⟨S8x4x128x128, .f32⟩
  | 90 => ⟨S1x8x4x128x128, .f32⟩
  | 91 => ⟨S8x4x128x128, .f32⟩
  | 92 => ⟨S8x4x128x128, .f32⟩
  | 93 => ⟨S1x4x1x1, .f32⟩
  | 94 => ⟨S8x4x128x128, .f32⟩
  | 95 => ⟨S8x4x128x128, .f32⟩
  | 96 => ⟨S1x8x4x128x128, .f32⟩
  | 97 => ⟨S8x4x128x128, .f32⟩
  | 98 => ⟨S8x4x128x128, .f32⟩
  | 99 => ⟨S1x4x1x1, .f32⟩
  | 100 => ⟨S8x4x128x128, .f32⟩
  | 101 => ⟨S8x4x128x128, .f32⟩
  | 102 => ⟨S1x8x4x128x128, .f32⟩
  | 103 => ⟨S8x4x128x128, .f32⟩
  | 104 => ⟨S8x4x128x128, .f32⟩
  | 105 => ⟨S1x4x1x1, .f32⟩
  | 106 => ⟨S8x4x128x128, .f32⟩
  | 107 => ⟨S8x4x128x128, .f32⟩
  | 108 => ⟨S1x8x4x128x128, .f32⟩
  | 109 => ⟨S8x4x128x128, .f32⟩
  | 110 => ⟨S8x4x128x128, .f32⟩
  | 111 => ⟨S1x4x1x1, .f32⟩
  | 112 => ⟨S8x4x128x128, .f32⟩
  | 113 => ⟨S8x4x128x128, .f32⟩
  | 114 => ⟨S1x8x4x128x128, .f32⟩
  | 115 => ⟨S8x4x128x128, .f32⟩
  | 116 => ⟨S8x4x128x128, .f32⟩
  | 117 => ⟨S1x4x1x1, .f32⟩
  | 118 => ⟨S8x4x128x128, .f32⟩
  | 119 => ⟨S8x4x128x128, .f32⟩
  | 120 => ⟨S1x8x4x128x128, .f32⟩
  | 121 => ⟨S8x4x128x128, .f32⟩
  | 122 => ⟨S8x4x128x128, .f32⟩
  | 123 => ⟨S1x4x1x1, .f32⟩
  | 124 => ⟨S8x4x128x128, .f32⟩
  | 125 => ⟨S8x4x128x128, .f32⟩
  | 126 => ⟨S1x8x4x128x128, .f32⟩
  | 127 => ⟨S8x4x128x128, .f32⟩
  | _ => ⟨S8x2048x1024, .f32⟩

abbrev hbmTy0_2 (i : Nat) : BufTy := match i % 128 with
  | 0 => ⟨S8x4x128x128, .f32⟩
  | 1 => ⟨S1x4x1x1, .f32⟩
  | 2 => ⟨S8x4x128x128, .f32⟩
  | 3 => ⟨S8x4x128x128, .f32⟩
  | 4 => ⟨S1x8x4x128x128, .f32⟩
  | 5 => ⟨S8x4x128x128, .f32⟩
  | 6 => ⟨S8x4x128x128, .f32⟩
  | 7 => ⟨S1x4x1x1, .f32⟩
  | 8 => ⟨S8x4x128x128, .f32⟩
  | 9 => ⟨S8x4x128x128, .f32⟩
  | 10 => ⟨S1x8x4x128x128, .f32⟩
  | 11 => ⟨S8x4x128x128, .f32⟩
  | 12 => ⟨S8x4x128x128, .f32⟩
  | 13 => ⟨S1x4x1x1, .f32⟩
  | 14 => ⟨S8x4x128x128, .f32⟩
  | 15 => ⟨S8x4x128x128, .f32⟩
  | 16 => ⟨S1x8x4x128x128, .f32⟩
  | 17 => ⟨S8x4x128x128, .f32⟩
  | 18 => ⟨S8x4x128x128, .f32⟩
  | 19 => ⟨S1x4x1x1, .f32⟩
  | 20 => ⟨S8x4x128x128, .f32⟩
  | 21 => ⟨S8x4x128x128, .f32⟩
  | 22 => ⟨S1x8x4x128x128, .f32⟩
  | 23 => ⟨S8x4x128x128, .f32⟩
  | 24 => ⟨S8x4x128x128, .f32⟩
  | 25 => ⟨S1x4x1x1, .f32⟩
  | 26 => ⟨S8x4x128x128, .f32⟩
  | 27 => ⟨S8x4x128x128, .f32⟩
  | 28 => ⟨S1x8x4x128x128, .f32⟩
  | 29 => ⟨S8x4x128x128, .f32⟩
  | 30 => ⟨S8x4x128x128, .f32⟩
  | 31 => ⟨S1x4x1x1, .f32⟩
  | 32 => ⟨S8x4x128x128, .f32⟩
  | 33 => ⟨S8x4x128x128, .f32⟩
  | 34 => ⟨S1x8x4x128x128, .f32⟩
  | 35 => ⟨S8x4x128x128, .f32⟩
  | 36 => ⟨S8x4x128x128, .f32⟩
  | 37 => ⟨S1x4x1x1, .f32⟩
  | 38 => ⟨S8x4x128x128, .f32⟩
  | 39 => ⟨S8x4x128x128, .f32⟩
  | 40 => ⟨S1x8x4x128x128, .f32⟩
  | 41 => ⟨S8x4x128x128, .f32⟩
  | 42 => ⟨S8x4x128x128, .f32⟩
  | 43 => ⟨S1x8x4x128x128, .f32⟩
  | 44 => ⟨S1x8x4x128x128, .f32⟩
  | 45 => ⟨S1x8x4x128x128, .f32⟩
  | 46 => ⟨S1x8x4x128x128, .f32⟩
  | 47 => ⟨S1x8x4x128x128, .f32⟩
  | 48 => ⟨S1x8x4x128x128, .f32⟩
  | 49 => ⟨S1x8x4x128x128, .f32⟩
  | 50 => ⟨S1x8x4x128x128, .f32⟩
  | 51 => ⟨S1x8x4x128x128, .f32⟩
  | 52 => ⟨S1x8x4x128x128, .f32⟩
  | 53 => ⟨S1x8x4x128x128, .f32⟩
  | 54 => ⟨S1x8x4x128x128, .f32⟩
  | 55 => ⟨S1x8x4x128x128, .f32⟩
  | 56 => ⟨S1x8x4x128x128, .f32⟩
  | 57 => ⟨S1x8x4x128x128, .f32⟩
  | 58 => ⟨S1x8x4x128x128, .f32⟩
  | 59 => ⟨S16x8x4x128x128, .f32⟩
  | 60 => ⟨S16x8x4x128x128, .f32⟩
  | 61 => ⟨S4x128x1, .f32⟩
  | 62 => ⟨S1x1x4x128x1, .f32⟩
  | 63 => ⟨S16x8x4x128x128, .f32⟩
  | 64 => ⟨S16x8x4x128x128, .f32⟩
  | 65 => ⟨S16x8x4x128x128, .f32⟩
  | 66 => ⟨S8x16x128x4x128, .f32⟩
  | 67 => ⟨S8x2048x4x128, .f32⟩
  | 68 => ⟨S512, .f32⟩
  | 69 => ⟨S_, .f32⟩
  | 70 => ⟨S8x2048x4, .f32⟩
  | 71 => ⟨S8x2048x4x1, .f32⟩
  | 72 => ⟨S_, .f32⟩
  | 73 => ⟨S8x2048x4x1, .f32⟩
  | 74 => ⟨S8x2048x4x1, .f32⟩
  | 75 => ⟨S8x2048x4x128, .f32⟩
  | 76 => ⟨S8x2048x4x128, .f32⟩
  | 77 => ⟨S8x2048x4x128, .f32⟩
  | 78 => ⟨S_, .f32⟩
  | 79 => ⟨S8x2048x4, .f32⟩
  | 80 => ⟨S8x2048x4x1, .f32⟩
  | 81 => ⟨S_, .f32⟩
  | 82 => ⟨S8x2048x4x1, .f32⟩
  | 83 => ⟨S8x2048x4x1, .f32⟩
  | 84 => ⟨S8x2048x4x128, .f32⟩
  | 85 => ⟨S8x2048x4x128, .f32⟩
  | 86 => ⟨S_, .f32⟩
  | 87 => ⟨S8x2048x4x1, .f32⟩
  | 88 => ⟨S8x2048x4x1, .f32⟩
  | 89 => ⟨S8x2048x4x1, .f32⟩
  | 90 => ⟨S8x2048x4x128, .f32⟩
  | 91 => ⟨S8x2048x4x128, .f32⟩
  | 92 => ⟨S8x2048x512, .f32⟩
  | 93 => ⟨S1x1x512, .f32⟩
  | 94 => ⟨S8x2048x512, .f32⟩
  | 95 => ⟨S8x2048x512, .f32⟩
  | 96 => ⟨S8x2048x512, .f32⟩
  | 97 => ⟨S8x2048x512, .f32⟩
  | 98 => ⟨S_, .f32⟩
  | 99 => ⟨S8x2048x512, .f32⟩
  | 100 => ⟨S8x2048x512, .f32⟩
  | 101 => ⟨S_, .f32⟩
  | 102 => ⟨S8x2048x512, .f32⟩
  | 103 => ⟨S8x2048x512, .f32⟩
  | 104 => ⟨S8x2048x512, .f32⟩
  | 105 => ⟨S8x2048x512, .f32⟩
  | 106 => ⟨S8x2048x1024, .f32⟩
  | 107 => ⟨S8x2048x1024, .f32⟩
  | 108 => ⟨S_, .f32⟩
  | 109 => ⟨S8x2048x1024, .f32⟩
  | 110 => ⟨S8x2048x1024, .f32⟩
  | 111 => ⟨S_, .f32⟩
  | 112 => ⟨S8x2048x1024, .f32⟩
  | 113 => ⟨S8x2048x1024, .f32⟩
  | 114 => ⟨S512x1024, .f32⟩
  | 115 => ⟨S8x2048x1024, .f32⟩
  | 116 => ⟨S8x2048x1024, .f32⟩
  | 117 => ⟨S8x2048x1024, .f32⟩
  | 118 => ⟨S8x2048x1024, .f32⟩
  | 119 => ⟨S_, .f32⟩
  | 120 => ⟨S8x2048x1024, .f32⟩
  | 121 => ⟨S8x2048x1024, .f32⟩
  | 122 => ⟨S_, .f32⟩
  | 123 => ⟨S8x2048x1024, .f32⟩
  | 124 => ⟨S8x2048x1024, .f32⟩
  | 125 => ⟨S512x1024, .f32⟩
  | 126 => ⟨S8x2048x1024, .f32⟩
  | 127 => ⟨S8x2048x1024, .f32⟩
  | _ => ⟨S8x2048x1024, .f32⟩

abbrev hbmTy0_3 (i : Nat) : BufTy := match i % 128 with
  | 0 => ⟨S8x2048x1024, .f32⟩
  | 1 => ⟨S_, .f32⟩
  | 2 => ⟨S8x2048x1024, .f32⟩
  | 3 => ⟨S8x2048x1024, .f32⟩
  | 4 => ⟨S1024x1024, .f32⟩
  | 5 => ⟨S8x2048x1024, .f32⟩
  | 6 => ⟨S8x2048x1024, .f32⟩
  | 7 => ⟨S1024, .f32⟩
  | 8 => ⟨S1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S8x2048x1024, .f32⟩
  | 16 => ⟨S8x2048x1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S8x2048x1024, .f32⟩
  | 25 => ⟨S8x2048x1024, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S8x2048x1024, .bf16⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_2 : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_14 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_cst_16 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_17 : Ref sig .tc := ⟨.hbm, 146, rfl⟩
abbrev main_v113 : Ref sig .tc := ⟨.hbm, 147, rfl⟩
abbrev main_v114 : Ref sig .tc := ⟨.hbm, 148, rfl⟩
abbrev main_cst_18 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_19 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_v123 : Ref sig .tc := ⟨.hbm, 162, rfl⟩
abbrev main_cst_20 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_21 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_22 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_23 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_cst_24 : Ref sig .tc := ⟨.hbm, 325, rfl⟩
abbrev main_v282 : Ref sig .tc := ⟨.hbm, 326, rfl⟩
abbrev main_v283 : Ref sig .tc := ⟨.hbm, 327, rfl⟩
abbrev main_cst_25 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_cst_26 : Ref sig .tc := ⟨.hbm, 334, rfl⟩
abbrev main_v289 : Ref sig .tc := ⟨.hbm, 335, rfl⟩
abbrev main_v290 : Ref sig .tc := ⟨.hbm, 336, rfl⟩
abbrev main_cst_27 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_cst_28 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_call4_v0 : Ref sig .tc := ⟨.hbm, 352, rfl⟩
abbrev main_call4_v1 : Ref sig .tc := ⟨.hbm, 353, rfl⟩
abbrev main_call4_cst : Ref sig .tc := ⟨.hbm, 354, rfl⟩
abbrev main_call4_v2 : Ref sig .tc := ⟨.hbm, 355, rfl⟩
abbrev main_call4_v3 : Ref sig .tc := ⟨.hbm, 356, rfl⟩
abbrev main_call4_cst_0 : Ref sig .tc := ⟨.hbm, 357, rfl⟩
abbrev main_call4_v4 : Ref sig .tc := ⟨.hbm, 358, rfl⟩
abbrev main_call4_v5 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_cst_29 : Ref sig .tc := ⟨.hbm, 364, rfl⟩
abbrev main_v308 : Ref sig .tc := ⟨.hbm, 365, rfl⟩
abbrev main_v309 : Ref sig .tc := ⟨.hbm, 366, rfl⟩
abbrev main_cst_30 : Ref sig .tc := ⟨.hbm, 367, rfl⟩
abbrev main_v310 : Ref sig .tc := ⟨.hbm, 368, rfl⟩
abbrev main_v311 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_cst_31 : Ref sig .tc := ⟨.hbm, 375, rfl⟩
abbrev main_v317 : Ref sig .tc := ⟨.hbm, 376, rfl⟩
abbrev main_v318 : Ref sig .tc := ⟨.hbm, 377, rfl⟩
abbrev main_cst_32 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_cst_33 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_v331 : Ref sig .tc := ⟨.hbm, 392, rfl⟩
abbrev main_cst_34 : Ref sig .tc := ⟨.hbm, 393, rfl⟩
abbrev main_v332 : Ref sig .tc := ⟨.hbm, 394, rfl⟩
abbrev main_v333 : Ref sig .tc := ⟨.hbm, 395, rfl⟩
abbrev main_cst_35 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_cst_36 : Ref sig .tc := ⟨.hbm, 402, rfl⟩
abbrev main_v339 : Ref sig .tc := ⟨.hbm, 403, rfl⟩
abbrev main_v340 : Ref sig .tc := ⟨.hbm, 404, rfl⟩
abbrev main_cst_37 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_cst_38 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_v349 : Ref sig .tc := ⟨.hbm, 415, rfl⟩
abbrev main_v350 : Ref sig .tc := ⟨.hbm, 416, rfl⟩
abbrev main_v351 : Ref sig .tc := ⟨.hbm, 417, rfl⟩
abbrev main_v352 : Ref sig .tc := ⟨.hbm, 418, rfl⟩
abbrev main_v353 : Ref sig .tc := ⟨.hbm, 419, rfl⟩
abbrev main_v354 : Ref sig .tc := ⟨.hbm, 420, rfl⟩
abbrev main_v355 : Ref sig .tc := ⟨.hbm, 421, rfl⟩
abbrev main_v356 : Ref sig .tc := ⟨.hbm, 422, rfl⟩

abbrev nD : Nat := 1
abbrev τ : Topo := Topo.v7x

variable {F : FTy → Type} [FloatOps F]
-- ==== PackDown.lean ====
abbrev S1x16384x1024 : Shape := ⟨3, ![1, 16384, 1024]⟩
abbrev S16384x1024 : Shape := ⟨2, ![16384, 1024]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S8192x1024, .i32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackDownRef.lean ====
abbrev S1x16384x1024 : Shape := ⟨3, ![1, 16384, 1024]⟩
abbrev S16384x1024 : Shape := ⟨2, ![16384, 1024]⟩
abbrev S8192x1024 : Shape := ⟨2, ![8192, 1024]⟩
abbrev S8192x1024x1 : Shape := ⟨3, ![8192, 1024, 1]⟩
abbrev S8192x1024x2 : Shape := ⟨3, ![8192, 1024, 2]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S16384x1024, .bf16⟩
  | .hbm, ⟨3, _⟩ => ⟨S8192x1024, .bf16⟩
  | .hbm, ⟨4, _⟩ => ⟨S8192x1024, .bf16⟩
  | .hbm, ⟨5, _⟩ => ⟨S8192x1024x1, .bf16⟩
  | .hbm, ⟨6, _⟩ => ⟨S8192x1024x1, .bf16⟩
  | .hbm, ⟨7, _⟩ => ⟨S8192x1024x2, .bf16⟩
  | .hbm, ⟨8, _⟩ => ⟨S8192x1024, .i32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [BitOps F]
-- ==== PackUp.lean ====
abbrev S1x16384x1024 : Shape := ⟨3, ![1, 16384, 1024]⟩
abbrev S16384x1024 : Shape := ⟨2, ![16384, 1024]⟩
abbrev S512x16384 : Shape := ⟨2, ![512, 16384]⟩
abbrev S1024x1024 : Shape := ⟨2, ![1024, 1024]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S512x16384, .i32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackUpRef.lean ====
abbrev S1x16384x1024 : Shape := ⟨3, ![1, 16384, 1024]⟩
abbrev S16384x1024 : Shape := ⟨2, ![16384, 1024]⟩
abbrev S16384x512 : Shape := ⟨2, ![16384, 512]⟩
abbrev S512x16384 : Shape := ⟨2, ![512, 16384]⟩
abbrev S512x16384x1 : Shape := ⟨3, ![512, 16384, 1]⟩
abbrev S512x16384x2 : Shape := ⟨3, ![512, 16384, 2]⟩

abbrev nBuf : Space → Nat
  | .hbm => 11
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S16384x1024, .bf16⟩
  | .hbm, ⟨3, _⟩ => ⟨S16384x512, .bf16⟩
  | .hbm, ⟨4, _⟩ => ⟨S512x16384, .bf16⟩
  | .hbm, ⟨5, _⟩ => ⟨S16384x512, .bf16⟩
  | .hbm, ⟨6, _⟩ => ⟨S512x16384, .bf16⟩
  | .hbm, ⟨7, _⟩ => ⟨S512x16384x1, .bf16⟩
  | .hbm, ⟨8, _⟩ => ⟨S512x16384x1, .bf16⟩
  | .hbm, ⟨9, _⟩ => ⟨S512x16384x2, .bf16⟩
  | .hbm, ⟨10, _⟩ => ⟨S512x16384, .i32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩

abbrev nD : Nat := 1
abbrev τ : Topo := Topo.v7x

variable {F : FTy → Type} [BitOps F]
-- ==== Proof.Softmax.lean ====
/-
  Attention for one query, in two orders. The kernel forms the sum of the weighted values and divides it once by the
  denominator; the reference divides every weight and then sums. On the extended reals the two agree as soon as the
  denominator is neither zero nor infinite, which holds when no score is plus infinity, the sink logit is finite, or
  some score is finite.
-/
module

public import Idealize.ShloMosaic.PureOps.Ideal
public import Mathlib.Data.EReal.Inv

@[expose] public section

noncomputable section

namespace Cert.Mixer

open Idealize.ShloMosaic
open scoped BigOperators

/-- The largest of the scores and the sink logit. -/
def top {n : ℕ} (s : Fin n → EReal) (z : EReal) : EReal := max (Finset.univ.sup s) z

/-- The softmax denominator: the exponentials of the scores and of the sink logit, shifted by the largest. -/
def denom {n : ℕ} (s : Fin n → EReal) (z : EReal) : EReal :=
  ∑ j, Ideal.exp (s j - top s z) + Ideal.exp (z - top s z)

/-- Attention as the kernel computes it: the weighted sum divided by the denominator. -/
def attend {n : ℕ} (s : Fin n → EReal) (z : EReal) (v : Fin n → EReal) : EReal :=
  Ideal.div (∑ j, Ideal.exp (s j - top s z) * v j) (denom s z)

/-- Attention as the reference computes it: the sum over the normalised weights. -/
def attendNorm {n : ℕ} (s : Fin n → EReal) (z : EReal) (v : Fin n → EReal) : EReal :=
  ∑ j, Ideal.div (Ideal.exp (s j - top s z)) (denom s z) * v j

theorem exp_nonneg (x : EReal) : 0 ≤ Ideal.exp x := by
  induction x with
  | bot => exact le_refl _
  | top => exact le_top
  | coe r => exact EReal.coe_nonneg.2 (Real.exp_pos r).le

/-- A product by a finite nonnegative factor distributes over a finite sum. -/
theorem sum_mul_of_finite {ι : Type*} (t : Finset ι) (f : ι → EReal) (c : EReal) (h0 : 0 ≤ c) (ht : c ≠ ⊤) :
    (∑ j ∈ t, f j) * c = ∑ j ∈ t, f j * c := by
  classical
  induction t using Finset.induction_on with
  | empty => simp
  | insert a t ha ih =>
    rw [Finset.sum_insert ha, Finset.sum_insert ha, EReal.right_distrib_of_nonneg_of_ne_top h0 ht, ih]

theorem inv_ne_top (d : EReal) : d⁻¹ ≠ ⊤ := by
  induction d with
  | bot => simp
  | top => simp
  | coe r => rw [← EReal.coe_inv]; exact EReal.coe_ne_top _

/-- The two orders agree when the denominator is positive. -/
theorem attend_eq_of_pos {n : ℕ} (s : Fin n → EReal) (z : EReal) (v : Fin n → EReal) (h : 0 < denom s z) :
    attend s z v = attendNorm s z v := by
  have hne : denom s z ≠ 0 := h.ne'
  unfold attend attendNorm Ideal.div
  simp only [if_neg hne]
  rw [sum_mul_of_finite _ _ _ (EReal.inv_nonneg_of_nonneg h.le) (inv_ne_top _)]
  refine Finset.sum_congr rfl fun j _ => ?_
  rw [mul_assoc, mul_comm (v j), ← mul_assoc]

/-- The denominator is positive when no score is plus infinity and the sink logit is finite. -/
theorem denom_pos {n : ℕ} (s : Fin n → EReal) (z : EReal) (hs : ∀ j, s j ≠ ⊤) (hz : z ≠ ⊤) (hz' : z ≠ ⊥) :
    0 < denom s z := by
  have htop : top s z ≠ ⊤ := by
    have h1 : Finset.univ.sup s < ⊤ := by
      rw [Finset.sup_lt_iff (bot_lt_top)]
      intro j _; exact lt_top_iff_ne_top.2 (hs j)
    exact (max_lt h1 (lt_top_iff_ne_top.2 hz)).ne
  have hbot : top s z ≠ ⊥ := fun h => hz' (le_bot_iff.1 (h ▸ le_max_right _ _))
  have hpos : 0 < Ideal.exp (z - top s z) := by
    lift z to ℝ using ⟨hz, hz'⟩
    generalize top s (z : EReal) = m at *
    lift m to ℝ using ⟨htop, hbot⟩
    rw [← EReal.coe_sub]
    exact EReal.coe_pos.2 (Real.exp_pos _)
  exact lt_of_lt_of_le hpos (le_add_of_nonneg_left (Finset.sum_nonneg fun j _ => exp_nonneg _))

theorem attend_eq {n : ℕ} (s : Fin n → EReal) (z : EReal) (v : Fin n → EReal) (hs : ∀ j, s j ≠ ⊤) (hz : z ≠ ⊤)
    (hz' : z ≠ ⊥) : attend s z v = attendNorm s z v :=
  attend_eq_of_pos s z v (denom_pos s z hs hz hz')

end Cert.Mixer

end
-- ==== Proof.AttnTile.lean ====
module

public import proofs.«01_k».proof.Proof.Gen.KernelIdeal.Skeleton
public import proofs.«01_k».proof.Proof.Softmax
public import Idealize.ShloMosaic.Lib.Pointwise
public import Idealize.ShloMosaic.Lib.Pipeline.ValueKit

/-!
One tile of the attention: 128 queries of one head against the 256 keys of their band.
The body computes 32 of them (4 chunks of 128 tokens, 8 heads), all by the same two steps: the
scores, and the softmax with a sink applied to the values.
-/

@[expose] public section

noncomputable section

namespace Cert.Mixer

open Idealize.ShloMosaic Cert.KernelIdeal Cert.KernelIdeal.Gen

set_option maxRecDepth 16384

section General
variable {F : FTy → Type} [FloatOps F]

/-- The scores of a tile: queries times keys, plus the positional bias of the head. -/
def scoreTile (q : FVec F S128x64 .bf16) (k : FVec F S256x64 .bf16) (b : Vec F S1x128x256 .f32) : FVec F S128x256 .f32 :=
  addf (matmul dot_S128x64_S256x64_S128x256_1_1_0_0_n_n none q k (constant S128x256 .f32 0x00000000#32))
    (shapeCast S128x256 b shapeCasts_S1x128x256_S128x256)

/-- The scores of a tile of the first chunk of a block, where a mask hides the band's first half. -/
def maskTile (i : grid0.Coords) (s : FVec F S128x256 .f32) : FVec F S128x256 .f32 :=
  select (k0_pay12 i) s (broadcast S128x256 (Scalar.ofBits .f32 0xFF800000#32))

/-- The row maxima of the scores and the sink. -/
def topTile (s : FVec F S128x256 .f32) (z : Elt F .f32) : FVec F S128x1 .f32 :=
  maximumf (shapeCast S128x1 (multiReduction .maximumf [1] S128 s 0xFF800000#32 reduces_S128x256_S128 (.inl rfl) rfl)
    shapeCasts_S128_S128x1) (broadcast S128x1 z)

/-- The weights before they are divided. -/
def expTile (s : FVec F S128x256 .f32) (z : Elt F .f32) : FVec F S128x256 .f32 :=
  exp (subf s (broadcastTo S128x256 (topTile s z) broadcasts_S128x1_S128x256))

/-- The denominators. -/
def denomTile (s : FVec F S128x256 .f32) (z : Elt F .f32) : FVec F S128x1 .f32 :=
  addf (shapeCast S128x1 (multiReduction .add [1] S128 (expTile s z) 0x00000000#32 reduces_S128x256_S128 (.inl rfl) rfl)
    shapeCasts_S128_S128x1) (exp (subf (broadcast S128x1 z) (topTile s z)))

/-- The softmax of a tile's scores with a sink, applied to the values. -/
def softTile (s : FVec F S128x256 .f32) (v : FVec F S256x64 .bf16) (z : Elt F .f32) : FVec F S128x64 .f32 :=
  shapeCast S128x64 (divf (matmul dot_S128x256_S256x64_S128x64_1_0_0_1_n_n none (truncf .bf16 (expTile s z) bitsLt_bf16_f32) v
      (constant S128x64 .f32 0x00000000#32))
    (broadcastTo S128x64 (denomTile s z) broadcasts_S128x1_S128x64)) shapeCasts_S128x64_S128x64

end General

/-- The word of minus infinity. -/
theorem ofBits_negInf : Ideal.ofBits .f32 0xFF800000#32 = ⊥ := by
  show Ideal.ieee 8 23 0xFF800000#32 = ⊥
  simp [Ideal.ieee]

theorem scoreTile_apply (q : FVec Ideal S128x64 .bf16) (k : FVec Ideal S256x64 .bf16) (b : Vec Ideal S1x128x256 .f32)
    (i : Fin 128) (j : Fin 256) :
    scoreTile (F := Ideal) q k b (ix2 i j) = (∑ e : Fin 64, q (ix2 i e) * k (ix2 j e)) + b (ix3 0 i j) := by
  pointwise [scoreTile]

theorem topTile_apply (s : FVec Ideal S128x256 .f32) (z : EReal) (i : Fin 128) (o : Fin 1) :
    topTile (F := Ideal) s z (ix2 i o) = top (fun j : Fin 256 => s (ix2 i j)) z := by
  pointwise [topTile]
  rw [ofBits_negInf]; rfl

theorem expTile_apply (s : FVec Ideal S128x256 .f32) (z : EReal) (i : Fin 128) (j : Fin 256) :
    expTile (F := Ideal) s z (ix2 i j) = Ideal.exp (s (ix2 i j) - top (fun j : Fin 256 => s (ix2 i j)) z) := by
  rw [← topTile_apply s z i 0]
  pointwise [expTile]

theorem denomTile_apply (s : FVec Ideal S128x256 .f32) (z : EReal) (i : Fin 128) (o : Fin 1) :
    denomTile (F := Ideal) s z (ix2 i o) = denom (fun j : Fin 256 => s (ix2 i j)) z := by
  pointwise [denomTile]
  simp only [expTile_apply, topTile_apply]; rfl

theorem softTile_apply (s : FVec Ideal S128x256 .f32) (v : FVec Ideal S256x64 .bf16) (z : EReal) (i : Fin 128) (d : Fin 64) :
    softTile (F := Ideal) s v z (ix2 i d) = attend (fun j : Fin 256 => s (ix2 i j)) z (fun j => v (ix2 j d)) := by
  simp only [attend, ← expTile_apply, ← denomTile_apply s z i 0]
  pointwise [softTile]

end Cert.Mixer
-- ==== Proof.AttnBlock.lean ====
/-
  The attention of one block of 512 tokens: the 32 tiles the body stores, as one family, and what the buffer they
  fill holds at a row and a column.
-/
module

public import proofs.«01_k».proof.Proof.AttnTile

@[expose] public section

noncomputable section

namespace Cert.Mixer

open Idealize.ShloMosaic Cert.KernelIdeal Cert.KernelIdeal.Gen

set_option maxRecDepth 16384

/-- The chunk of the tile stored as number `31 - n`. -/
abbrev chunkOf (n : Fin 32) : Fin 4 := ⟨3 - n.val / 8, by omega⟩

/-- The head of the tile stored as number `31 - n`. -/
abbrev headOf (n : Fin 32) : Fin 8 := ⟨7 - n.val % 8, by omega⟩

theorem attn_inb : ∀ (n : Fin 32) (a : Fin 2),
    (![128 * (chunkOf n).val, 64 * (headOf n).val] : Fin 2 → ℕ) a + S128x64.size a ≤ S512x512.size a := by decide

theorem q_slices : ∀ (c : Fin 4) (h : Fin 8), S512x512.Slices ![128 * c.val, 64 * h.val] S128x64 := by decide

theorem kv_slices : ∀ h : Fin 8, S256x128.Slices ![0, 64 * (h.val / 4)] S256x64 := by decide

section General
variable {F : FTy → Type} [FloatOps F]

/-- The scores of the tile of a chunk and a head. -/
def scoresOf (i : grid0.Coords) (c : Fin 4) (h : Fin 8) (q : FVec F S512x512 .bf16) (k : Vec F S256x128 .bf16)
    (b : Vec F S1x128x256 .f32) : FVec F S128x256 .f32 :=
  if c.val = 0 then maskTile i (scoreTile (extractStridedSlice S128x64 ![128 * c.val, 64 * h.val] q (q_slices c h))
      (extractStridedSlice S256x64 ![0, 64 * (h.val / 4)] k (kv_slices h)) b)
  else scoreTile (extractStridedSlice S128x64 ![128 * c.val, 64 * h.val] q (q_slices c h))
      (extractStridedSlice S256x64 ![0, 64 * (h.val / 4)] k (kv_slices h)) b

/-- The tile of a chunk and a head. -/
def attnTile (i : grid0.Coords) (c : Fin 4) (h : Fin 8) (q : FVec F S512x512 .bf16) (k v : Vec F S256x128 .bf16)
    (b : Vec F S1x128x256 .f32) (z : Elt F .f32) : FVec F S128x64 .f32 :=
  softTile (scoresOf i c h q k b) (extractStridedSlice S256x64 ![0, 64 * (h.val / 4)] v (kv_slices h)) z

/-- The tiles of a block, the last stored first. -/
def attnPieces (i : grid0.Coords) (q : FVec F S512x512 .bf16) (k v : Fin 4 → Vec F S256x128 .bf16)
    (b : Fin 8 → Vec F S1x128x256 .f32) (z : Fin 8 → Elt F .f32) : List (View.Piece (Elt F) S512x512 .f32) :=
  List.ofFn fun n : Fin 32 => ⟨Rect.unit ![128 * (chunkOf n).val, 64 * (headOf n).val] S128x64.size (attn_inb n),
    attnTile i (chunkOf n) (headOf n) q (k (chunkOf n)) (v (chunkOf n)) (b (headOf n)) (z (headOf n))⟩

end General

/-- The two comparisons of the mask, over all blocks of a sequence and all keys of a band. -/
theorem mask_bits : ∀ (s : Fin 4) (j : Fin 256),
    IntOp.ori (IntOp.cmpi CmpIPredicate.sge (BitVec.ofNat 32 j.val) 128#32)
      (Scalar.cmpi CmpIPredicate.sgt (BitVec.ofNat 32 s.val) 0#32) =
    if s.val ≠ 0 ∨ 128 ≤ j.val then 1#1 else 0#1 := by
  decide +kernel

/-- The mask of a block hides the first half of the band exactly in the first block of a sequence. -/
theorem mask_apply (i : grid0.Coords) (a : Fin 128) (j : Fin 256) :
    k0_pay12 i (ix2 a j) = if (i 1).val ≠ 0 ∨ 128 ≤ j.val then 1#1 else 0#1 := by
  have h4 : (i 1).val < 4 := (i 1).isLt
  pointwise [k0_pay12]
  clear a
  generalize (i 1).val = s at h4 ⊢
  exact mask_bits ⟨s, h4⟩ j

/-- The score of query `a` of a tile with key `j` of its band. -/
def scoreAt (s : ℕ) (c : Fin 4) (q : Fin 64 → EReal) (k : Fin 256 → Fin 64 → EReal) (b : Fin 256 → EReal) (j : Fin 256) :
    EReal :=
  if c.val = 0 ∧ s = 0 ∧ j.val < 128 then ⊥ else (∑ e : Fin 64, q e * k j e) + b j

theorem scoresOf_apply (i : grid0.Coords) (c : Fin 4) (h : Fin 8) (q : FVec Ideal S512x512 .bf16)
    (k : Vec Ideal S256x128 .bf16) (b : Vec Ideal S1x128x256 .f32) (a : Fin 128) (j : Fin 256) :
    scoresOf (F := Ideal) i c h q k b (ix2 a j) =
      scoreAt (i 1).val c (fun e => q (ix2 ⟨128 * c.val + a.val, by omega⟩ ⟨64 * h.val + e.val, by omega⟩))
        (fun j e => k (ix2 j ⟨64 * (h.val / 4) + e.val, by omega⟩)) (fun j => b (ix3 0 a j)) j := by
  have key : scoreTile (F := Ideal) (extractStridedSlice S128x64 ![128 * c.val, 64 * h.val] q (q_slices c h))
      (extractStridedSlice S256x64 ![0, 64 * (h.val / 4)] k (kv_slices h)) b (ix2 a j) =
      (∑ e : Fin 64, q (ix2 ⟨128 * c.val + a.val, by omega⟩ ⟨64 * h.val + e.val, by omega⟩)
        * k (ix2 j ⟨64 * (h.val / 4) + e.val, by omega⟩)) + b (ix3 0 a j) := by
    rw [scoreTile_apply]
    congr 1
    refine Finset.sum_congr rfl fun e _ => ?_
    congr 1
    · refine extractStridedSlice_apply _ _ _ _ _ fun x => ?_
      match x with
      | ⟨0, _⟩ => rfl
      | ⟨1, _⟩ => rfl
    · refine extractStridedSlice_apply _ _ _ _ _ fun x => ?_
      match x with
      | ⟨0, _⟩ => show j.val = 0 + j.val; omega
      | ⟨1, _⟩ => rfl
  unfold scoresOf scoreAt
  by_cases hc : c.val = 0
  · rw [if_pos hc]
    show (if k0_pay12 i (ix2 a j) = 1#1 then _ else Ideal.ofBits .f32 0xFF800000#32) = _
    rw [mask_apply, key, ofBits_negInf]
    by_cases h1 : (i 1).val ≠ 0 ∨ 128 ≤ j.val
    · rw [if_pos h1, if_pos rfl, if_neg (by omega)]
    · rw [if_neg h1, if_neg (by decide), if_pos (by omega)]
  · rw [if_neg hc, key, if_neg (by tauto)]

theorem attnTile_apply (i : grid0.Coords) (c : Fin 4) (h : Fin 8) (q : FVec Ideal S512x512 .bf16)
    (k v : Vec Ideal S256x128 .bf16) (b : Vec Ideal S1x128x256 .f32) (z : EReal) (a : Fin 128) (d : Fin 64) :
    attnTile (F := Ideal) i c h q k v b z (ix2 a d) =
      attend (scoreAt (i 1).val c (fun e => q (ix2 ⟨128 * c.val + a.val, by omega⟩ ⟨64 * h.val + e.val, by omega⟩))
        (fun j e => k (ix2 j ⟨64 * (h.val / 4) + e.val, by omega⟩)) (fun j => b (ix3 0 a j))) z
        (fun j => v (ix2 j ⟨64 * (h.val / 4) + d.val, by omega⟩)) := by
  unfold attnTile
  rw [softTile_apply]
  congr 1
  · funext j; exact scoresOf_apply i c h q k b a j
  · funext j
    refine extractStridedSlice_apply _ _ _ _ _ fun x => ?_
    match x with
    | ⟨0, _⟩ => show j.val = 0 + j.val; omega
    | ⟨1, _⟩ => rfl

/-- What the attention's buffer holds at row `128 * c + a` and column `64 * h + d`. -/
theorem attnPieces_apply (i : grid0.Coords) (q : FVec Ideal S512x512 .bf16) (k v : Fin 4 → Vec Ideal S256x128 .bf16)
    (b : Fin 8 → Vec Ideal S1x128x256 .f32) (z : Fin 8 → EReal) (c : Fin 4) (h : Fin 8) (a : Fin 128) (d : Fin 64) :
    View.canon (attnPieces (F := Ideal) i q k v b z) (ix2 ⟨128 * c.val + a.val, by omega⟩ ⟨64 * h.val + d.val, by omega⟩) =
      attend (scoreAt (i 1).val c (fun e => q (ix2 ⟨128 * c.val + a.val, by omega⟩ ⟨64 * h.val + e.val, by omega⟩))
        (fun j e => k c (ix2 j ⟨64 * (h.val / 4) + e.val, by omega⟩)) (fun j => b h (ix3 0 a j))) (z h)
        (fun j => v c (ix2 j ⟨64 * (h.val / 4) + d.val, by omega⟩)) := by
  rw [← attnTile_apply]
  refine View.canon_ofFn_unit_eq_of_forall _ _ _ _ _ _ ⟨⟨8 * (3 - c.val) + (7 - h.val), by omega⟩, fun x => ?_⟩ fun n x hx => ?_
  · match x with
    | ⟨0, _⟩ =>
      show 128 * (3 - (8 * (3 - c.val) + (7 - h.val)) / 8) ≤ 128 * c.val + a.val ∧
        128 * c.val + a.val < 128 * (3 - (8 * (3 - c.val) + (7 - h.val)) / 8) + 128
      omega
    | ⟨1, _⟩ =>
      show 64 * (7 - (8 * (3 - c.val) + (7 - h.val)) % 8) ≤ 64 * h.val + d.val ∧
        64 * h.val + d.val < 64 * (7 - (8 * (3 - c.val) + (7 - h.val)) % 8) + 64
      omega
  · have h0 : 128 * c.val + a.val = 128 * (3 - n.val / 8) + (x 0).val := hx 0
    have h1 : 64 * h.val + d.val = 64 * (7 - n.val % 8) + (x 1).val := hx 1
    have l0 : (x 0).val < 128 := (x 0).isLt
    have l1 : (x 1).val < 64 := (x 1).isLt
    have hc : chunkOf n = c := Fin.ext (by show 3 - n.val / 8 = c.val; omega)
    have hh : headOf n = h := Fin.ext (by show 7 - n.val % 8 = h.val; omega)
    have hxe : x = ix2 a d := by
      funext y
      match y with
      | ⟨0, _⟩ => exact Fin.ext (by show (x 0).val = a.val; omega)
      | ⟨1, _⟩ => exact Fin.ext (by show (x 1).val = d.val; omega)
    rw [hc, hh, hxe]

end Cert.Mixer
-- ==== Proof.Spec.lean ====
/-
  The mixer's arithmetic on plain functions: layer normalisation of a row, the group normalisation of a retention
  head with its gain and gate, and the retention of one chunk. Both programs are read to these functions.
-/
module

public import proofs.«01_k».proof.Proof.Softmax

@[expose] public section

noncomputable section

namespace Cert.Mixer

open Idealize.ShloMosaic
open scoped BigOperators

/-- The mean of a row, with the row's length as the program's constant. -/
def mean {n : ℕ} (len : EReal) (y : Fin n → EReal) : EReal := Ideal.div (∑ d, y d) len

/-- The variance of a row. -/
def var {n : ℕ} (len : EReal) (y : Fin n → EReal) : EReal :=
  Ideal.div (∑ d, (y d - mean len y) * (y d - mean len y)) len

/-- An entry of the row, shifted by the mean and divided by the standard deviation. -/
def unitNorm {n : ℕ} (len : EReal) (y : Fin n → EReal) (d : Fin n) : EReal :=
  (y d - mean len y) * Ideal.rsqrt (var len y + Ideal.ofBits .f32 0x3727C5AC#32)

/-- The length of a retention head's row. -/
abbrev len128 : EReal := Ideal.ofBits .f32 0x43000000#32

/-- The length of a token's row. -/
abbrev len1024 : EReal := Ideal.ofBits .f32 0x44800000#32

/-- A retention head's entry: normalised, scaled by its gain, gated by the swish of `g`. -/
def headNorm (y : Fin 128 → EReal) (gain g : EReal) (d : Fin 128) : EReal :=
  unitNorm len128 y d * gain * (g * Ideal.logistic g)

/-- The layer normalisation of a token's row. -/
def layerNorm (z : Fin 1024 → EReal) (gain bias : EReal) (d : Fin 1024) : EReal :=
  unitNorm len1024 z d * gain + bias

/-- What a chunk adds to the retention state of a head: keys, decayed, times values. -/
def chunkAdd (k v kd : Fin 128 → Fin 128 → EReal) (d e : Fin 128) : EReal :=
  ∑ j, (k j d * kd j d) * v j e

/-- The retention of one chunk of a head: what the chunk's own keys give, and what the state before it gives. -/
def chunkOut (q k v dm : Fin 128 → Fin 128 → EReal) (qd : Fin 128 → Fin 128 → EReal) (s : Fin 128 → Fin 128 → EReal)
    (i e : Fin 128) : EReal :=
  (∑ j, ((∑ d, q i d * k j d) * dm i j) * v j e) + (∑ d, q i d * s d e) * qd i e

/-- The residual row before the layer normalisation, from the row of `x`, of the two branches and of the two gates. -/
def merge (a g : EReal) (b h : EReal) : EReal := Ideal.logistic g * a + Ideal.logistic h * b

end Cert.Mixer
-- ==== Proof.RetTile.lean ====
/-
  One tile of the retention: 128 tokens of one head. The body computes 16 of them (4 chunks, 4 heads), each by the
  same steps: the chunk's output from its own keys and from the state before it, the group normalisation with gain
  and gate, and the state after it.
-/
module

public import proofs.«01_k».proof.Proof.Gen.KernelIdeal.Skeleton
public import proofs.«01_k».proof.Proof.Spec
public import Idealize.ShloMosaic.Lib.Pointwise
public import Idealize.ShloMosaic.Lib.Pipeline.ValueKit

@[expose] public section

noncomputable section

namespace Cert.Mixer

open Idealize.ShloMosaic Cert.KernelIdeal Cert.KernelIdeal.Gen

set_option maxRecDepth 16384

section General
variable {F : FTy → Type} [FloatOps F]

/-- The state of a head after a chunk. -/
def stateTile (k : FVec F S128x128 .f32) (v : FVec F S128x128 .bf16) (s kd cd : Vec F S1x128x128 .f32) :
    FVec F S1x128x128 .f32 :=
  shapeCast S1x128x128 (addf (mulf (shapeCast S128x128 cd shapeCasts_S1x128x128_S128x128)
      (shapeCast S128x128 s shapeCasts_S1x128x128_S128x128))
    (matmul dot_S128x128_S128x128_S128x128_0_0_1_1_n_n none
      (truncf .bf16 (mulf k (shapeCast S128x128 kd shapeCasts_S1x128x128_S128x128)) bitsLt_bf16_f32) v
      (constant S128x128 .f32 0x00000000#32))) shapeCasts_S128x128_S1x128x128

/-- The output of a chunk before its normalisation. -/
def outTile (q : FVec F S128x128 .bf16) (k : FVec F S128x128 .f32) (v : FVec F S128x128 .bf16)
    (s dm qd : Vec F S1x128x128 .f32) : FVec F S128x128 .f32 :=
  addf (matmul dot_S128x128_S128x128_S128x128_1_0_0_1_n_n none
      (truncf .bf16 (mulf (matmul dot_S128x128_S128x128_S128x128_1_1_0_0_n_n none q (truncf .bf16 k bitsLt_bf16_f32)
          (constant S128x128 .f32 0x00000000#32)) (shapeCast S128x128 dm shapeCasts_S1x128x128_S128x128)) bitsLt_bf16_f32) v
      (constant S128x128 .f32 0x00000000#32))
    (mulf (matmul dot_S128x128_S128x128_S128x128_1_0_0_1_n_n none q
        (truncf .bf16 (shapeCast S128x128 s shapeCasts_S1x128x128_S128x128) bitsLt_bf16_f32)
        (constant S128x128 .f32 0x00000000#32)) (shapeCast S128x128 qd shapeCasts_S1x128x128_S128x128))

/-- The row means of a tile. -/
def meanTile (y : FVec F S128x128 .f32) : FVec F S128x1 .f32 :=
  divf (shapeCast S128x1 (multiReduction .add [1] S128 y 0x00000000#32 reduces_S128x128_S128 (.inl rfl) rfl)
    shapeCasts_S128_S128x1) (broadcast S128x1 (Scalar.ofBits .f32 0x43000000#32))

/-- A tile less its row means. -/
def centreTile (y : FVec F S128x128 .f32) : FVec F S128x128 .f32 :=
  subf y (broadcastTo S128x128 (meanTile y) broadcasts_S128x1_S128x128)

/-- The normalised tile, with the head's gain and the swish gate. -/
def normTile (y g : FVec F S128x128 .f32) (gn : Vec F S1x128 .f32) : FVec F S128x128 .f32 :=
  shapeCast S128x128 (mulf (mulf (mulf (centreTile y)
      (broadcastTo S128x128 (rsqrt (addf (meanTile (mulf (centreTile y) (centreTile y)))
        (broadcast S128x1 (Scalar.ofBits .f32 0x3727C5AC#32)))) broadcasts_S128x1_S128x128))
      (broadcastTo S128x128 (shapeCast S1x128 gn shapeCasts_S1x128_S1x128) broadcasts_S1x128_S128x128))
    (mulf g (logistic g))) shapeCasts_S128x128_S128x128

end General

theorem stateTile_apply (k : FVec Ideal S128x128 .f32) (v : FVec Ideal S128x128 .bf16) (s kd cd : Vec Ideal S1x128x128 .f32)
    (d e : Fin 128) :
    stateTile (F := Ideal) k v s kd cd (ix3 0 d e) = cd (ix3 0 d e) * s (ix3 0 d e)
      + chunkAdd (fun j d => k (ix2 j d)) (fun j e => v (ix2 j e)) (fun j d => kd (ix3 0 j d)) d e := by
  pointwise [stateTile]
  rfl

theorem outTile_apply (q : FVec Ideal S128x128 .bf16) (k : FVec Ideal S128x128 .f32) (v : FVec Ideal S128x128 .bf16)
    (s dm qd : Vec Ideal S1x128x128 .f32) (i e : Fin 128) :
    outTile (F := Ideal) q k v s dm qd (ix2 i e) = chunkOut (fun i d => q (ix2 i d)) (fun j d => k (ix2 j d))
      (fun j e => v (ix2 j e)) (fun i j => dm (ix3 0 i j)) (fun i e => qd (ix3 0 i e)) (fun d e => s (ix3 0 d e)) i e := by
  pointwise [outTile]
  rfl

theorem meanTile_apply (y : FVec Ideal S128x128 .f32) (i : Fin 128) (o : Fin 1) :
    meanTile (F := Ideal) y (ix2 i o) = mean len128 (fun d : Fin 128 => y (ix2 i d)) := by
  pointwise [meanTile]
  rfl

theorem centreTile_apply (y : FVec Ideal S128x128 .f32) (i d : Fin 128) :
    centreTile (F := Ideal) y (ix2 i d) = y (ix2 i d) - mean len128 (fun d : Fin 128 => y (ix2 i d)) := by
  rw [← meanTile_apply y i 0]
  pointwise [centreTile]

theorem normTile_apply (y g : FVec Ideal S128x128 .f32) (gn : Vec Ideal S1x128 .f32) (i d : Fin 128) :
    normTile (F := Ideal) y g gn (ix2 i d) = headNorm (fun d => y (ix2 i d)) (gn (ix2 0 d)) (g (ix2 i d)) d := by
  pointwise [normTile]
  simp only [meanTile_apply, centreTile_apply]
  pointwise []
  simp only [meanTile_apply, centreTile_apply]
  rfl

end Cert.Mixer
-- ==== Proof.RetBlock.lean ====
/-
  The retention of one block of 512 tokens: the 16 tiles the body stores, as one family, what the buffer they fill holds
  at a row and a column, and the states of the four heads, each stored over the one before.
-/
module

public import proofs.«01_k».proof.Proof.RetTile

@[expose] public section

noncomputable section

namespace Cert.Mixer

open Idealize.ShloMosaic Cert.KernelIdeal Cert.KernelIdeal.Gen

set_option maxRecDepth 16384

/-- The chunk of the tile stored as number `15 - n`. -/
abbrev rchunkOf (n : Fin 16) : Fin 4 := ⟨3 - n.val / 4, by omega⟩

/-- The head of the tile stored as number `15 - n`. -/
abbrev rheadOf (n : Fin 16) : Fin 4 := ⟨3 - n.val % 4, by omega⟩

theorem ret_inb : ∀ (n : Fin 16) (a : Fin 2),
    (![128 * (rchunkOf n).val, 128 * (rheadOf n).val] : Fin 2 → ℕ) a + S128x128.size a ≤ S512x512.size a := by decide

theorem ret_slices : ∀ (c h : Fin 4), S512x512.Slices ![128 * c.val, 128 * h.val] S128x128 := by decide

section General
variable {F : FTy → Type} [FloatOps F]

/-- The tile of a block's array that belongs to a chunk and a head. -/
def tileOf {α : Type} (c h : Fin 4) (q : S512x512.Idx → α) : S128x128.Idx → α :=
  extractStridedSlice S128x128 ![128 * c.val, 128 * h.val] q (ret_slices c h)

/-- The retention tile of a chunk and a head. -/
def retTile (c h : Fin 4) (q k : FVec F S512x512 .f32) (v : FVec F S512x512 .bf16) (g : FVec F S512x512 .f32)
    (s dm qd : Vec F S1x128x128 .f32) (gn : Vec F S1x128 .f32) : FVec F S128x128 .f32 :=
  normTile (outTile (truncf .bf16 (tileOf c h q) bitsLt_bf16_f32) (tileOf c h k) (tileOf c h v) s dm qd) (tileOf c h g) gn

/-- The state of a head after a chunk of the block. -/
def stepTile (c h : Fin 4) (k : FVec F S512x512 .f32) (v : FVec F S512x512 .bf16) (s kd cd : Vec F S1x128x128 .f32) :
    FVec F S1x128x128 .f32 :=
  stateTile (tileOf c h k) (tileOf c h v) s kd cd

/-- The tiles of a block, the last stored first. -/
def retPieces (q k : FVec F S512x512 .f32) (v : FVec F S512x512 .bf16) (g : FVec F S512x512 .f32)
    (s : Fin 4 → Fin 4 → Vec F S1x128x128 .f32) (dm qd : Fin 4 → Vec F S1x128x128 .f32) (gn : Fin 4 → Vec F S1x128 .f32) :
    List (View.Piece (Elt F) S512x512 .f32) :=
  List.ofFn fun n : Fin 16 => ⟨Rect.unit ![128 * (rchunkOf n).val, 128 * (rheadOf n).val] S128x128.size (ret_inb n),
    retTile (rchunkOf n) (rheadOf n) q k v g (s (rchunkOf n) (rheadOf n)) (dm (rheadOf n)) (qd (rheadOf n)) (gn (rheadOf n))⟩

end General

theorem tileOf_apply {α : Type} (c h : Fin 4) (q : S512x512.Idx → α) (a d : Fin 128) :
    tileOf c h q (ix2 a d) = q (ix2 ⟨128 * c.val + a.val, by omega⟩ ⟨128 * h.val + d.val, by omega⟩) := by
  refine extractStridedSlice_apply _ _ _ _ _ fun x => ?_
  match x with
  | ⟨0, _⟩ => rfl
  | ⟨1, _⟩ => rfl

theorem retTile_apply (c h : Fin 4) (q k : FVec Ideal S512x512 .f32) (v : FVec Ideal S512x512 .bf16)
    (g : FVec Ideal S512x512 .f32) (s dm qd : Vec Ideal S1x128x128 .f32) (gn : Vec Ideal S1x128 .f32) (a d : Fin 128) :
    retTile (F := Ideal) c h q k v g s dm qd gn (ix2 a d) =
      headNorm (fun e => chunkOut (fun i d => q (ix2 ⟨128 * c.val + i.val, by omega⟩ ⟨128 * h.val + d.val, by omega⟩))
          (fun j d => k (ix2 ⟨128 * c.val + j.val, by omega⟩ ⟨128 * h.val + d.val, by omega⟩))
          (fun j e => v (ix2 ⟨128 * c.val + j.val, by omega⟩ ⟨128 * h.val + e.val, by omega⟩))
          (fun i j => dm (ix3 0 i j)) (fun i e => qd (ix3 0 i e)) (fun d e => s (ix3 0 d e)) a e)
        (gn (ix2 0 d)) (g (ix2 ⟨128 * c.val + a.val, by omega⟩ ⟨128 * h.val + d.val, by omega⟩)) d := by
  unfold retTile
  rw [normTile_apply, tileOf_apply]
  congr 1
  funext e
  rw [outTile_apply]
  congr 1
  · funext i d; exact tileOf_apply c h q i d
  · funext i d; exact tileOf_apply c h k i d
  · funext i d; exact tileOf_apply c h v i d

theorem stepTile_apply (c h : Fin 4) (k : FVec Ideal S512x512 .f32) (v : FVec Ideal S512x512 .bf16)
    (s kd cd : Vec Ideal S1x128x128 .f32) (d e : Fin 128) :
    stepTile (F := Ideal) c h k v s kd cd (ix3 0 d e) = cd (ix3 0 d e) * s (ix3 0 d e)
      + chunkAdd (fun j d => k (ix2 ⟨128 * c.val + j.val, by omega⟩ ⟨128 * h.val + d.val, by omega⟩))
          (fun j e => v (ix2 ⟨128 * c.val + j.val, by omega⟩ ⟨128 * h.val + e.val, by omega⟩))
          (fun j d => kd (ix3 0 j d)) d e := by
  unfold stepTile
  rw [stateTile_apply]
  congr 2
  · funext i d; exact tileOf_apply c h k i d
  · funext i d; exact tileOf_apply c h v i d

/-- What the retention's buffer holds at row `128 * c + a` and column `128 * h + d`. -/
theorem retPieces_apply (q k : FVec Ideal S512x512 .f32) (v : FVec Ideal S512x512 .bf16)
    (g : FVec Ideal S512x512 .f32) (s : Fin 4 → Fin 4 → Vec Ideal S1x128x128 .f32)
    (dm qd : Fin 4 → Vec Ideal S1x128x128 .f32) (gn : Fin 4 → Vec Ideal S1x128 .f32) (c h : Fin 4) (a d : Fin 128) :
    View.canon (retPieces (F := Ideal) q k v g s dm qd gn)
        (ix2 ⟨128 * c.val + a.val, by omega⟩ ⟨128 * h.val + d.val, by omega⟩) =
      headNorm (fun e => chunkOut (fun i d => q (ix2 ⟨128 * c.val + i.val, by omega⟩ ⟨128 * h.val + d.val, by omega⟩))
          (fun j d => k (ix2 ⟨128 * c.val + j.val, by omega⟩ ⟨128 * h.val + d.val, by omega⟩))
          (fun j e => v (ix2 ⟨128 * c.val + j.val, by omega⟩ ⟨128 * h.val + e.val, by omega⟩))
          (fun i j => dm h (ix3 0 i j)) (fun i e => qd h (ix3 0 i e)) (fun d e => s c h (ix3 0 d e)) a e)
        (gn h (ix2 0 d)) (g (ix2 ⟨128 * c.val + a.val, by omega⟩ ⟨128 * h.val + d.val, by omega⟩)) d := by
  rw [← retTile_apply]
  refine View.canon_ofFn_unit_eq_of_forall _ _ _ _ _ _ ⟨⟨4 * (3 - c.val) + (3 - h.val), by omega⟩, fun x => ?_⟩ fun n x hx => ?_
  · match x with
    | ⟨0, _⟩ =>
      show 128 * (3 - (4 * (3 - c.val) + (3 - h.val)) / 4) ≤ 128 * c.val + a.val ∧
        128 * c.val + a.val < 128 * (3 - (4 * (3 - c.val) + (3 - h.val)) / 4) + 128
      omega
    | ⟨1, _⟩ =>
      show 128 * (3 - (4 * (3 - c.val) + (3 - h.val)) % 4) ≤ 128 * h.val + d.val ∧
        128 * h.val + d.val < 128 * (3 - (4 * (3 - c.val) + (3 - h.val)) % 4) + 128
      omega
  · have h0 : 128 * c.val + a.val = 128 * (3 - n.val / 4) + (x 0).val := hx 0
    have h1 : 128 * h.val + d.val = 128 * (3 - n.val % 4) + (x 1).val := hx 1
    have l0 : (x 0).val < 128 := (x 0).isLt
    have l1 : (x 1).val < 128 := (x 1).isLt
    have hc : rchunkOf n = c := Fin.ext (by show 3 - n.val / 4 = c.val; omega)
    have hh : rheadOf n = h := Fin.ext (by show 3 - n.val % 4 = h.val; omega)
    have hxe : x = ix2 a d := by
      funext y
      match y with
      | ⟨0, _⟩ => exact Fin.ext (by show (x 0).val = a.val; omega)
      | ⟨1, _⟩ => exact Fin.ext (by show (x 1).val = d.val; omega)
    rw [hc, hh, hxe]

/-- The state of the head just stored, read back. -/
theorem state_self (h : ℕ) (h' : Fin 4) (hh : h'.val = h)
    (inb : ∀ a, (![h, 0, 0] : Fin 3 → ℕ) a + S1x128x128.size a ≤ S4x128x128.size a)
    (w : Vec Ideal S1x128x128 .f32) (L : List (View.Piece (Elt Ideal) S4x128x128 .f32)) (d e : Fin 128) :
    View.canon ((⟨Rect.unit ![h, 0, 0] S1x128x128.size inb, w⟩ : View.Piece (Elt Ideal) S4x128x128 .f32) :: L)
      (ix3 h' d e) = w (ix3 0 d e) := by
  have : (ix3 h' d e : S4x128x128.Idx) =
      (Rect.unit (s := S4x128x128) ![h, 0, 0] S1x128x128.size inb).emb (ix3 0 d e : S1x128x128.Idx) := by
    funext x
    match x with
    | ⟨0, _⟩ => exact Fin.ext (by show h'.val = h + 1 * 0; omega)
    | ⟨1, _⟩ => exact Fin.ext (by show d.val = 0 + 1 * d.val; omega)
    | ⟨2, _⟩ => exact Fin.ext (by show e.val = 0 + 1 * e.val; omega)
  rw [this, View.canon_cons_emb]

/-- The state of another head than the one just stored is what it was. -/
theorem state_other (h : ℕ) (h' : Fin 4) (hne : h'.val ≠ h)
    (inb : ∀ a, (![h, 0, 0] : Fin 3 → ℕ) a + S1x128x128.size a ≤ S4x128x128.size a)
    (w : Vec Ideal S1x128x128 .f32) (L : List (View.Piece (Elt Ideal) S4x128x128 .f32)) (d e : Fin 128) :
    View.canon ((⟨Rect.unit ![h, 0, 0] S1x128x128.size inb, w⟩ : View.Piece (Elt Ideal) S4x128x128 .f32) :: L)
      (ix3 h' d e) = View.canon L (ix3 h' d e) := by
  refine View.canon_cons_of_not_mem _ _ ?_
  show ¬ (ix3 h' d e : S4x128x128.Idx) ∈ (Rect.unit (s := S4x128x128) ![h, 0, 0] S1x128x128.size inb).set
  rw [Rect.mem_set_unit]
  intro hm
  have h0 := hm 0
  have : h ≤ h'.val ∧ h'.val < h + 1 := h0
  omega

end Cert.Mixer
-- ==== Proof.Mixer.lean ====
/-
  The token mixer of one sequence, position by position, over plain functions of natural numbers: the projections of a
  token, the band of keys and values a chunk sees, the attention with its sinks, the retention with its state carried
  from chunk to chunk, the gated sum of the two, and the layer normalisation.
-/
module

public import proofs.«01_k».proof.Proof.Spec
public import proofs.«01_k».proof.Proof.Softmax

@[expose] public section

noncomputable section

namespace Cert.Mixer

open Idealize.ShloMosaic
open scoped BigOperators

/-- One sequence of the mixer's input, and its weights and tables. -/
structure Params where
  /-- the tokens -/
  x : ℕ → ℕ → EReal
  /-- the input projection -/
  w : ℕ → ℕ → EReal
  /-- the positional bias of a head between a query of a chunk and a key of its band -/
  bias : ℕ → ℕ → ℕ → EReal
  /-- the sink of a head -/
  sink : ℕ → EReal
  /-- the retention's decay between two tokens of a chunk -/
  dm : ℕ → ℕ → ℕ → EReal
  /-- the decay of a chunk's keys towards the chunk's end -/
  kd : ℕ → ℕ → ℕ → EReal
  /-- the decay of the state at a token of the chunk -/
  qd : ℕ → ℕ → ℕ → EReal
  /-- the decay of the state over a chunk -/
  cd : ℕ → ℕ → ℕ → EReal
  /-- the gains of the retention heads -/
  gn : ℕ → EReal
  /-- the projection of the attention -/
  wa : ℕ → ℕ → EReal
  /-- the projection of the retention -/
  wr : ℕ → ℕ → EReal
  /-- the output projection -/
  wo : ℕ → ℕ → EReal
  /-- the gain of the layer normalisation -/
  lg : ℕ → EReal
  /-- the shift of the layer normalisation -/
  lb : ℕ → EReal

/-- The scale of the attention's queries. -/
abbrev qScale : EReal := Ideal.ofBits .f32 0x3E000000#32

/-- The scale of the retention's queries. -/
abbrev rScale : EReal := Ideal.ofBits .f32 0x3DB504F3#32

/-- The weight of the residual. -/
abbrev resScale : EReal := Ideal.ofBits .f32 0x3F9837F0#32

variable (P : Params)

/-- A column of a token's projection. -/
def proj (t c : ℕ) : EReal := ∑ k : Fin 1024, P.x t k.val * P.w k.val c

/-- A column of the projection of key `j` of the band of chunk `n`: the chunk before, then the chunk; zero before the
sequence. -/
def band (n j c : ℕ) : EReal := if 128 * n + j < 128 then 0 else proj P (128 * n + j - 128) c

/-- The score of a token's query of head `h` with key `j` of its band. -/
def score (t h j : ℕ) : EReal :=
  if t / 128 = 0 ∧ j < 128 then ⊥
  else (∑ e : Fin 64, (proj P t (64 * h + e.val) * qScale) * band P (t / 128) j (512 + (64 * (h / 4) + e.val)))
    + P.bias h (t % 128) j

/-- The attention of a token. -/
def attn (t c : ℕ) : EReal :=
  attend (fun j : Fin 256 => score P t (c / 64) j.val) (P.sink (c / 64))
    (fun j => band P (t / 128) j.val (640 + (64 * (c / 64 / 4) + c % 64)))

/-- The retention state of a head before chunk `n`. -/
def state : ℕ → ℕ → ℕ → ℕ → EReal
  | 0, _, _, _ => 0
  | n + 1, h, d, e => P.cd h d e * state n h d e
      + ∑ j : Fin 128, (proj P (128 * n + j.val) (1280 + (128 * h + d)) * P.kd h j.val d)
          * proj P (128 * n + j.val) (1792 + (128 * h + e))

/-- The retention of token `i` of chunk `n`, before its normalisation. -/
def chunkRet (n h i e : ℕ) : EReal :=
  (∑ j : Fin 128, ((∑ d : Fin 128, (proj P (128 * n + i) (768 + (128 * h + d.val)) * rScale)
      * proj P (128 * n + j.val) (1280 + (128 * h + d.val))) * P.dm h i j.val) * proj P (128 * n + j.val) (1792 + (128 * h + e)))
    + (∑ d : Fin 128, (proj P (128 * n + i) (768 + (128 * h + d.val)) * rScale) * state P n h d.val e) * P.qd h i e

/-- The retention of a token, normalised and gated. -/
def ret (t c : ℕ) : EReal :=
  headNorm (fun e => chunkRet P (t / 128) (c / 128) (t % 128) e.val) (P.gn c) (proj P t (2304 + c))
    ⟨c % 128, Nat.mod_lt _ (by norm_num)⟩

/-- The residual row of a token before the layer normalisation. -/
def resid (t m : ℕ) : EReal :=
  resScale * P.x t m + ∑ u : Fin 1024,
    merge (∑ c : Fin 512, attn P t c.val * P.wa c.val u.val) (proj P t (2816 + u.val))
      (∑ c : Fin 512, ret P t c.val * P.wr c.val u.val) (proj P t (3840 + u.val)) * P.wo u.val m

/-- The mixer's output at a token. -/
def mixed (t : ℕ) (m : Fin 1024) : EReal :=
  layerNorm (fun m : Fin 1024 => resid P t m.val) (P.lg m.val) (P.lb m.val) m

end Cert.Mixer
-- ==== Proof.Dense.lean ====
/-
  The dense steps of a block at an index: the projections, the gated sum with its residual, and the layer normalisation.
-/
module

public import proofs.«01_k».proof.Proof.Gen.KernelIdeal.Skeleton
public import proofs.«01_k».proof.Proof.Mixer
public import Idealize.ShloMosaic.Lib.Pointwise
public import Idealize.ShloMosaic.Lib.Pipeline.ValueKit

@[expose] public section

noncomputable section

namespace Cert.Mixer

open Idealize.ShloMosaic Cert.KernelIdeal Cert.KernelIdeal.Gen

set_option maxRecDepth 16384

theorem pay7_apply (x : Vec Ideal S1x512x1024 .f32) (r : Fin 512) (k : Fin 1024) :
    k0_pay7 (F := Ideal) x (ix2 r k) = x (ix3 0 r k) := by
  pointwise [k0_pay7]

theorem pay8_apply (x : Vec Ideal S1x512x1024 .f32) (r : Fin 512) (k : Fin 1024) :
    k0_pay8 (F := Ideal) x (ix2 r k) = x (ix3 0 r k) := by
  pointwise [k0_pay8, k0_pay7]

theorem pay9_apply (x : Vec Ideal S1x512x1024 .f32) (w : Vec Ideal S1024x512 .bf16) (r u : Fin 512) :
    k0_pay9 (F := Ideal) x w (ix2 r u) = (∑ k : Fin 1024, x (ix3 0 r k) * w (ix2 k u)) * qScale := by
  pointwise [k0_pay9, k0_pay8, k0_pay7]

theorem pay10_apply (x : Vec Ideal S1x512x1024 .f32) (w : Vec Ideal S1024x128 .bf16) (r : Fin 512) (u : Fin 128) :
    k0_pay10 (F := Ideal) x w (ix2 r u) = ∑ k : Fin 1024, x (ix3 0 r k) * w (ix2 k u) := by
  pointwise [k0_pay10, k0_pay8, k0_pay7]

theorem pay11_apply (x : Vec Ideal S1x512x1024 .f32) (w : Vec Ideal S1024x128 .bf16) (r : Fin 512) (u : Fin 128) :
    k0_pay11 (F := Ideal) x w (ix2 r u) = ∑ k : Fin 1024, x (ix3 0 r k) * w (ix2 k u) := by
  pointwise [k0_pay11, k0_pay8, k0_pay7]

theorem pay103_apply (v : Vec Ideal S128x128 .bf16) (r u : Fin 128) : k0_pay103 (F := Ideal) v (ix2 r u) = v (ix2 r u) := by
  pointwise [k0_pay103]

theorem pay104_apply (v : Vec Ideal S128x128 .bf16) (r u : Fin 128) : k0_pay104 (F := Ideal) v (ix2 r u) = v (ix2 r u) := by
  pointwise [k0_pay104]

theorem pay105_apply (x : FVec Ideal S512x1024 .bf16) (w : Vec Ideal S1024x512 .bf16) (r u : Fin 512) :
    k0_pay105 (F := Ideal) x w (ix2 r u) = (∑ k : Fin 1024, x (ix2 r k) * w (ix2 k u)) * rScale := by
  pointwise [k0_pay105]

theorem pay106_apply (x : FVec Ideal S512x1024 .bf16) (w : Vec Ideal S1024x512 .bf16) (r u : Fin 512) :
    k0_pay106 (F := Ideal) x w (ix2 r u) = ∑ k : Fin 1024, x (ix2 r k) * w (ix2 k u) := by
  pointwise [k0_pay106]

theorem pay107_apply (x : FVec Ideal S512x1024 .bf16) (w : Vec Ideal S1024x512 .bf16) (r u : Fin 512) :
    k0_pay107 (F := Ideal) x w (ix2 r u) = ∑ k : Fin 1024, x (ix2 r k) * w (ix2 k u) := by
  pointwise [k0_pay107]

theorem pay108_apply (x : FVec Ideal S512x1024 .bf16) (w : Vec Ideal S1024x512 .bf16) (r u : Fin 512) :
    k0_pay108 (F := Ideal) x w (ix2 r u) = ∑ k : Fin 1024, x (ix2 r k) * w (ix2 k u) := by
  pointwise [k0_pay108]

/-- The residual and the gated sum of the two branches. -/
theorem pay241_apply (x : FVec Ideal S512x1024 .f32) (xb : FVec Ideal S512x1024 .bf16) (a : Vec Ideal S512x512 .f32)
    (wa : Vec Ideal S512x1024 .bf16) (b : Vec Ideal S512x512 .f32) (wr : Vec Ideal S512x1024 .bf16)
    (ga gb wo : Vec Ideal S1024x1024 .bf16) (r : Fin 512) (m : Fin 1024) :
    k0_pay241 (F := Ideal) x xb a wa b wr ga gb wo (ix2 r m) =
      resScale * x (ix2 r m) + ∑ u : Fin 1024,
        merge (∑ c : Fin 512, a (ix2 r c) * wa (ix2 c u)) (∑ k : Fin 1024, xb (ix2 r k) * ga (ix2 k u))
          (∑ c : Fin 512, b (ix2 r c) * wr (ix2 c u)) (∑ k : Fin 1024, xb (ix2 r k) * gb (ix2 k u)) * wo (ix2 u m) := by
  pointwise [k0_pay241]
  rfl

theorem pay244_apply (z : FVec Ideal S512x1024 .f32) (r : Fin 512) (o : Fin 1024) :
    k0_pay244 (F := Ideal) z (ix2 r o) = mean len1024 (fun m : Fin 1024 => z (ix2 r m)) := by
  pointwise [k0_pay244]
  rfl

theorem pay2_apply (z : FVec Ideal S512x1024 .f32) (g b : Vec Ideal S1x1024 .f32) (r : Fin 512) (m : Fin 1024) :
    k0_pay2 (F := Ideal) z (k0_pay242 g) (k0_pay243 b) (k0_pay244 z) (ix3 0 r m) =
      layerNorm (fun m : Fin 1024 => z (ix2 r m)) (g (ix2 0 m)) (b (ix2 0 m)) m := by
  pointwise [k0_pay2, k0_pay1, k0_pay242, k0_pay243]
  simp only [pay244_apply]
  rfl

theorem pay3_apply (z : FVec Ideal S512x1024 .f32) (g b : Vec Ideal S1x1024 .f32) (r : Fin 512) (m : Fin 1024) :
    k0_pay3 (F := Ideal) z (k0_pay242 g) (k0_pay243 b) (k0_pay244 z) (ix3 0 r m) =
      layerNorm (fun m : Fin 1024 => z (ix2 r m)) (g (ix2 0 m)) (b (ix2 0 m)) m := by
  pointwise [k0_pay3, k0_pay1, k0_pay242, k0_pay243]
  simp only [pay244_apply]
  rfl

end Cert.Mixer
-- ==== Proof.Block.lean ====
/-
  One block of 512 tokens against the mixer: if the block's vectors hold the projections, bands and states of the
  sequence at the block's rows, then its two buffers hold the attention and the retention, and its output the mixer's.
-/
module

public import proofs.«01_k».proof.Proof.AttnBlock
public import proofs.«01_k».proof.Proof.RetBlock
public import proofs.«01_k».proof.Proof.Dense

@[expose] public section

noncomputable section

namespace Cert.Mixer

open Idealize.ShloMosaic Cert.KernelIdeal Cert.KernelIdeal.Gen
open scoped BigOperators

set_option maxRecDepth 16384

variable (P : Params)

/-- The attention of a block. -/
theorem attn_block (s : ℕ) (i : grid0.Coords) (hi : (i 1).val = s) (q : FVec Ideal S512x512 .bf16)
    (k v : Fin 4 → Vec Ideal S256x128 .bf16) (b : Fin 8 → Vec Ideal S1x128x256 .f32) (z : Fin 8 → EReal)
    (hq : ∀ (r u : Fin 512), q (ix2 r u) = proj P (512 * s + r.val) u.val * qScale)
    (hk : ∀ (c : Fin 4) (j : Fin 256) (u : Fin 128), k c (ix2 j u) = band P (4 * s + c.val) j.val (512 + u.val))
    (hv : ∀ (c : Fin 4) (j : Fin 256) (u : Fin 128), v c (ix2 j u) = band P (4 * s + c.val) j.val (640 + u.val))
    (hb : ∀ (h : Fin 8) (a : Fin 128) (j : Fin 256), b h (ix3 0 a j) = P.bias h.val a.val j.val)
    (hz : ∀ h : Fin 8, z h = P.sink h.val) (r u : Fin 512) :
    View.canon (attnPieces (F := Ideal) i q k v b z) (ix2 r u) = attn P (512 * s + r.val) u.val := by
  obtain ⟨c, a, hr⟩ : ∃ (c : Fin 4) (a : Fin 128), r = ⟨128 * c.val + a.val, by omega⟩ :=
    ⟨⟨r.val / 128, by omega⟩, ⟨r.val % 128, by omega⟩, Fin.ext (by show r.val = 128 * (r.val / 128) + r.val % 128; omega)⟩
  obtain ⟨h, d, hu⟩ : ∃ (h : Fin 8) (d : Fin 64), u = ⟨64 * h.val + d.val, by omega⟩ :=
    ⟨⟨u.val / 64, by omega⟩, ⟨u.val % 64, by omega⟩, Fin.ext (by show u.val = 64 * (u.val / 64) + u.val % 64; omega)⟩
  subst hr hu
  rw [attnPieces_apply]
  have e1 : (512 * s + (128 * c.val + a.val)) / 128 = 4 * s + c.val := by omega
  have e2 : (512 * s + (128 * c.val + a.val)) % 128 = a.val := by omega
  have e3 : (64 * h.val + d.val) / 64 = h.val := by omega
  have e4 : (64 * h.val + d.val) % 64 = d.val := by omega
  show _ = attn P (512 * s + (128 * c.val + a.val)) (64 * h.val + d.val)
  unfold attn
  rw [e1, e3, e4, hz]
  congr 1
  · funext j
    unfold scoreAt score
    rw [e1, e2, hi]
    by_cases hm : c.val = 0 ∧ s = 0 ∧ j.val < 128
    · rw [if_pos hm, if_pos ⟨by omega, hm.2.2⟩]
    · rw [if_neg hm, if_neg (by omega)]
      simp only [hb, hq, hk]
  · funext j
    rw [hv]

/-- The retention of a block. -/
theorem ret_block (s : ℕ) (q k : FVec Ideal S512x512 .f32) (v : FVec Ideal S512x512 .bf16) (g : FVec Ideal S512x512 .f32)
    (S : Fin 4 → Fin 4 → Vec Ideal S1x128x128 .f32) (dm qd : Fin 4 → Vec Ideal S1x128x128 .f32)
    (gn : Fin 4 → Vec Ideal S1x128 .f32)
    (hq : ∀ (r u : Fin 512), q (ix2 r u) = proj P (512 * s + r.val) (768 + u.val) * rScale)
    (hk : ∀ (r u : Fin 512), k (ix2 r u) = proj P (512 * s + r.val) (1280 + u.val))
    (hv : ∀ (r u : Fin 512), v (ix2 r u) = proj P (512 * s + r.val) (1792 + u.val))
    (hg : ∀ (r u : Fin 512), g (ix2 r u) = proj P (512 * s + r.val) (2304 + u.val))
    (hS : ∀ (c h : Fin 4) (d e : Fin 128), S c h (ix3 0 d e) = state P (4 * s + c.val) h.val d.val e.val)
    (hdm : ∀ (h : Fin 4) (a j : Fin 128), dm h (ix3 0 a j) = P.dm h.val a.val j.val)
    (hqd : ∀ (h : Fin 4) (a j : Fin 128), qd h (ix3 0 a j) = P.qd h.val a.val j.val)
    (hgn : ∀ (h : Fin 4) (d : Fin 128), gn h (ix2 0 d) = P.gn (128 * h.val + d.val)) (r u : Fin 512) :
    View.canon (retPieces (F := Ideal) q k v g S dm qd gn) (ix2 r u) = ret P (512 * s + r.val) u.val := by
  obtain ⟨c, a, hr⟩ : ∃ (c : Fin 4) (a : Fin 128), r = ⟨128 * c.val + a.val, by omega⟩ :=
    ⟨⟨r.val / 128, by omega⟩, ⟨r.val % 128, by omega⟩, Fin.ext (by show r.val = 128 * (r.val / 128) + r.val % 128; omega)⟩
  obtain ⟨h, d, hu⟩ : ∃ (h : Fin 4) (d : Fin 128), u = ⟨128 * h.val + d.val, by omega⟩ :=
    ⟨⟨u.val / 128, by omega⟩, ⟨u.val % 128, by omega⟩, Fin.ext (by show u.val = 128 * (u.val / 128) + u.val % 128; omega)⟩
  subst hr hu
  rw [retPieces_apply]
  have e1 : (512 * s + (128 * c.val + a.val)) / 128 = 4 * s + c.val := by omega
  have e2 : (512 * s + (128 * c.val + a.val)) % 128 = a.val := by omega
  have e3 : (128 * h.val + d.val) / 128 = h.val := by omega
  have e4 : (⟨(128 * h.val + d.val) % 128, Nat.mod_lt _ (by norm_num)⟩ : Fin 128) = d := Fin.ext (by
    show (128 * h.val + d.val) % 128 = d.val; omega)
  have e5 : ∀ j : ℕ, 512 * s + (128 * c.val + j) = 128 * (4 * s + c.val) + j := fun j => by omega
  show _ = ret P (512 * s + (128 * c.val + a.val)) (128 * h.val + d.val)
  unfold ret
  rw [e1, e2, e3, e4, hgn, hg]
  congr 1
  funext e
  unfold chunkOut chunkRet
  simp only [hq, hk, hv, hS, hdm, hqd, e5]

/-- The states of a block's chunks, from the state before the block. -/
theorem state_block (s : ℕ) (k : FVec Ideal S512x512 .f32) (v : FVec Ideal S512x512 .bf16)
    (kd cd : Fin 4 → Vec Ideal S1x128x128 .f32)
    (hk : ∀ (r u : Fin 512), k (ix2 r u) = proj P (512 * s + r.val) (1280 + u.val))
    (hv : ∀ (r u : Fin 512), v (ix2 r u) = proj P (512 * s + r.val) (1792 + u.val))
    (hkd : ∀ (h : Fin 4) (a j : Fin 128), kd h (ix3 0 a j) = P.kd h.val a.val j.val)
    (hcd : ∀ (h : Fin 4) (a j : Fin 128), cd h (ix3 0 a j) = P.cd h.val a.val j.val)
    (c h : Fin 4) (S : Vec Ideal S1x128x128 .f32)
    (hS : ∀ d e : Fin 128, S (ix3 0 d e) = state P (4 * s + c.val) h.val d.val e.val) (d e : Fin 128) :
    stepTile (F := Ideal) c h k v S (kd h) (cd h) (ix3 0 d e) = state P (4 * s + c.val + 1) h.val d.val e.val := by
  have e5 : ∀ j : ℕ, 512 * s + (128 * c.val + j) = 128 * (4 * s + c.val) + j := fun j => by omega
  rw [stepTile_apply, hS, hcd]
  show _ = P.cd h.val d.val e.val * state P (4 * s + c.val) h.val d.val e.val + _
  unfold chunkAdd
  simp only [hk, hv, hkd, e5]

/-- The residual row of a block. -/
theorem resid_block (s : ℕ) (x : Vec Ideal S1x512x1024 .f32) (a b : Vec Ideal S512x512 .f32)
    (wa wr : Vec Ideal S512x1024 .bf16) (ga gb wo : Vec Ideal S1024x1024 .bf16)
    (hx : ∀ (r : Fin 512) (k : Fin 1024), x (ix3 0 r k) = P.x (512 * s + r.val) k.val)
    (ha : ∀ (r u : Fin 512), a (ix2 r u) = attn P (512 * s + r.val) u.val)
    (hb : ∀ (r u : Fin 512), b (ix2 r u) = ret P (512 * s + r.val) u.val)
    (hwa : ∀ (c : Fin 512) (u : Fin 1024), wa (ix2 c u) = P.wa c.val u.val)
    (hwr : ∀ (c : Fin 512) (u : Fin 1024), wr (ix2 c u) = P.wr c.val u.val)
    (hga : ∀ (k u : Fin 1024), ga (ix2 k u) = P.w k.val (2816 + u.val))
    (hgb : ∀ (k u : Fin 1024), gb (ix2 k u) = P.w k.val (3840 + u.val))
    (hwo : ∀ (k u : Fin 1024), wo (ix2 k u) = P.wo k.val u.val) (r : Fin 512) (m : Fin 1024) :
    k0_pay241 (F := Ideal) (k0_pay7 x) (k0_pay8 x) a wa b wr ga gb wo (ix2 r m) = resid P (512 * s + r.val) m.val := by
  rw [pay241_apply]
  unfold resid proj
  simp only [pay7_apply, pay8_apply, hx, ha, hb, hwa, hwr, hga, hgb, hwo]

end Cert.Mixer
-- ==== Proof.Loads.lean ====
/-
  The loads of the body through a head's part of a table, of the gains and of the sinks, with the head as a variable,
  and what they read.
-/
module

public import proofs.«01_k».proof.Proof.Gen.KernelIdeal.Skeleton
public import Idealize.ShloMosaic.Lib.Pointwise
public import Idealize.ShloMosaic.Lib.Pipeline.ValueKit
public import Idealize.ShloMosaic.Lib.WritesUnit

@[expose] public section

noncomputable section

namespace Cert.Mixer

open Idealize.ShloMosaic Cert.KernelIdeal Cert.KernelIdeal.Gen

set_option maxRecDepth 16384

theorem bias_inb : ∀ (h : Fin 8) (a : Fin 3),
    (![h.val, 0, 0] : Fin 3 → ℕ) a + S1x128x256.size a ≤ S8x128x256.size a := by decide

theorem head_inb : ∀ (h : Fin 4) (a : Fin 3),
    (![h.val, 0, 0] : Fin 3 → ℕ) a + S1x128x128.size a ≤ S4x128x128.size a := by decide

theorem gain_inb : ∀ (h : Fin 4) (a : Fin 2),
    (![0, 128 * h.val] : Fin 2 → ℕ) a + S1x128.size a ≤ S1x512.size a := by decide

theorem sink_inb : ∀ (h : Fin 8) (a : Fin 2),
    (![0, h.val] : Fin 2 → ℕ) a + S1x1.size a ≤ S1x8.size a := by decide

theorem sink_first (h : Fin 8) :
    0 < (Rect.unit (s := S1x8) ![0, h.val] S1x1.size (sink_inb h)).shape.numel := by
  show 0 < S1x1.numel
  decide

variable {F : FTy → Type} [FloatOps F]

/-- The bias table of a head. -/
def biasOf (M : Memref sig .tc .vmem S8x128x256 .f32) (hM : M.IsWhole) (x : Vec F S8x128x256 .f32) (h : Fin 8) :
    Vec F S1x128x256 .f32 :=
  View.readAt (Elt F) M.view (Rect.unit (s := S8x128x256) ![h.val, 0, 0] S1x128x256.size (bias_inb h)).toLoadRect
    (hM.unread x)

/-- A head's part of a table of the retention. -/
def headTable (M : Memref sig .tc .vmem S4x128x128 .f32) (hM : M.IsWhole) (x : Vec F S4x128x128 .f32) (h : Fin 4) :
    Vec F S1x128x128 .f32 :=
  View.readAt (Elt F) M.view (Rect.unit (s := S4x128x128) ![h.val, 0, 0] S1x128x128.size (head_inb h)).toLoadRect
    (hM.unread x)

/-- The gains of a head. -/
def gainOf (M : Memref sig .tc .vmem S1x512 .f32) (hM : M.IsWhole) (x : Vec F S1x512 .f32) (h : Fin 4) :
    Vec F S1x128 .f32 :=
  View.readAt (Elt F) M.view (Rect.unit (s := S1x512) ![0, 128 * h.val] S1x128.size (gain_inb h)).toLoadRect
    (hM.unread x)

/-- The sink of a head. -/
def sinkOf (M : Memref sig .tc .smem S1x8 .f32) (hM : M.IsWhole) (x : Vec F S1x8 .f32) (h : Fin 8) : Elt F .f32 :=
  View.readAt (Elt F) M.view (Rect.unit (s := S1x8) ![0, h.val] S1x1.size (sink_inb h)).toLoadRect
    (hM.unread x) (Shape.Idx.first (sink_first h))

theorem biasOf_apply (M : Memref sig .tc .vmem S8x128x256 .f32) (hM : M.IsWhole) (x : Vec F S8x128x256 .f32) (h : Fin 8)
    (i : Fin 128) (j : Fin 256) : biasOf M hM x h (ix3 0 i j) = x (ix3 h i j) := by
  show M.view.read (Elt F) (hM.unread x) _ = _
  rw [hM.read_unread]
  congr 1
  funext a
  match a with
  | ⟨0, _⟩ => exact Fin.ext (by show h.val + 1 * 0 = h.val; omega)
  | ⟨1, _⟩ => exact Fin.ext (by show 0 + 1 * i.val = i.val; omega)
  | ⟨2, _⟩ => exact Fin.ext (by show 0 + 1 * j.val = j.val; omega)

theorem headTable_apply (M : Memref sig .tc .vmem S4x128x128 .f32) (hM : M.IsWhole) (x : Vec F S4x128x128 .f32) (h : Fin 4)
    (i j : Fin 128) : headTable M hM x h (ix3 0 i j) = x (ix3 h i j) := by
  show M.view.read (Elt F) (hM.unread x) _ = _
  rw [hM.read_unread]
  congr 1
  funext a
  match a with
  | ⟨0, _⟩ => exact Fin.ext (by show h.val + 1 * 0 = h.val; omega)
  | ⟨1, _⟩ => exact Fin.ext (by show 0 + 1 * i.val = i.val; omega)
  | ⟨2, _⟩ => exact Fin.ext (by show 0 + 1 * j.val = j.val; omega)

theorem gainOf_apply (M : Memref sig .tc .vmem S1x512 .f32) (hM : M.IsWhole) (x : Vec F S1x512 .f32) (h : Fin 4)
    (d : Fin 128) : gainOf M hM x h (ix2 0 d) = x (ix2 0 ⟨128 * h.val + d.val, by omega⟩) := by
  show M.view.read (Elt F) (hM.unread x) _ = _
  rw [hM.read_unread]
  congr 1
  funext a
  match a with
  | ⟨0, _⟩ => exact Fin.ext (by show 0 + 1 * 0 = 0; omega)
  | ⟨1, _⟩ => exact Fin.ext (by show 128 * h.val + 1 * d.val = 128 * h.val + d.val; omega)

theorem sinkOf_apply (M : Memref sig .tc .smem S1x8 .f32) (hM : M.IsWhole) (x : Vec F S1x8 .f32) (h : Fin 8) :
    sinkOf M hM x h = x (ix2 0 h) := by
  show M.view.read (Elt F) (hM.unread x) _ = _
  rw [hM.read_unread]
  congr 1
  funext a
  match a with
  | ⟨0, _⟩ => exact Fin.ext (by show 0 + 1 * 0 = 0; omega)
  | ⟨1, _⟩ => exact Fin.ext (by show h.val + 1 * 0 = h.val; omega)

/-- An entry of a load from a whole buffer, at the array's index under it. -/
theorem load_apply {sp : Space} {S : Shape} {e : EltTy} (M : Memref sig .tc sp S e) (hM : M.IsWhole) (x : Vec F S e)
    (r : LoadRect S) (j : r.shape.Idx) (k : S.Idx) (hk : ∀ a, (r.idx j a).val = (k a).val) :
    View.readAt (Elt F) M.view r (hM.unread x) j = x k := by
  show M.view.read (Elt F) (hM.unread x) _ = _
  rw [hM.read_unread]
  exact congrArg x (funext fun a => Fin.ext (hk a))

theorem tokens_inb : ∀ a : Fin 3, (![0, 0, 0] : Fin 3 → ℕ) a + S1x512x1024.size a ≤ S1x512x1024.size a := by decide

theorem colsA_inb (o : ℕ) (ho : o + 512 ≤ 4864) (a : Fin 2) :
    (![0, o] : Fin 2 → ℕ) a + S1024x512.size a ≤ S1024x4864.size a := by
  match a with
  | ⟨0, _⟩ => exact Nat.le_refl _
  | ⟨1, _⟩ => exact ho

theorem colsB_inb (o : ℕ) (ho : o + 128 ≤ 4864) (a : Fin 2) :
    (![0, o] : Fin 2 → ℕ) a + S1024x128.size a ≤ S1024x4864.size a := by
  match a with
  | ⟨0, _⟩ => exact Nat.le_refl _
  | ⟨1, _⟩ => exact ho

theorem colsC_inb (o : ℕ) (ho : o + 1024 ≤ 4864) (a : Fin 2) :
    (![0, o] : Fin 2 → ℕ) a + S1024x1024.size a ≤ S1024x4864.size a := by
  match a with
  | ⟨0, _⟩ => exact Nat.le_refl _
  | ⟨1, _⟩ => exact ho

theorem allA_inb : ∀ a : Fin 2, (![0, 0] : Fin 2 → ℕ) a + S512x1024.size a ≤ S512x1024.size a := by decide

theorem allB_inb : ∀ a : Fin 2, (![0, 0] : Fin 2 → ℕ) a + S1024x1024.size a ≤ S1024x1024.size a := by decide

theorem allC_inb : ∀ a : Fin 2, (![0, 0] : Fin 2 → ℕ) a + S1x1024.size a ≤ S1x1024.size a := by decide

/-- The block's tokens. -/
def tokensOf (M : Memref sig .tc .vmem S1x512x1024 .f32) (hM : M.IsWhole) (x : Vec F S1x512x1024 .f32) :
    Vec F S1x512x1024 .f32 :=
  View.readAt (Elt F) M.view (Rect.unit (s := S1x512x1024) ![0, 0, 0] S1x512x1024.size tokens_inb).toLoadRect (hM.unread x)

/-- 512 columns of the input projection. -/
def colsA (M : Memref sig .tc .vmem S1024x4864 .bf16) (hM : M.IsWhole) (x : Vec F S1024x4864 .bf16) (o : ℕ)
    (ho : o + 512 ≤ 4864) : Vec F S1024x512 .bf16 :=
  View.readAt (Elt F) M.view (Rect.unit (s := S1024x4864) ![0, o] S1024x512.size (colsA_inb o ho)).toLoadRect (hM.unread x)

/-- 128 columns of the input projection. -/
def colsB (M : Memref sig .tc .vmem S1024x4864 .bf16) (hM : M.IsWhole) (x : Vec F S1024x4864 .bf16) (o : ℕ)
    (ho : o + 128 ≤ 4864) : Vec F S1024x128 .bf16 :=
  View.readAt (Elt F) M.view (Rect.unit (s := S1024x4864) ![0, o] S1024x128.size (colsB_inb o ho)).toLoadRect (hM.unread x)

/-- 1024 columns of the input projection. -/
def colsC (M : Memref sig .tc .vmem S1024x4864 .bf16) (hM : M.IsWhole) (x : Vec F S1024x4864 .bf16) (o : ℕ)
    (ho : o + 1024 ≤ 4864) : Vec F S1024x1024 .bf16 :=
  View.readAt (Elt F) M.view (Rect.unit (s := S1024x4864) ![0, o] S1024x1024.size (colsC_inb o ho)).toLoadRect (hM.unread x)

/-- A branch's projection. -/
def allA (M : Memref sig .tc .vmem S512x1024 .bf16) (hM : M.IsWhole) (x : Vec F S512x1024 .bf16) : Vec F S512x1024 .bf16 :=
  View.readAt (Elt F) M.view (Rect.unit (s := S512x1024) ![0, 0] S512x1024.size allA_inb).toLoadRect (hM.unread x)

/-- The output projection. -/
def allB (M : Memref sig .tc .vmem S1024x1024 .bf16) (hM : M.IsWhole) (x : Vec F S1024x1024 .bf16) :
    Vec F S1024x1024 .bf16 :=
  View.readAt (Elt F) M.view (Rect.unit (s := S1024x1024) ![0, 0] S1024x1024.size allB_inb).toLoadRect (hM.unread x)

/-- A row of the layer normalisation's parameters. -/
def allC (M : Memref sig .tc .vmem S1x1024 .f32) (hM : M.IsWhole) (x : Vec F S1x1024 .f32) : Vec F S1x1024 .f32 :=
  View.readAt (Elt F) M.view (Rect.unit (s := S1x1024) ![0, 0] S1x1024.size allC_inb).toLoadRect (hM.unread x)

theorem tokensOf_apply (M : Memref sig .tc .vmem S1x512x1024 .f32) (hM : M.IsWhole) (x : Vec F S1x512x1024 .f32)
    (r : Fin 512) (k : Fin 1024) : tokensOf M hM x (ix3 0 r k) = x (ix3 0 r k) := by
  refine load_apply M hM x _ _ _ fun a => ?_
  match a with
  | ⟨0, _⟩ => rfl
  | ⟨1, _⟩ => show 0 + 1 * r.val = r.val; omega
  | ⟨2, _⟩ => show 0 + 1 * k.val = k.val; omega

theorem colsA_apply (M : Memref sig .tc .vmem S1024x4864 .bf16) (hM : M.IsWhole) (x : Vec F S1024x4864 .bf16) (o : ℕ)
    (ho : o + 512 ≤ 4864) (k : Fin 1024) (u : Fin 512) :
    colsA M hM x o ho (ix2 k u) = x (ix2 k ⟨o + u.val, by omega⟩) := by
  refine load_apply M hM x _ _ _ fun a => ?_
  match a with
  | ⟨0, _⟩ => show 0 + 1 * k.val = k.val; omega
  | ⟨1, _⟩ => show o + 1 * u.val = o + u.val; omega

theorem colsB_apply (M : Memref sig .tc .vmem S1024x4864 .bf16) (hM : M.IsWhole) (x : Vec F S1024x4864 .bf16) (o : ℕ)
    (ho : o + 128 ≤ 4864) (k : Fin 1024) (u : Fin 128) :
    colsB M hM x o ho (ix2 k u) = x (ix2 k ⟨o + u.val, by omega⟩) := by
  refine load_apply M hM x _ _ _ fun a => ?_
  match a with
  | ⟨0, _⟩ => show 0 + 1 * k.val = k.val; omega
  | ⟨1, _⟩ => show o + 1 * u.val = o + u.val; omega

theorem colsC_apply (M : Memref sig .tc .vmem S1024x4864 .bf16) (hM : M.IsWhole) (x : Vec F S1024x4864 .bf16) (o : ℕ)
    (ho : o + 1024 ≤ 4864) (k u : Fin 1024) :
    colsC M hM x o ho (ix2 k u) = x (ix2 k ⟨o + u.val, by omega⟩) := by
  refine load_apply M hM x _ _ _ fun a => ?_
  match a with
  | ⟨0, _⟩ => show 0 + 1 * k.val = k.val; omega
  | ⟨1, _⟩ => show o + 1 * u.val = o + u.val; omega

theorem allA_apply (M : Memref sig .tc .vmem S512x1024 .bf16) (hM : M.IsWhole) (x : Vec F S512x1024 .bf16)
    (c : Fin 512) (u : Fin 1024) : allA M hM x (ix2 c u) = x (ix2 c u) := by
  refine load_apply M hM x _ _ _ fun a => ?_
  match a with
  | ⟨0, _⟩ => show 0 + 1 * c.val = c.val; omega
  | ⟨1, _⟩ => show 0 + 1 * u.val = u.val; omega

theorem allB_apply (M : Memref sig .tc .vmem S1024x1024 .bf16) (hM : M.IsWhole) (x : Vec F S1024x1024 .bf16)
    (c u : Fin 1024) : allB M hM x (ix2 c u) = x (ix2 c u) := by
  refine load_apply M hM x _ _ _ fun a => ?_
  match a with
  | ⟨0, _⟩ => show 0 + 1 * c.val = c.val; omega
  | ⟨1, _⟩ => show 0 + 1 * u.val = u.val; omega

theorem allC_apply (M : Memref sig .tc .vmem S1x1024 .f32) (hM : M.IsWhole) (x : Vec F S1x1024 .f32)
    (u : Fin 1024) : allC M hM x (ix2 0 u) = x (ix2 0 u) := by
  refine load_apply M hM x _ _ _ fun a => ?_
  match a with
  | ⟨0, _⟩ => rfl
  | ⟨1, _⟩ => show 0 + 1 * u.val = u.val; omega

/-! The buffers the kernel keeps from block to block. -/

theorem band_inb : ∀ (c : Fin 4) (a : Fin 2),
    (![128 * c.val, 0] : Fin 2 → ℕ) a + S256x128.size a ≤ S640x128.size a := by decide

theorem last_inb : ∀ a : Fin 2, (![512, 0] : Fin 2 → ℕ) a + S128x128.size a ≤ S640x128.size a := by decide

theorem new_inb : ∀ a : Fin 2, (![128, 0] : Fin 2 → ℕ) a + S512x128.size a ≤ S640x128.size a := by decide

theorem old_inb : ∀ a : Fin 2, (![0, 0] : Fin 2 → ℕ) a + S128x128.size a ≤ S640x128.size a := by decide

/-- The band of a chunk, out of the buffer of keys or of values. -/
def bandLoad (M : Memref sig .tc .vmem S640x128 .bf16) (f : M.view.ty.Contents (Elt F)) (c : Fin 4) : Vec F S256x128 .bf16 :=
  View.readAt (Elt F) M.view (Rect.unit (s := S640x128) ![128 * c.val, 0] S256x128.size (band_inb c)).toLoadRect f

/-- The last 128 rows of the buffer. -/
def lastLoad (M : Memref sig .tc .vmem S640x128 .bf16) (f : M.view.ty.Contents (Elt F)) : Vec F S128x128 .bf16 :=
  View.readAt (Elt F) M.view (Rect.unit (s := S640x128) ![512, 0] S128x128.size last_inb).toLoadRect f

/-- The store of the block's 512 new rows. -/
abbrev newRows (w : Vec F S512x128 .bf16) : View.Piece (Elt F) S640x128 .bf16 :=
  ⟨Rect.unit (s := S640x128) ![128, 0] S512x128.size new_inb, w⟩

/-- The store of the first 128 rows. -/
abbrev oldRows (w : Vec F S128x128 .bf16) : View.Piece (Elt F) S640x128 .bf16 :=
  ⟨Rect.unit (s := S640x128) ![0, 0] S128x128.size old_inb, w⟩

/-- The state of a head, out of the states' buffer. -/
def stateLoad (M : Memref sig .tc .vmem S4x128x128 .f32) (L : List (View.Piece (Elt F) S4x128x128 .f32)) (h : Fin 4) :
    Vec F S1x128x128 .f32 :=
  M.view.readCov L (Rect.unit (s := S4x128x128) ![h.val, 0, 0] S1x128x128.size (head_inb h)).toLoadRect

/-- The whole of a branch's buffer. -/
def branchLoad (M : Memref sig .tc .vmem S512x512 .f32) (L : List (View.Piece (Elt F) S512x512 .f32)) : Vec F S512x512 .f32 :=
  M.view.readCov L (Rect.unit (s := S512x512) ![0, 0] S512x512.size (by decide)).toLoadRect

theorem bandLoad_apply (M : Memref sig .tc .vmem S640x128 .bf16) (f : M.view.ty.Contents (Elt F)) (c : Fin 4)
    (j : Fin 256) (u : Fin 128) :
    bandLoad M f c (ix2 j u) = M.view.read (Elt F) f (ix2 ⟨128 * c.val + j.val, by omega⟩ u) := by
  show M.view.read (Elt F) f _ = _
  congr 1
  funext a
  match a with
  | ⟨0, _⟩ => exact Fin.ext (by show 128 * c.val + 1 * j.val = 128 * c.val + j.val; omega)
  | ⟨1, _⟩ => exact Fin.ext (by show 0 + 1 * u.val = u.val; omega)

theorem lastLoad_apply (M : Memref sig .tc .vmem S640x128 .bf16) (f : M.view.ty.Contents (Elt F)) (j u : Fin 128) :
    lastLoad M f (ix2 j u) = M.view.read (Elt F) f (ix2 ⟨512 + j.val, by omega⟩ u) := by
  show M.view.read (Elt F) f _ = _
  congr 1
  funext a
  match a with
  | ⟨0, _⟩ => exact Fin.ext (by show 512 + 1 * j.val = 512 + j.val; omega)
  | ⟨1, _⟩ => exact Fin.ext (by show 0 + 1 * u.val = u.val; omega)

theorem read_new {sp : Space} (v : View sig .tc sp S640x128 .bf16) (f : v.ty.Contents (Elt F)) (w : Vec F S512x128 .bf16)
    (L : List (View.Piece (Elt F) S640x128 .bf16)) (y : ℕ) (hy : y < 640) (u : Fin 128) (h : 128 ≤ y) :
    v.read (Elt F) (v.writes (Elt F) f (newRows w :: L)) (ix2 ⟨y, hy⟩ u) = w (ix2 ⟨y - 128, by omega⟩ u) := by
  refine View.read_writes_cons_unit_of_mem v f new_inb w L _ (ix2 ⟨y - 128, by omega⟩ u : S512x128.Idx) rfl fun a => ?_
  match a with
  | ⟨0, _⟩ => show y = 128 + (y - 128); omega
  | ⟨1, _⟩ => show u.val = 0 + u.val; omega

theorem read_old {sp : Space} (v : View sig .tc sp S640x128 .bf16) (f : v.ty.Contents (Elt F)) (w : Vec F S512x128 .bf16)
    (L : List (View.Piece (Elt F) S640x128 .bf16)) (y : ℕ) (hy : y < 640) (u : Fin 128) (h : y < 128) :
    v.read (Elt F) (v.writes (Elt F) f (newRows w :: L)) (ix2 ⟨y, hy⟩ u) =
      v.read (Elt F) (v.writes (Elt F) f L) (ix2 ⟨y, hy⟩ u) :=
  View.read_writes_cons_unit_of_not_mem v f new_inb w L _ rfl (0 : Fin 2) (Or.inl h)

theorem read_first {sp : Space} (v : View sig .tc sp S640x128 .bf16) (f : v.ty.Contents (Elt F)) (w : Vec F S128x128 .bf16)
    (L : List (View.Piece (Elt F) S640x128 .bf16)) (y : Fin 128) (u : Fin 128) :
    v.read (Elt F) (v.writes (Elt F) f (oldRows w :: L)) (ix2 ⟨y.val, by omega⟩ u) = w (ix2 y u) := by
  refine View.read_writes_cons_unit_of_mem v f old_inb w L _ (ix2 y u : S128x128.Idx) rfl fun a => ?_
  match a with
  | ⟨0, _⟩ => show y.val = 0 + y.val; omega
  | ⟨1, _⟩ => show u.val = 0 + u.val; omega

theorem stateLoad_apply (M : Memref sig .tc .vmem S4x128x128 .f32) (L : List (View.Piece (Elt F) S4x128x128 .f32))
    (h : Fin 4) (d e : Fin 128) : stateLoad M L h (ix3 0 d e) = View.canon L (ix3 h d e) := by
  unfold stateLoad
  rw [View.readCov_eq_canon']
  show View.canon L _ = _
  congr 1
  funext a
  match a with
  | ⟨0, _⟩ => exact Fin.ext (by show h.val + 1 * 0 = h.val; omega)
  | ⟨1, _⟩ => exact Fin.ext (by show 0 + 1 * d.val = d.val; omega)
  | ⟨2, _⟩ => exact Fin.ext (by show 0 + 1 * e.val = e.val; omega)

theorem branchLoad_apply (M : Memref sig .tc .vmem S512x512 .f32) (L : List (View.Piece (Elt F) S512x512 .f32))
    (r u : Fin 512) : branchLoad M L (ix2 r u) = View.canon L (ix2 r u) := by
  unfold branchLoad
  rw [View.readCov_eq_canon']
  show View.canon L _ = _
  congr 1
  funext a
  match a with
  | ⟨0, _⟩ => exact Fin.ext (by show 0 + 1 * r.val = r.val; omega)
  | ⟨1, _⟩ => exact Fin.ext (by show 0 + 1 * u.val = u.val; omega)

end Cert.Mixer
-- ==== Proof.Held.lean ====
/-
  What a block computes from inputs that hold a sequence's rows, weights and tables: its projections, the band of each
  chunk out of the buffers kept from block to block, and its output.
-/
module

public import proofs.«01_k».proof.Proof.Block
public import proofs.«01_k».proof.Proof.Loads

@[expose] public section

noncomputable section

namespace Cert.Mixer

open Idealize.ShloMosaic Cert.KernelIdeal Cert.KernelIdeal.Gen
open scoped BigOperators

set_option maxRecDepth 16384

/-- The inputs of block `s` of a sequence hold its tokens, and the weights and tables. -/
structure Inputs (P : Params) (s : ℕ) (x0 : Vec Ideal S1x8 .f32) (x1 : Vec Ideal S1x512x1024 .f32)
    (x2 : Vec Ideal S1024x4864 .bf16) (x3 : Vec Ideal S8x128x256 .f32) (x4 x5 x6 x7 : Vec Ideal S4x128x128 .f32)
    (x8 : Vec Ideal S1x512 .f32) (x9 x10 : Vec Ideal S512x1024 .bf16) (x11 : Vec Ideal S1024x1024 .bf16)
    (x12 x13 : Vec Ideal S1x1024 .f32) : Prop where
  sink : ∀ h : Fin 8, x0 (ix2 0 h) = P.sink h.val
  tok : ∀ (r : Fin 512) (k : Fin 1024), x1 (ix3 0 r k) = P.x (512 * s + r.val) k.val
  win : ∀ (k : Fin 1024) (c : Fin 4864), x2 (ix2 k c) = P.w k.val c.val
  bias : ∀ (h : Fin 8) (a : Fin 128) (j : Fin 256), x3 (ix3 h a j) = P.bias h.val a.val j.val
  dm : ∀ (h : Fin 4) (a j : Fin 128), x4 (ix3 h a j) = P.dm h.val a.val j.val
  qd : ∀ (h : Fin 4) (a j : Fin 128), x5 (ix3 h a j) = P.qd h.val a.val j.val
  kd : ∀ (h : Fin 4) (a j : Fin 128), x6 (ix3 h a j) = P.kd h.val a.val j.val
  cd : ∀ (h : Fin 4) (a j : Fin 128), x7 (ix3 h a j) = P.cd h.val a.val j.val
  gn : ∀ c : Fin 512, x8 (ix2 0 c) = P.gn c.val
  wa : ∀ (c : Fin 512) (u : Fin 1024), x9 (ix2 c u) = P.wa c.val u.val
  wr : ∀ (c : Fin 512) (u : Fin 1024), x10 (ix2 c u) = P.wr c.val u.val
  wo : ∀ c u : Fin 1024, x11 (ix2 c u) = P.wo c.val u.val
  lg : ∀ m : Fin 1024, x12 (ix2 0 m) = P.lg m.val
  lb : ∀ m : Fin 1024, x13 (ix2 0 m) = P.lb m.val

variable {P : Params} {s : ℕ} {x0 : Vec Ideal S1x8 .f32} {x1 : Vec Ideal S1x512x1024 .f32}
  {x2 : Vec Ideal S1024x4864 .bf16} {x3 : Vec Ideal S8x128x256 .f32} {x4 x5 x6 x7 : Vec Ideal S4x128x128 .f32}
  {x8 : Vec Ideal S1x512 .f32} {x9 x10 : Vec Ideal S512x1024 .bf16} {x11 : Vec Ideal S1024x1024 .bf16}
  {x12 x13 : Vec Ideal S1x1024 .f32}
  (I : Inputs P s x0 x1 x2 x3 x4 x5 x6 x7 x8 x9 x10 x11 x12 x13)
  (arg2 : Memref sig .tc .smem S1x8 .f32) (harg2 : arg2.IsWhole)
  (arg3 : Memref sig .tc .vmem S1x512x1024 .f32) (harg3 : arg3.IsWhole)
  (arg4 : Memref sig .tc .vmem S1024x4864 .bf16) (harg4 : arg4.IsWhole)
  (arg5 : Memref sig .tc .vmem S8x128x256 .f32) (harg5 : arg5.IsWhole)
  (arg6 arg7 arg8 arg9 : Memref sig .tc .vmem S4x128x128 .f32) (harg6 : arg6.IsWhole) (harg7 : arg7.IsWhole)
  (harg8 : arg8.IsWhole) (harg9 : arg9.IsWhole) (arg10 : Memref sig .tc .vmem S1x512 .f32) (harg10 : arg10.IsWhole)
  (arg11 arg12 : Memref sig .tc .vmem S512x1024 .bf16) (harg11 : arg11.IsWhole) (harg12 : arg12.IsWhole)
  (arg13 : Memref sig .tc .vmem S1024x1024 .bf16) (harg13 : arg13.IsWhole)
  (arg14 arg15 : Memref sig .tc .vmem S1x1024 .f32) (harg14 : arg14.IsWhole) (harg15 : arg15.IsWhole)

include I

theorem projA (o : ℕ) (ho : o + 512 ≤ 4864) (r u : Fin 512) :
    (∑ k : Fin 1024, tokensOf (F := Ideal) arg3 harg3 x1 (ix3 0 r k) * colsA (F := Ideal) arg4 harg4 x2 o ho (ix2 k u)) =
      proj P (512 * s + r.val) (o + u.val) := by
  unfold proj
  refine Finset.sum_congr rfl fun k _ => ?_
  rw [tokensOf_apply, colsA_apply, I.tok, I.win]

theorem projB (o : ℕ) (ho : o + 128 ≤ 4864) (r : Fin 512) (u : Fin 128) :
    (∑ k : Fin 1024, tokensOf (F := Ideal) arg3 harg3 x1 (ix3 0 r k) * colsB (F := Ideal) arg4 harg4 x2 o ho (ix2 k u)) =
      proj P (512 * s + r.val) (o + u.val) := by
  unfold proj
  refine Finset.sum_congr rfl fun k _ => ?_
  rw [tokensOf_apply, colsB_apply, I.tok, I.win]

theorem q_val (r u : Fin 512) :
    k0_pay9 (F := Ideal) (tokensOf arg3 harg3 x1) (colsA arg4 harg4 x2 0 (by norm_num)) (ix2 r u) =
      proj P (512 * s + r.val) u.val * qScale := by
  rw [pay9_apply, projA I arg3 harg3 arg4 harg4, Nat.zero_add]

theorem newK_val (r : Fin 512) (u : Fin 128) :
    k0_pay10 (F := Ideal) (tokensOf arg3 harg3 x1) (colsB arg4 harg4 x2 512 (by norm_num)) (ix2 r u) =
      proj P (512 * s + r.val) (512 + u.val) := by
  rw [pay10_apply, projB I arg3 harg3 arg4 harg4]

theorem newV_val (r : Fin 512) (u : Fin 128) :
    k0_pay11 (F := Ideal) (tokensOf arg3 harg3 x1) (colsB arg4 harg4 x2 640 (by norm_num)) (ix2 r u) =
      proj P (512 * s + r.val) (640 + u.val) := by
  rw [pay11_apply, projB I arg3 harg3 arg4 harg4]

theorem rq_val (r u : Fin 512) :
    k0_pay105 (F := Ideal) (k0_pay8 (tokensOf arg3 harg3 x1)) (colsA arg4 harg4 x2 768 (by norm_num)) (ix2 r u) =
      proj P (512 * s + r.val) (768 + u.val) * rScale := by
  rw [pay105_apply]
  simp only [pay8_apply]
  rw [projA I arg3 harg3 arg4 harg4]

theorem rk_val (r u : Fin 512) :
    k0_pay106 (F := Ideal) (k0_pay8 (tokensOf arg3 harg3 x1)) (colsA arg4 harg4 x2 1280 (by norm_num)) (ix2 r u) =
      proj P (512 * s + r.val) (1280 + u.val) := by
  rw [pay106_apply]
  simp only [pay8_apply]
  rw [projA I arg3 harg3 arg4 harg4]

theorem rv_val (r u : Fin 512) :
    k0_pay107 (F := Ideal) (k0_pay8 (tokensOf arg3 harg3 x1)) (colsA arg4 harg4 x2 1792 (by norm_num)) (ix2 r u) =
      proj P (512 * s + r.val) (1792 + u.val) := by
  rw [pay107_apply]
  simp only [pay8_apply]
  rw [projA I arg3 harg3 arg4 harg4]

theorem rg_val (r u : Fin 512) :
    k0_pay108 (F := Ideal) (k0_pay8 (tokensOf arg3 harg3 x1)) (colsA arg4 harg4 x2 2304 (by norm_num)) (ix2 r u) =
      proj P (512 * s + r.val) (2304 + u.val) := by
  rw [pay108_apply]
  simp only [pay8_apply]
  rw [projA I arg3 harg3 arg4 harg4]

theorem stepTile_val (c h : Fin 4) (S : Vec Ideal S1x128x128 .f32)
    (hS : ∀ d e : Fin 128, S (ix3 0 d e) = state P (4 * s + c.val) h.val d.val e.val) (d e : Fin 128) :
    stepTile (F := Ideal) c h (k0_pay106 (k0_pay8 (tokensOf arg3 harg3 x1)) (colsA arg4 harg4 x2 1280 (by norm_num)))
        (k0_pay107 (k0_pay8 (tokensOf arg3 harg3 x1)) (colsA arg4 harg4 x2 1792 (by norm_num))) S
        (headTable arg8 harg8 x6 h) (headTable arg9 harg9 x7 h) (ix3 0 d e) =
      state P (4 * s + c.val + 1) h.val d.val e.val :=
  state_block P s _ _ (headTable arg8 harg8 x6) (headTable arg9 harg9 x7)
    (rk_val I arg3 harg3 arg4 harg4) (rv_val I arg3 harg3 arg4 harg4)
    (fun h a j => by rw [headTable_apply, I.kd]) (fun h a j => by rw [headTable_apply, I.cd]) c h S hS d e

/-- The residual row of a block, from the band and the states its chunks see. -/
theorem resid_val (arg21 arg22 : Memref sig .tc .vmem S512x512 .f32) (i : grid0.Coords) (hi : (i 1).val = s)
    (k v : Fin 4 → Vec Ideal S256x128 .bf16) (S : Fin 4 → Fin 4 → Vec Ideal S1x128x128 .f32)
    (hk : ∀ (c : Fin 4) (j : Fin 256) (u : Fin 128), k c (ix2 j u) = band P (4 * s + c.val) j.val (512 + u.val))
    (hv : ∀ (c : Fin 4) (j : Fin 256) (u : Fin 128), v c (ix2 j u) = band P (4 * s + c.val) j.val (640 + u.val))
    (hS : ∀ (c h : Fin 4) (d e : Fin 128), S c h (ix3 0 d e) = state P (4 * s + c.val) h.val d.val e.val)
    (r : Fin 512) (m : Fin 1024) :
    k0_pay241 (F := Ideal) (k0_pay7 (tokensOf arg3 harg3 x1)) (k0_pay8 (tokensOf arg3 harg3 x1))
      (branchLoad arg21 (attnPieces i (k0_pay9 (tokensOf arg3 harg3 x1) (colsA arg4 harg4 x2 0 (by norm_num))) k v
        (biasOf arg5 harg5 x3) (sinkOf arg2 harg2 x0)))
      (allA arg11 harg11 x9)
      (branchLoad arg22 (retPieces
        (k0_pay105 (k0_pay8 (tokensOf arg3 harg3 x1)) (colsA arg4 harg4 x2 768 (by norm_num)))
        (k0_pay106 (k0_pay8 (tokensOf arg3 harg3 x1)) (colsA arg4 harg4 x2 1280 (by norm_num)))
        (k0_pay107 (k0_pay8 (tokensOf arg3 harg3 x1)) (colsA arg4 harg4 x2 1792 (by norm_num)))
        (k0_pay108 (k0_pay8 (tokensOf arg3 harg3 x1)) (colsA arg4 harg4 x2 2304 (by norm_num)))
        S (headTable arg6 harg6 x4) (headTable arg7 harg7 x5) (gainOf arg10 harg10 x8)))
      (allA arg12 harg12 x10) (colsC arg4 harg4 x2 2816 (by norm_num)) (colsC arg4 harg4 x2 3840 (by norm_num))
      (allB arg13 harg13 x11) (ix2 r m) = resid P (512 * s + r.val) m.val := by
  refine resid_block P s _ _ _ _ _ _ _ _ (fun r k => ?_) (fun r u => ?_) (fun r u => ?_) (fun c u => ?_) (fun c u => ?_)
    (fun k u => ?_) (fun k u => ?_) (fun k u => ?_) r m
  · rw [tokensOf_apply, I.tok]
  · rw [branchLoad_apply]
    exact attn_block P s i hi _ k v _ _ (q_val I arg3 harg3 arg4 harg4) hk hv
      (fun h a j => by rw [biasOf_apply, I.bias]) (fun h => by rw [sinkOf_apply, I.sink]) r u
  · rw [branchLoad_apply]
    exact ret_block P s _ _ _ _ S _ _ _ (rq_val I arg3 harg3 arg4 harg4) (rk_val I arg3 harg3 arg4 harg4)
      (rv_val I arg3 harg3 arg4 harg4) (rg_val I arg3 harg3 arg4 harg4) hS
      (fun h a j => by rw [headTable_apply, I.dm]) (fun h a j => by rw [headTable_apply, I.qd])
      (fun h d => by rw [gainOf_apply, I.gn]) r u
  · rw [allA_apply, I.wa]
  · rw [allA_apply, I.wr]
  · rw [colsC_apply, I.win]
  · rw [colsC_apply, I.win]
  · rw [allB_apply, I.wo]

/-- The block's output, in both of its formats. -/
theorem out_val (Z : FVec Ideal S512x1024 .f32)
    (hZ : ∀ (r : Fin 512) (m : Fin 1024), Z (ix2 r m) = resid P (512 * s + r.val) m.val) (r : Fin 512) (m : Fin 1024) :
    k0_pay2 (F := Ideal) Z (k0_pay242 (allC arg14 harg14 x12)) (k0_pay243 (allC arg15 harg15 x13)) (k0_pay244 Z) (ix3 0 r m) =
        mixed P (512 * s + r.val) m ∧
      k0_pay3 (F := Ideal) Z (k0_pay242 (allC arg14 harg14 x12)) (k0_pay243 (allC arg15 harg15 x13)) (k0_pay244 Z)
        (ix3 0 r m) = mixed P (512 * s + r.val) m := by
  constructor
  · rw [pay2_apply]; unfold mixed; simp only [hZ, allC_apply, I.lg, I.lb]
  · rw [pay3_apply]; unfold mixed; simp only [hZ, allC_apply, I.lg, I.lb]

omit I

variable (w : Vec Ideal S512x128 .bf16) (o : ℕ)
  (hw : ∀ (r : Fin 512) (u : Fin 128), w (ix2 r u) = proj P (512 * s + r.val) (o + u.val))

include hw

/-- The band of a later chunk of the block lies in the new rows. -/
theorem band_new (M : Memref sig .tc .vmem S640x128 .bf16) (f : M.view.ty.Contents (Elt Ideal))
    (L : List (View.Piece (Elt Ideal) S640x128 .bf16)) (c : Fin 4) (hc : 0 < c.val) (j : Fin 256) (u : Fin 128) :
    bandLoad (F := Ideal) M (M.view.writes (Elt Ideal) f (newRows w :: L)) c (ix2 j u) =
      band P (4 * s + c.val) j.val (o + u.val) := by
  rw [bandLoad_apply, read_new _ _ _ _ _ _ _ (by omega), hw]
  unfold band
  rw [if_neg (by omega)]
  congr 1
  show 512 * s + (128 * c.val + j.val - 128) = 128 * (4 * s + c.val) + j.val - 128
  omega

/-- The band of the first chunk: its first half is what the buffer held before. -/
theorem band_first (M : Memref sig .tc .vmem S640x128 .bf16) (f : M.view.ty.Contents (Elt Ideal))
    (L : List (View.Piece (Elt Ideal) S640x128 .bf16))
    (hL : ∀ y u : Fin 128, M.view.read (Elt Ideal) (M.view.writes (Elt Ideal) f L) (ix2 ⟨y.val, by omega⟩ u) =
      band P (4 * s) y.val (o + u.val)) (j : Fin 256) (u : Fin 128) :
    bandLoad (F := Ideal) M (M.view.writes (Elt Ideal) f (newRows w :: L)) 0 (ix2 j u) =
      band P (4 * s) j.val (o + u.val) := by
  rw [bandLoad_apply]
  by_cases hj : j.val < 128
  · rw [read_old _ _ _ _ _ _ _ (by simpa using hj)]
    have := hL ⟨j.val, hj⟩ u
    rw [← this]
    congr 2
    exact Fin.ext (by show 128 * 0 + j.val = j.val; omega)
  · rw [read_new _ _ _ _ _ _ _ (by simpa using hj), hw]
    unfold band
    rw [if_neg (by omega)]
    congr 1
    show 512 * s + (128 * 0 + j.val - 128) = 128 * (4 * s) + j.val - 128
    omega

/-- What the next block finds in the buffer's first rows. -/
theorem band_last (M : Memref sig .tc .vmem S640x128 .bf16) (f : M.view.ty.Contents (Elt Ideal))
    (L : List (View.Piece (Elt Ideal) S640x128 .bf16)) (j u : Fin 128) :
    lastLoad (F := Ideal) M (M.view.writes (Elt Ideal) f (newRows w :: L)) (ix2 j u) =
      band P (4 * (s + 1)) j.val (o + u.val) := by
  rw [lastLoad_apply, read_new _ _ _ _ _ _ _ (by omega), hw]
  unfold band
  rw [if_neg (by omega)]
  congr 1
  show 512 * s + (512 + j.val - 128) = 128 * (4 * (s + 1)) + j.val - 128
  omega

end Cert.Mixer
-- ==== Proof.Chain.lean ====
/-
  The states' buffer along the kernel's sixteen stores, chunk by chunk and head by head.
-/
module

public import proofs.«01_k».proof.Proof.Held

@[expose] public section

noncomputable section

namespace Cert.Mixer

open Idealize.ShloMosaic Cert.KernelIdeal Cert.KernelIdeal.Gen
open scoped BigOperators

set_option maxRecDepth 16384

/-- The store of one head's new state. -/
def stepPiece {F : FTy → Type} [FloatOps F] (c h : Fin 4) (k : FVec F S512x512 .f32) (v : FVec F S512x512 .bf16)
    (S : Vec F S1x128x128 .f32) (kd cd : Fin 4 → Vec F S1x128x128 .f32) : View.Piece (Elt F) S4x128x128 .f32 :=
  ⟨Rect.unit (s := S4x128x128) ![h.val, 0, 0] S1x128x128.size (head_inb h), stepTile c h k v S (kd h) (cd h)⟩

/-- The heads below `n` hold the state after chunk `c` of the block. -/
def Lo (P : Params) (s : ℕ) (c : ℕ) (n : ℕ) (L : List (View.Piece (Elt Ideal) S4x128x128 .f32)) : Prop :=
  ∀ (h : Fin 4) (d e : Fin 128), h.val < n → View.canon L (ix3 h d e) = state P (4 * s + c + 1) h.val d.val e.val

/-- The heads from `n` on hold the state before chunk `c` of the block. -/
def Hi (P : Params) (s : ℕ) (c : ℕ) (n : ℕ) (L : List (View.Piece (Elt Ideal) S4x128x128 .f32)) : Prop :=
  ∀ (h : Fin 4) (d e : Fin 128), n ≤ h.val → View.canon L (ix3 h d e) = state P (4 * s + c) h.val d.val e.val

/-- A head's state as the block finds it before chunk `c`. -/
def At (P : Params) (s : ℕ) (c h : Fin 4) (S : Vec Ideal S1x128x128 .f32) : Prop :=
  ∀ d e : Fin 128, S (ix3 0 d e) = state P (4 * s + c.val) h.val d.val e.val

theorem Lo.zero {P : Params} {s c : ℕ} {L : List (View.Piece (Elt Ideal) S4x128x128 .f32)} : Lo P s c 0 L :=
  fun _ _ _ h => absurd h (Nat.not_lt_zero _)

theorem Lo.full {P : Params} {s c : ℕ} {L : List (View.Piece (Elt Ideal) S4x128x128 .f32)} (h : Lo P s c 4 L) :
    Hi P s (c + 1) 0 L := fun h' d e _ => h h' d e h'.isLt

theorem Hi.load {P : Params} {s : ℕ} {c h : Fin 4} {L : List (View.Piece (Elt Ideal) S4x128x128 .f32)}
    (M : Memref sig .tc .vmem S4x128x128 .f32) (H : Hi P s c.val h.val L) : At P s c h (stateLoad M L h) :=
  fun d e => by rw [stateLoad_apply]; exact H h d e (Nat.le_refl _)

theorem Hi.step {P : Params} {s : ℕ} {c h : Fin 4} {L : List (View.Piece (Elt Ideal) S4x128x128 .f32)}
    {k : FVec Ideal S512x512 .f32} {v : FVec Ideal S512x512 .bf16} {S : Vec Ideal S1x128x128 .f32}
    {kd cd : Fin 4 → Vec Ideal S1x128x128 .f32} (H : Hi P s c.val h.val L) :
    Hi P s c.val (h.val + 1) (stepPiece c h k v S kd cd :: L) := fun h' d e hn => by
  have h1 : h.val < h'.val := hn
  unfold stepPiece
  rw [state_other h.val h' (by omega)]
  exact H h' d e (by omega)

variable {P : Params} {s : ℕ} {x0 : Vec Ideal S1x8 .f32} {x1 : Vec Ideal S1x512x1024 .f32}
  {x2 : Vec Ideal S1024x4864 .bf16} {x3 : Vec Ideal S8x128x256 .f32} {x4 x5 x6 x7 : Vec Ideal S4x128x128 .f32}
  {x8 : Vec Ideal S1x512 .f32} {x9 x10 : Vec Ideal S512x1024 .bf16} {x11 : Vec Ideal S1024x1024 .bf16}
  {x12 x13 : Vec Ideal S1x1024 .f32}
  (I : Inputs P s x0 x1 x2 x3 x4 x5 x6 x7 x8 x9 x10 x11 x12 x13)
  {arg3 : Memref sig .tc .vmem S1x512x1024 .f32} {harg3 : arg3.IsWhole}
  {arg4 : Memref sig .tc .vmem S1024x4864 .bf16} {harg4 : arg4.IsWhole}
  {arg8 arg9 : Memref sig .tc .vmem S4x128x128 .f32} {harg8 : arg8.IsWhole} {harg9 : arg9.IsWhole}

include I

theorem Lo.step {c h : Fin 4} {L : List (View.Piece (Elt Ideal) S4x128x128 .f32)} {S : Vec Ideal S1x128x128 .f32}
    (H : Lo P s c.val h.val L) (hS : At P s c h S) :
    Lo P s c.val (h.val + 1) (stepPiece c h
      (k0_pay106 (k0_pay8 (tokensOf arg3 harg3 x1)) (colsA arg4 harg4 x2 1280 (by norm_num)))
      (k0_pay107 (k0_pay8 (tokensOf arg3 harg3 x1)) (colsA arg4 harg4 x2 1792 (by norm_num))) S
      (headTable arg8 harg8 x6) (headTable arg9 harg9 x7) :: L) := fun h' d e hn => by
  have h1 : h'.val < h.val + 1 := hn
  by_cases he : h'.val = h.val
  · obtain rfl : h' = h := Fin.ext he
    unfold stepPiece
    rw [state_self h'.val h' rfl]
    exact stepTile_val I arg3 harg3 arg4 harg4 arg8 arg9 harg8 harg9 c h' S hS d e
  · unfold stepPiece
    rw [state_other h.val h' he]
    exact H h' d e (by omega)

end Cert.Mixer
-- ==== Proof.PiecesA.lean ====
/-
  The stores of the kernel's run at a first block of a sequence, named by what they hold: the blocks' keys and values, the chunks'
  states, the two branches and the outputs.
-/
module

public import proofs.«01_k».proof.Proof.Chain
public import proofs.«01_k».proof.Proof.Gen.KernelIdeal.Frame

@[expose] public section

noncomputable section

namespace Cert.Mixer

open Idealize.ShloMosaic Cert.KernelIdeal Cert.KernelIdeal.Gen

set_option maxRecDepth 16384

variable {F : FTy → Type} [FloatOps F]

variable {c : Dev nD} {i : grid0.Coords}
  {arg2 : Memref sig .tc .smem S1x8 .f32} {harg2 : arg2.IsWhole}
  {arg3 : Memref sig .tc .vmem S1x512x1024 .f32} {harg3 : arg3.IsWhole}
  {arg4 : Memref sig .tc .vmem S1024x4864 .bf16} {harg4 : arg4.IsWhole}
  {arg5 : Memref sig .tc .vmem S8x128x256 .f32} {harg5 : arg5.IsWhole}
  {arg6 : Memref sig .tc .vmem S4x128x128 .f32} {harg6 : arg6.IsWhole}
  {arg7 : Memref sig .tc .vmem S4x128x128 .f32} {harg7 : arg7.IsWhole}
  {arg8 : Memref sig .tc .vmem S4x128x128 .f32} {harg8 : arg8.IsWhole}
  {arg9 : Memref sig .tc .vmem S4x128x128 .f32} {harg9 : arg9.IsWhole}
  {arg10 : Memref sig .tc .vmem S1x512 .f32} {harg10 : arg10.IsWhole}
  {arg11 : Memref sig .tc .vmem S512x1024 .bf16} {harg11 : arg11.IsWhole}
  {arg12 : Memref sig .tc .vmem S512x1024 .bf16} {harg12 : arg12.IsWhole}
  {arg13 : Memref sig .tc .vmem S1024x1024 .bf16} {harg13 : arg13.IsWhole}
  {arg14 : Memref sig .tc .vmem S1x1024 .f32} {harg14 : arg14.IsWhole}
  {arg15 : Memref sig .tc .vmem S1x1024 .f32} {harg15 : arg15.IsWhole}
  {arg16 : Memref sig .tc .vmem S1x512x1024 .f32} {harg16 : arg16.IsWhole}
  {arg17 : Memref sig .tc .vmem S1x512x1024 .bf16} {harg17 : arg17.IsWhole}
  {arg18 : Memref sig .tc .vmem S640x128 .bf16} {harg18 : arg18.IsWhole}
  {arg19 : Memref sig .tc .vmem S640x128 .bf16} {harg19 : arg19.IsWhole}
  {arg20 : Memref sig .tc .vmem S4x128x128 .f32} {harg20 : arg20.IsWhole}
  {arg21 : Memref sig .tc .vmem S512x512 .f32} {harg21 : arg21.IsWhole}
  {arg22 : Memref sig .tc .vmem S512x512 .f32} {harg22 : arg22.IsWhole}
  {x0 : Vec F S1x8 .f32}
  {x1 : Vec F S1x512x1024 .f32}
  {x2 : Vec F S1024x4864 .bf16}
  {x3 : Vec F S8x128x256 .f32}
  {x4 : Vec F S4x128x128 .f32}
  {x5 : Vec F S4x128x128 .f32}
  {x6 : Vec F S4x128x128 .f32}
  {x7 : Vec F S4x128x128 .f32}
  {x8 : Vec F S1x512 .f32}
  {x9 : Vec F S512x1024 .bf16}
  {x10 : Vec F S512x1024 .bf16}
  {x11 : Vec F S1024x1024 .bf16}
  {x12 : Vec F S1x1024 .f32}
  {x13 : Vec F S1x1024 .f32}
  {xs0 : Vec F S640x128 .bf16}
  {xs1 : Vec F S640x128 .bf16}
  {xs2 : Vec F S4x128x128 .f32}

/-- The store of the block's keys, over the zeros. -/
theorem keys_A :
    (kernelRun0_A.sl.HS0_2 c arg3 harg3 arg4 harg4 x1 x2) =
      [newRows (k0_pay10 (tokensOf arg3 harg3 x1) (colsB arg4 harg4 x2 512 (by norm_num))), oldRows (k0_pay4 (F := F))] := rfl

/-- The store of the block's values, over the zeros. -/
theorem vals_A :
    (kernelRun0_A.sl.HS1_2 c arg3 harg3 arg4 harg4 x1 x2) =
      [newRows (k0_pay11 (tokensOf arg3 harg3 x1) (colsB arg4 harg4 x2 640 (by norm_num))), oldRows (k0_pay5 (F := F))] := rfl

/-- The band of chunk 0. -/
theorem bandk0_A :
    (kernelRun0_A.sl.v32 c arg3 harg3 arg4 harg4 arg18 x1 x2) =
      bandLoad arg18 (arg18.view.writes (Elt F) arg18.view.junk (kernelRun0_A.sl.HS0_2 c arg3 harg3 arg4 harg4 x1 x2)) 0 := rfl

/-- The band of chunk 0. -/
theorem bandv0_A :
    (kernelRun0_A.sl.v33 c arg3 harg3 arg4 harg4 arg19 x1 x2) =
      bandLoad arg19 (arg19.view.writes (Elt F) arg19.view.junk (kernelRun0_A.sl.HS1_2 c arg3 harg3 arg4 harg4 x1 x2)) 0 := rfl

/-- The band of chunk 1. -/
theorem bandk1_A :
    (kernelRun0_A.sl.v274 c arg3 harg3 arg4 harg4 arg18 x1 x2) =
      bandLoad arg18 (arg18.view.writes (Elt F) arg18.view.junk (kernelRun0_A.sl.HS0_2 c arg3 harg3 arg4 harg4 x1 x2)) 1 := rfl

/-- The band of chunk 1. -/
theorem bandv1_A :
    (kernelRun0_A.sl.v275 c arg3 harg3 arg4 harg4 arg19 x1 x2) =
      bandLoad arg19 (arg19.view.writes (Elt F) arg19.view.junk (kernelRun0_A.sl.HS1_2 c arg3 harg3 arg4 harg4 x1 x2)) 1 := rfl

/-- The band of chunk 2. -/
theorem bandk2_A :
    (kernelRun0_A.sl.v500 c arg3 harg3 arg4 harg4 arg18 x1 x2) =
      bandLoad arg18 (arg18.view.writes (Elt F) arg18.view.junk (kernelRun0_A.sl.HS0_2 c arg3 harg3 arg4 harg4 x1 x2)) 2 := rfl

/-- The band of chunk 2. -/
theorem bandv2_A :
    (kernelRun0_A.sl.v501 c arg3 harg3 arg4 harg4 arg19 x1 x2) =
      bandLoad arg19 (arg19.view.writes (Elt F) arg19.view.junk (kernelRun0_A.sl.HS1_2 c arg3 harg3 arg4 harg4 x1 x2)) 2 := rfl

/-- The band of chunk 3. -/
theorem bandk3_A :
    (kernelRun0_A.sl.v726 c arg3 harg3 arg4 harg4 arg18 x1 x2) =
      bandLoad arg18 (arg18.view.writes (Elt F) arg18.view.junk (kernelRun0_A.sl.HS0_2 c arg3 harg3 arg4 harg4 x1 x2)) 3 := rfl

/-- The band of chunk 3. -/
theorem bandv3_A :
    (kernelRun0_A.sl.v727 c arg3 harg3 arg4 harg4 arg19 x1 x2) =
      bandLoad arg19 (arg19.view.writes (Elt F) arg19.view.junk (kernelRun0_A.sl.HS1_2 c arg3 harg3 arg4 harg4 x1 x2)) 3 := rfl

/-- The rows kept for the next block. -/
theorem lastk_A :
    (kernelRun0_A.sl.v952 c arg3 harg3 arg4 harg4 arg18 x1 x2) =
      lastLoad arg18 (arg18.view.writes (Elt F) arg18.view.junk (kernelRun0_A.sl.HS0_2 c arg3 harg3 arg4 harg4 x1 x2)) := rfl

/-- The rows kept for the next block. -/
theorem lastv_A :
    (kernelRun0_A.sl.v956 c arg3 harg3 arg4 harg4 arg19 x1 x2) =
      lastLoad arg19 (arg19.view.writes (Elt F) arg19.view.junk (kernelRun0_A.sl.HS1_2 c arg3 harg3 arg4 harg4 x1 x2)) := rfl

/-- Head 0's state before chunk 0. -/
theorem load0_A :
    (kernelRun0_A.sl.v979 c arg20) =
      stateLoad arg20 (kernelRun0_A.sl.HS2_1 (F := F)) 0 := rfl

/-- Head 1's state before chunk 0. -/
theorem load1_A :
    (kernelRun0_A.sl.v1037 c arg3 harg3 arg4 harg4 arg8 harg8 arg9 harg9 arg20 x1 x2 x6 x7) =
      stateLoad arg20 (kernelRun0_A.sl.HS2_2 c arg3 harg3 arg4 harg4 arg8 harg8 arg9 harg9 arg20 x1 x2 x6 x7) 1 := rfl

/-- Head 2's state before chunk 0. -/
theorem load2_A :
    (kernelRun0_A.sl.v1095 c arg3 harg3 arg4 harg4 arg8 harg8 arg9 harg9 arg20 x1 x2 x6 x7) =
      stateLoad arg20 (kernelRun0_A.sl.HS2_3 c arg3 harg3 arg4 harg4 arg8 harg8 arg9 harg9 arg20 x1 x2 x6 x7) 2 := rfl

/-- Head 3's state before chunk 0. -/
theorem load3_A :
    (kernelRun0_A.sl.v1153 c arg3 harg3 arg4 harg4 arg8 harg8 arg9 harg9 arg20 x1 x2 x6 x7) =
      stateLoad arg20 (kernelRun0_A.sl.HS2_4 c arg3 harg3 arg4 harg4 arg8 harg8 arg9 harg9 arg20 x1 x2 x6 x7) 3 := rfl

/-- Head 0's state before chunk 1. -/
theorem load4_A :
    (kernelRun0_A.sl.v1211 c arg3 harg3 arg4 harg4 arg8 harg8 arg9 harg9 arg20 x1 x2 x6 x7) =
      stateLoad arg20 (kernelRun0_A.sl.HS2_5 c arg3 harg3 arg4 harg4 arg8 harg8 arg9 harg9 arg20 x1 x2 x6 x7) 0 := rfl

/-- Head 1's state before chunk 1. -/
theorem load5_A :
    (kernelRun0_A.sl.v1269 c arg3 harg3 arg4 harg4 arg8 harg8 arg9 harg9 arg20 x1 x2 x6 x7) =
      stateLoad arg20 (kernelRun0_A.sl.HS2_6 c arg3 harg3 arg4 harg4 arg8 harg8 arg9 harg9 arg20 x1 x2 x6 x7) 1 := rfl

/-- Head 2's state before chunk 1. -/
theorem load6_A :
    (kernelRun0_A.sl.v1327 c arg3 harg3 arg4 harg4 arg8 harg8 arg9 harg9 arg20 x1 x2 x6 x7) =
      stateLoad arg20 (kernelRun0_A.sl.HS2_7 c arg3 harg3 arg4 harg4 arg8 harg8 arg9 harg9 arg20 x1 x2 x6 x7) 2 := rfl

/-- Head 3's state before chunk 1. -/
theorem load7_A :
    (kernelRun0_A.sl.v1385 c arg3 harg3 arg4 harg4 arg8 harg8 arg9 harg9 arg20 x1 x2 x6 x7) =
      stateLoad arg20 (kernelRun0_A.sl.HS2_8 c arg3 harg3 arg4 harg4 arg8 harg8 arg9 harg9 arg20 x1 x2 x6 x7) 3 := rfl

/-- Head 0's state before chunk 2. -/
theorem load8_A :
    (kernelRun0_A.sl.v1443 c arg3 harg3 arg4 harg4 arg8 harg8 arg9 harg9 arg20 x1 x2 x6 x7) =
      stateLoad arg20 (kernelRun0_A.sl.HS2_9 c arg3 harg3 arg4 harg4 arg8 harg8 arg9 harg9 arg20 x1 x2 x6 x7) 0 := rfl

/-- Head 1's state before chunk 2. -/
theorem load9_A :
    (kernelRun0_A.sl.v1501 c arg3 harg3 arg4 harg4 arg8 harg8 arg9 harg9 arg20 x1 x2 x6 x7) =
      stateLoad arg20 (kernelRun0_A.sl.HS2_10 c arg3 harg3 arg4 harg4 arg8 harg8 arg9 harg9 arg20 x1 x2 x6 x7) 1 := rfl

/-- Head 2's state before chunk 2. -/
theorem load10_A :
    (kernelRun0_A.sl.v1559 c arg3 harg3 arg4 harg4 arg8 harg8 arg9 harg9 arg20 x1 x2 x6 x7) =
      stateLoad arg20 (kernelRun0_A.sl.HS2_11 c arg3 harg3 arg4 harg4 arg8 harg8 arg9 harg9 arg20 x1 x2 x6 x7) 2 := rfl

/-- Head 3's state before chunk 2. -/
theorem load11_A :
    (kernelRun0_A.sl.v1617 c arg3 harg3 arg4 harg4 arg8 harg8 arg9 harg9 arg20 x1 x2 x6 x7) =
      stateLoad arg20 (kernelRun0_A.sl.HS2_12 c arg3 harg3 arg4 harg4 arg8 harg8 arg9 harg9 arg20 x1 x2 x6 x7) 3 := rfl

/-- Head 0's state before chunk 3. -/
theorem load12_A :
    (kernelRun0_A.sl.v1675 c arg3 harg3 arg4 harg4 arg8 harg8 arg9 harg9 arg20 x1 x2 x6 x7) =
      stateLoad arg20 (kernelRun0_A.sl.HS2_13 c arg3 harg3 arg4 harg4 arg8 harg8 arg9 harg9 arg20 x1 x2 x6 x7) 0 := rfl

/-- Head 1's state before chunk 3. -/
theorem load13_A :
    (kernelRun0_A.sl.v1733 c arg3 harg3 arg4 harg4 arg8 harg8 arg9 harg9 arg20 x1 x2 x6 x7) =
      stateLoad arg20 (kernelRun0_A.sl.HS2_14 c arg3 harg3 arg4 harg4 arg8 harg8 arg9 harg9 arg20 x1 x2 x6 x7) 1 := rfl

/-- Head 2's state before chunk 3. -/
theorem load14_A :
    (kernelRun0_A.sl.v1791 c arg3 harg3 arg4 harg4 arg8 harg8 arg9 harg9 arg20 x1 x2 x6 x7) =
      stateLoad arg20 (kernelRun0_A.sl.HS2_15 c arg3 harg3 arg4 harg4 arg8 harg8 arg9 harg9 arg20 x1 x2 x6 x7) 2 := rfl

/-- Head 3's state before chunk 3. -/
theorem load15_A :
    (kernelRun0_A.sl.v1849 c arg3 harg3 arg4 harg4 arg8 harg8 arg9 harg9 arg20 x1 x2 x6 x7) =
      stateLoad arg20 (kernelRun0_A.sl.HS2_16 c arg3 harg3 arg4 harg4 arg8 harg8 arg9 harg9 arg20 x1 x2 x6 x7) 3 := rfl

/-- The zeros the states start from. -/
theorem first_A :
    (kernelRun0_A.sl.HS2_1 (F := F)) =
      [⟨Rect.unit (s := S4x128x128) ![0, 0, 0] S4x128x128.size (by decide), k0_pay6 (F := F)⟩] := rfl

/-- The states' stores to chunk 0, head 0. -/
theorem list0_A :
    (kernelRun0_A.sl.HS2_2 c arg3 harg3 arg4 harg4 arg8 harg8 arg9 harg9 arg20 x1 x2 x6 x7) =
      stepPiece 0 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v979 c arg20) (headTable arg8 harg8 x6) (headTable arg9 harg9 x7) :: (kernelRun0_A.sl.HS2_1 (F := F)) := rfl

/-- The states' stores to chunk 0, head 1. -/
theorem list1_A :
    (kernelRun0_A.sl.HS2_3 c arg3 harg3 arg4 harg4 arg8 harg8 arg9 harg9 arg20 x1 x2 x6 x7) =
      stepPiece 0 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1037 c arg3 harg3 arg4 harg4 arg8 harg8 arg9 harg9 arg20 x1 x2 x6 x7) (headTable arg8 harg8 x6) (headTable arg9 harg9 x7) :: (kernelRun0_A.sl.HS2_2 c arg3 harg3 arg4 harg4 arg8 harg8 arg9 harg9 arg20 x1 x2 x6 x7) := rfl

/-- The states' stores to chunk 0, head 2. -/
theorem list2_A :
    (kernelRun0_A.sl.HS2_4 c arg3 harg3 arg4 harg4 arg8 harg8 arg9 harg9 arg20 x1 x2 x6 x7) =
      stepPiece 0 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1095 c arg3 harg3 arg4 harg4 arg8 harg8 arg9 harg9 arg20 x1 x2 x6 x7) (headTable arg8 harg8 x6) (headTable arg9 harg9 x7) :: (kernelRun0_A.sl.HS2_3 c arg3 harg3 arg4 harg4 arg8 harg8 arg9 harg9 arg20 x1 x2 x6 x7) := rfl

/-- The states' stores to chunk 0, head 3. -/
theorem list3_A :
    (kernelRun0_A.sl.HS2_5 c arg3 harg3 arg4 harg4 arg8 harg8 arg9 harg9 arg20 x1 x2 x6 x7) =
      stepPiece 0 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1153 c arg3 harg3 arg4 harg4 arg8 harg8 arg9 harg9 arg20 x1 x2 x6 x7) (headTable arg8 harg8 x6) (headTable arg9 harg9 x7) :: (kernelRun0_A.sl.HS2_4 c arg3 harg3 arg4 harg4 arg8 harg8 arg9 harg9 arg20 x1 x2 x6 x7) := rfl

/-- The states' stores to chunk 1, head 0. -/
theorem list4_A :
    (kernelRun0_A.sl.HS2_6 c arg3 harg3 arg4 harg4 arg8 harg8 arg9 harg9 arg20 x1 x2 x6 x7) =
      stepPiece 1 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1211 c arg3 harg3 arg4 harg4 arg8 harg8 arg9 harg9 arg20 x1 x2 x6 x7) (headTable arg8 harg8 x6) (headTable arg9 harg9 x7) :: (kernelRun0_A.sl.HS2_5 c arg3 harg3 arg4 harg4 arg8 harg8 arg9 harg9 arg20 x1 x2 x6 x7) := rfl

/-- The states' stores to chunk 1, head 1. -/
theorem list5_A :
    (kernelRun0_A.sl.HS2_7 c arg3 harg3 arg4 harg4 arg8 harg8 arg9 harg9 arg20 x1 x2 x6 x7) =
      stepPiece 1 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1269 c arg3 harg3 arg4 harg4 arg8 harg8 arg9 harg9 arg20 x1 x2 x6 x7) (headTable arg8 harg8 x6) (headTable arg9 harg9 x7) :: (kernelRun0_A.sl.HS2_6 c arg3 harg3 arg4 harg4 arg8 harg8 arg9 harg9 arg20 x1 x2 x6 x7) := rfl

/-- The states' stores to chunk 1, head 2. -/
theorem list6_A :
    (kernelRun0_A.sl.HS2_8 c arg3 harg3 arg4 harg4 arg8 harg8 arg9 harg9 arg20 x1 x2 x6 x7) =
      stepPiece 1 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1327 c arg3 harg3 arg4 harg4 arg8 harg8 arg9 harg9 arg20 x1 x2 x6 x7) (headTable arg8 harg8 x6) (headTable arg9 harg9 x7) :: (kernelRun0_A.sl.HS2_7 c arg3 harg3 arg4 harg4 arg8 harg8 arg9 harg9 arg20 x1 x2 x6 x7) := rfl

/-- The states' stores to chunk 1, head 3. -/
theorem list7_A :
    (kernelRun0_A.sl.HS2_9 c arg3 harg3 arg4 harg4 arg8 harg8 arg9 harg9 arg20 x1 x2 x6 x7) =
      stepPiece 1 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1385 c arg3 harg3 arg4 harg4 arg8 harg8 arg9 harg9 arg20 x1 x2 x6 x7) (headTable arg8 harg8 x6) (headTable arg9 harg9 x7) :: (kernelRun0_A.sl.HS2_8 c arg3 harg3 arg4 harg4 arg8 harg8 arg9 harg9 arg20 x1 x2 x6 x7) := rfl

/-- The states' stores to chunk 2, head 0. -/
theorem list8_A :
    (kernelRun0_A.sl.HS2_10 c arg3 harg3 arg4 harg4 arg8 harg8 arg9 harg9 arg20 x1 x2 x6 x7) =
      stepPiece 2 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1443 c arg3 harg3 arg4 harg4 arg8 harg8 arg9 harg9 arg20 x1 x2 x6 x7) (headTable arg8 harg8 x6) (headTable arg9 harg9 x7) :: (kernelRun0_A.sl.HS2_9 c arg3 harg3 arg4 harg4 arg8 harg8 arg9 harg9 arg20 x1 x2 x6 x7) := rfl

/-- The states' stores to chunk 2, head 1. -/
theorem list9_A :
    (kernelRun0_A.sl.HS2_11 c arg3 harg3 arg4 harg4 arg8 harg8 arg9 harg9 arg20 x1 x2 x6 x7) =
      stepPiece 2 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1501 c arg3 harg3 arg4 harg4 arg8 harg8 arg9 harg9 arg20 x1 x2 x6 x7) (headTable arg8 harg8 x6) (headTable arg9 harg9 x7) :: (kernelRun0_A.sl.HS2_10 c arg3 harg3 arg4 harg4 arg8 harg8 arg9 harg9 arg20 x1 x2 x6 x7) := rfl

/-- The states' stores to chunk 2, head 2. -/
theorem list10_A :
    (kernelRun0_A.sl.HS2_12 c arg3 harg3 arg4 harg4 arg8 harg8 arg9 harg9 arg20 x1 x2 x6 x7) =
      stepPiece 2 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1559 c arg3 harg3 arg4 harg4 arg8 harg8 arg9 harg9 arg20 x1 x2 x6 x7) (headTable arg8 harg8 x6) (headTable arg9 harg9 x7) :: (kernelRun0_A.sl.HS2_11 c arg3 harg3 arg4 harg4 arg8 harg8 arg9 harg9 arg20 x1 x2 x6 x7) := rfl

/-- The states' stores to chunk 2, head 3. -/
theorem list11_A :
    (kernelRun0_A.sl.HS2_13 c arg3 harg3 arg4 harg4 arg8 harg8 arg9 harg9 arg20 x1 x2 x6 x7) =
      stepPiece 2 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1617 c arg3 harg3 arg4 harg4 arg8 harg8 arg9 harg9 arg20 x1 x2 x6 x7) (headTable arg8 harg8 x6) (headTable arg9 harg9 x7) :: (kernelRun0_A.sl.HS2_12 c arg3 harg3 arg4 harg4 arg8 harg8 arg9 harg9 arg20 x1 x2 x6 x7) := rfl

/-- The states' stores to chunk 3, head 0. -/
theorem list12_A :
    (kernelRun0_A.sl.HS2_14 c arg3 harg3 arg4 harg4 arg8 harg8 arg9 harg9 arg20 x1 x2 x6 x7) =
      stepPiece 3 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1675 c arg3 harg3 arg4 harg4 arg8 harg8 arg9 harg9 arg20 x1 x2 x6 x7) (headTable arg8 harg8 x6) (headTable arg9 harg9 x7) :: (kernelRun0_A.sl.HS2_13 c arg3 harg3 arg4 harg4 arg8 harg8 arg9 harg9 arg20 x1 x2 x6 x7) := rfl

/-- The states' stores to chunk 3, head 1. -/
theorem list13_A :
    (kernelRun0_A.sl.HS2_15 c arg3 harg3 arg4 harg4 arg8 harg8 arg9 harg9 arg20 x1 x2 x6 x7) =
      stepPiece 3 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1733 c arg3 harg3 arg4 harg4 arg8 harg8 arg9 harg9 arg20 x1 x2 x6 x7) (headTable arg8 harg8 x6) (headTable arg9 harg9 x7) :: (kernelRun0_A.sl.HS2_14 c arg3 harg3 arg4 harg4 arg8 harg8 arg9 harg9 arg20 x1 x2 x6 x7) := rfl

/-- The states' stores to chunk 3, head 2. -/
theorem list14_A :
    (kernelRun0_A.sl.HS2_16 c arg3 harg3 arg4 harg4 arg8 harg8 arg9 harg9 arg20 x1 x2 x6 x7) =
      stepPiece 3 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1791 c arg3 harg3 arg4 harg4 arg8 harg8 arg9 harg9 arg20 x1 x2 x6 x7) (headTable arg8 harg8 x6) (headTable arg9 harg9 x7) :: (kernelRun0_A.sl.HS2_15 c arg3 harg3 arg4 harg4 arg8 harg8 arg9 harg9 arg20 x1 x2 x6 x7) := rfl

set_option maxHeartbeats 4000000 in
/-- The attention's stores. -/
theorem attn_A :
    (kernelRun0_A.sl.HS3_32 c i arg2 harg2 arg3 harg3 arg4 harg4 arg5 harg5 arg18 arg19 x0 x1 x2 x3) =
      (attnPieces i (k0_pay9 (tokensOf arg3 harg3 x1) (colsA arg4 harg4 x2 0 (by norm_num))) ![(kernelRun0_A.sl.v32 c arg3 harg3 arg4 harg4 arg18 x1 x2), (kernelRun0_A.sl.v274 c arg3 harg3 arg4 harg4 arg18 x1 x2), (kernelRun0_A.sl.v500 c arg3 harg3 arg4 harg4 arg18 x1 x2), (kernelRun0_A.sl.v726 c arg3 harg3 arg4 harg4 arg18 x1 x2)]
      ![(kernelRun0_A.sl.v33 c arg3 harg3 arg4 harg4 arg19 x1 x2), (kernelRun0_A.sl.v275 c arg3 harg3 arg4 harg4 arg19 x1 x2), (kernelRun0_A.sl.v501 c arg3 harg3 arg4 harg4 arg19 x1 x2), (kernelRun0_A.sl.v727 c arg3 harg3 arg4 harg4 arg19 x1 x2)] (biasOf arg5 harg5 x3) (sinkOf arg2 harg2 x0)) := rfl

set_option maxHeartbeats 4000000 in
/-- The retention's stores. -/
theorem ret_A :
    (kernelRun0_A.sl.HS4_16 c arg3 harg3 arg4 harg4 arg6 harg6 arg7 harg7 arg8 harg8 arg9 harg9 arg10 harg10 arg20 x1 x2 x4 x5 x6 x7 x8) =
      (retPieces (k0_pay105 (k0_pay8 (tokensOf arg3 harg3 x1)) (colsA arg4 harg4 x2 768 (by norm_num))) (k0_pay106 (k0_pay8 (tokensOf arg3 harg3 x1)) (colsA arg4 harg4 x2 1280 (by norm_num))) (k0_pay107 (k0_pay8 (tokensOf arg3 harg3 x1)) (colsA arg4 harg4 x2 1792 (by norm_num))) (k0_pay108 (k0_pay8 (tokensOf arg3 harg3 x1)) (colsA arg4 harg4 x2 2304 (by norm_num)))
      ![![(kernelRun0_A.sl.v979 c arg20), (kernelRun0_A.sl.v1037 c arg3 harg3 arg4 harg4 arg8 harg8 arg9 harg9 arg20 x1 x2 x6 x7), (kernelRun0_A.sl.v1095 c arg3 harg3 arg4 harg4 arg8 harg8 arg9 harg9 arg20 x1 x2 x6 x7), (kernelRun0_A.sl.v1153 c arg3 harg3 arg4 harg4 arg8 harg8 arg9 harg9 arg20 x1 x2 x6 x7)], ![(kernelRun0_A.sl.v1211 c arg3 harg3 arg4 harg4 arg8 harg8 arg9 harg9 arg20 x1 x2 x6 x7), (kernelRun0_A.sl.v1269 c arg3 harg3 arg4 harg4 arg8 harg8 arg9 harg9 arg20 x1 x2 x6 x7), (kernelRun0_A.sl.v1327 c arg3 harg3 arg4 harg4 arg8 harg8 arg9 harg9 arg20 x1 x2 x6 x7), (kernelRun0_A.sl.v1385 c arg3 harg3 arg4 harg4 arg8 harg8 arg9 harg9 arg20 x1 x2 x6 x7)], ![(kernelRun0_A.sl.v1443 c arg3 harg3 arg4 harg4 arg8 harg8 arg9 harg9 arg20 x1 x2 x6 x7), (kernelRun0_A.sl.v1501 c arg3 harg3 arg4 harg4 arg8 harg8 arg9 harg9 arg20 x1 x2 x6 x7), (kernelRun0_A.sl.v1559 c arg3 harg3 arg4 harg4 arg8 harg8 arg9 harg9 arg20 x1 x2 x6 x7), (kernelRun0_A.sl.v1617 c arg3 harg3 arg4 harg4 arg8 harg8 arg9 harg9 arg20 x1 x2 x6 x7)], ![(kernelRun0_A.sl.v1675 c arg3 harg3 arg4 harg4 arg8 harg8 arg9 harg9 arg20 x1 x2 x6 x7), (kernelRun0_A.sl.v1733 c arg3 harg3 arg4 harg4 arg8 harg8 arg9 harg9 arg20 x1 x2 x6 x7), (kernelRun0_A.sl.v1791 c arg3 harg3 arg4 harg4 arg8 harg8 arg9 harg9 arg20 x1 x2 x6 x7), (kernelRun0_A.sl.v1849 c arg3 harg3 arg4 harg4 arg8 harg8 arg9 harg9 arg20 x1 x2 x6 x7)]]
      (headTable arg6 harg6 x4) (headTable arg7 harg7 x5) (gainOf arg10 harg10 x8)) := rfl

/-- The residual row. -/
theorem resid_A :
    (kernelRun0_A.sl.r_140 c i arg2 harg2 arg3 harg3 arg4 harg4 arg5 harg5 arg6 harg6 arg7 harg7 arg8 harg8 arg9 harg9 arg10 harg10 arg11 harg11 arg12 harg12 arg13 harg13 arg18 arg19 arg20 arg21 arg22 x0 x1 x2 x3 x4 x5 x6 x7 x8 x9 x10 x11) =
      k0_pay241 (k0_pay7 (tokensOf arg3 harg3 x1)) (k0_pay8 (tokensOf arg3 harg3 x1)) (branchLoad arg21 (kernelRun0_A.sl.HS3_32 c i arg2 harg2 arg3 harg3 arg4 harg4 arg5 harg5 arg18 arg19 x0 x1 x2 x3)) (allA arg11 harg11 x9)
        (branchLoad arg22 (kernelRun0_A.sl.HS4_16 c arg3 harg3 arg4 harg4 arg6 harg6 arg7 harg7 arg8 harg8 arg9 harg9 arg10 harg10 arg20 x1 x2 x4 x5 x6 x7 x8)) (allA arg12 harg12 x10) (colsC arg4 harg4 x2 2816 (by norm_num)) (colsC arg4 harg4 x2 3840 (by norm_num)) (allB arg13 harg13 x11) := rfl

variable (hc0 : cond0_0 i)

/-- The block's output. -/
theorem out14_A :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 =
      VO0_14.read (Elt F) (VO0_14.writes (Elt F) VO0_14.junk [⟨Rect.unit (s := S1x512x1024) ![0, 0, 0] S1x512x1024.size tokens_inb,
        k0_pay2 (kernelRun0_A.sl.r_140 c i arg2 harg2 arg3 harg3 arg4 harg4 arg5 harg5 arg6 harg6 arg7 harg7 arg8 harg8 arg9 harg9 arg10 harg10 arg11 harg11 arg12 harg12 arg13 harg13 arg18 arg19 arg20 arg21 arg22 x0 x1 x2 x3 x4 x5 x6 x7 x8 x9 x10 x11) (k0_pay242 (allC arg14 harg14 x12)) (k0_pay243 (allC arg15 harg15 x13)) (k0_pay244 (kernelRun0_A.sl.r_140 c i arg2 harg2 arg3 harg3 arg4 harg4 arg5 harg5 arg6 harg6 arg7 harg7 arg8 harg8 arg9 harg9 arg10 harg10 arg11 harg11 arg12 harg12 arg13 harg13 arg18 arg19 arg20 arg21 arg22 x0 x1 x2 x3 x4 x5 x6 x7 x8 x9 x10 x11))⟩]) := rfl

/-- The block's output. -/
theorem out15_A :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 =
      VO0_15.read (Elt F) (VO0_15.writes (Elt F) VO0_15.junk [⟨Rect.unit (s := S1x512x1024) ![0, 0, 0] S1x512x1024.size tokens_inb,
        k0_pay3 (kernelRun0_A.sl.r_140 c i arg2 harg2 arg3 harg3 arg4 harg4 arg5 harg5 arg6 harg6 arg7 harg7 arg8 harg8 arg9 harg9 arg10 harg10 arg11 harg11 arg12 harg12 arg13 harg13 arg18 arg19 arg20 arg21 arg22 x0 x1 x2 x3 x4 x5 x6 x7 x8 x9 x10 x11) (k0_pay242 (allC arg14 harg14 x12)) (k0_pay243 (allC arg15 harg15 x13)) (k0_pay244 (kernelRun0_A.sl.r_140 c i arg2 harg2 arg3 harg3 arg4 harg4 arg5 harg5 arg6 harg6 arg7 harg7 arg8 harg8 arg9 harg9 arg10 harg10 arg11 harg11 arg12 harg12 arg13 harg13 arg18 arg19 arg20 arg21 arg22 x0 x1 x2 x3 x4 x5 x6 x7 x8 x9 x10 x11))⟩]) := rfl

/-- The buffer of keys after the block. -/
theorem skeys_A :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 =
      VS0_0.read (Elt F) (VS0_0.writes (Elt F) VS0_0.junk (oldRows (k0_pay103 (kernelRun0_A.sl.v952 c arg3 harg3 arg4 harg4 arg18 x1 x2)) :: (kernelRun0_A.sl.HS0_2 c arg3 harg3 arg4 harg4 x1 x2))) := rfl

/-- The buffer of values after the block. -/
theorem svals_A :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 =
      VS0_1.read (Elt F) (VS0_1.writes (Elt F) VS0_1.junk (oldRows (k0_pay104 (kernelRun0_A.sl.v956 c arg3 harg3 arg4 harg4 arg19 x1 x2)) :: (kernelRun0_A.sl.HS1_2 c arg3 harg3 arg4 harg4 x1 x2))) := rfl

/-- The states after the block. -/
theorem sstate_A :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 =
      VS0_2.read (Elt F) (VS0_2.writes (Elt F) VS0_2.junk (stepPiece 3 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_A.sl.v1849 c arg3 harg3 arg4 harg4 arg8 harg8 arg9 harg9 arg20 x1 x2 x6 x7) (headTable arg8 harg8 x6) (headTable arg9 harg9 x7) :: (kernelRun0_A.sl.HS2_16 c arg3 harg3 arg4 harg4 arg8 harg8 arg9 harg9 arg20 x1 x2 x6 x7))) := rfl

end Cert.Mixer
-- ==== Proof.Zeros.lean ====
/-
  The zeros a sequence starts from.
-/
module

public import proofs.«01_k».proof.Proof.Chain

@[expose] public section

noncomputable section

namespace Cert.Mixer

open Idealize.ShloMosaic Cert.KernelIdeal Cert.KernelIdeal.Gen
open scoped BigOperators

set_option maxRecDepth 16384

theorem pay4_apply (j u : Fin 128) : k0_pay4 (F := Ideal) (ix2 j u) = 0 := by
  pointwise [k0_pay4]

theorem pay5_apply (j u : Fin 128) : k0_pay5 (F := Ideal) (ix2 j u) = 0 := by
  pointwise [k0_pay5]

theorem pay6_apply (h : Fin 4) (d e : Fin 128) : k0_pay6 (F := Ideal) (ix3 h d e) = 0 := by
  pointwise [k0_pay6]

theorem whole_inb : ∀ a : Fin 3, (![0, 0, 0] : Fin 3 → ℕ) a + S4x128x128.size a ≤ S4x128x128.size a := by decide

theorem first_state {P : Params} (h : Fin 4) (d e : Fin 128) :
    View.canon [(⟨Rect.unit (s := S4x128x128) ![0, 0, 0] S4x128x128.size whole_inb, k0_pay6 (F := Ideal)⟩ :
      View.Piece (Elt Ideal) S4x128x128 .f32)] (ix3 h d e) =
      state P (4 * 0) h.val d.val e.val := by
  have he : (ix3 h d e : S4x128x128.Idx) = (Rect.unit (s := S4x128x128) ![0, 0, 0] S4x128x128.size whole_inb).emb (ix3 h d e) := by
    funext a
    match a with
    | ⟨0, _⟩ => exact Fin.ext (by show h.val = 0 + 1 * h.val; omega)
    | ⟨1, _⟩ => exact Fin.ext (by show d.val = 0 + 1 * d.val; omega)
    | ⟨2, _⟩ => exact Fin.ext (by show e.val = 0 + 1 * e.val; omega)
  rw [he, View.canon_cons_emb]
  exact pay6_apply h d e

end Cert.Mixer
-- ==== Proof.After.lean ====
/-
  What a block of a sequence leaves: its output, and what the next block finds.
-/
module

public import proofs.«01_k».proof.Proof.Chain

@[expose] public section

noncomputable section

namespace Cert.Mixer

open Idealize.ShloMosaic Cert.KernelIdeal Cert.KernelIdeal.Gen

/-- What holds after block `s` of a sequence: its output, and what the next block finds. -/
structure After (P : Params) (s : ℕ) (o : Vec Ideal S1x512x1024 .f32 × Vec Ideal S1x512x1024 .bf16 ×
    Vec Ideal S640x128 .bf16 × Vec Ideal S640x128 .bf16 × Vec Ideal S4x128x128 .f32) : Prop where
  out : ∀ (r : Fin 512) (q : Fin 1024), o.1 (ix3 0 r q) = mixed P (512 * s + r.val) q
  outb : ∀ (r : Fin 512) (q : Fin 1024), o.2.1 (ix3 0 r q) = mixed P (512 * s + r.val) q
  keys : ∀ y u : Fin 128, o.2.2.1 (ix2 ⟨y.val, by omega⟩ u) = band P (4 * (s + 1)) y.val (512 + u.val)
  vals : ∀ y u : Fin 128, o.2.2.2.1 (ix2 ⟨y.val, by omega⟩ u) = band P (4 * (s + 1)) y.val (640 + u.val)
  states : ∀ (h : Fin 4) (d e : Fin 128), o.2.2.2.2 (ix3 h d e) = state P (4 * (s + 1)) h.val d.val e.val

theorem After.of {P : Params} {s : ℕ} {a : Vec Ideal S1x512x1024 .f32} {b : Vec Ideal S1x512x1024 .bf16}
    {k v : Vec Ideal S640x128 .bf16} {S : Vec Ideal S4x128x128 .f32}
    (ha : ∀ (r : Fin 512) (q : Fin 1024), a (ix3 0 r q) = mixed P (512 * s + r.val) q)
    (hb : ∀ (r : Fin 512) (q : Fin 1024), b (ix3 0 r q) = mixed P (512 * s + r.val) q)
    (hk : ∀ y u : Fin 128, k (ix2 ⟨y.val, by omega⟩ u) = band P (4 * (s + 1)) y.val (512 + u.val))
    (hv : ∀ y u : Fin 128, v (ix2 ⟨y.val, by omega⟩ u) = band P (4 * (s + 1)) y.val (640 + u.val))
    (hS : ∀ (h : Fin 4) (d e : Fin 128), S (ix3 h d e) = state P (4 * (s + 1)) h.val d.val e.val) :
    After P s (a, b, k, v, S) :=
  ⟨ha, hb, hk, hv, hS⟩

end Cert.Mixer
-- ==== Proof.CaseA.lean ====
/-
  The kernel's run at a first block of a sequence: its output is the mixed rows, and it leaves the next block its band and states.
-/
module

public import proofs.«01_k».proof.Proof.PiecesA
public import proofs.«01_k».proof.Proof.Zeros
public import proofs.«01_k».proof.Proof.After

@[expose] public section

noncomputable section

namespace Cert.Mixer

open Idealize.ShloMosaic Cert.KernelIdeal Cert.KernelIdeal.Gen
open scoped BigOperators

set_option maxRecDepth 16384
set_option backward.proofsInPublic true

variable {c : Dev nD} {i : grid0.Coords}
  {arg2 : Memref sig .tc .smem S1x8 .f32} {harg2 : arg2.IsWhole}
  {arg3 : Memref sig .tc .vmem S1x512x1024 .f32} {harg3 : arg3.IsWhole}
  {arg4 : Memref sig .tc .vmem S1024x4864 .bf16} {harg4 : arg4.IsWhole}
  {arg5 : Memref sig .tc .vmem S8x128x256 .f32} {harg5 : arg5.IsWhole}
  {arg6 : Memref sig .tc .vmem S4x128x128 .f32} {harg6 : arg6.IsWhole}
  {arg7 : Memref sig .tc .vmem S4x128x128 .f32} {harg7 : arg7.IsWhole}
  {arg8 : Memref sig .tc .vmem S4x128x128 .f32} {harg8 : arg8.IsWhole}
  {arg9 : Memref sig .tc .vmem S4x128x128 .f32} {harg9 : arg9.IsWhole}
  {arg10 : Memref sig .tc .vmem S1x512 .f32} {harg10 : arg10.IsWhole}
  {arg11 : Memref sig .tc .vmem S512x1024 .bf16} {harg11 : arg11.IsWhole}
  {arg12 : Memref sig .tc .vmem S512x1024 .bf16} {harg12 : arg12.IsWhole}
  {arg13 : Memref sig .tc .vmem S1024x1024 .bf16} {harg13 : arg13.IsWhole}
  {arg14 : Memref sig .tc .vmem S1x1024 .f32} {harg14 : arg14.IsWhole}
  {arg15 : Memref sig .tc .vmem S1x1024 .f32} {harg15 : arg15.IsWhole}
  {arg16 : Memref sig .tc .vmem S1x512x1024 .f32} {harg16 : arg16.IsWhole}
  {arg17 : Memref sig .tc .vmem S1x512x1024 .bf16} {harg17 : arg17.IsWhole}
  {arg18 : Memref sig .tc .vmem S640x128 .bf16} {harg18 : arg18.IsWhole}
  {arg19 : Memref sig .tc .vmem S640x128 .bf16} {harg19 : arg19.IsWhole}
  {arg20 : Memref sig .tc .vmem S4x128x128 .f32} {harg20 : arg20.IsWhole}
  {arg21 : Memref sig .tc .vmem S512x512 .f32} {harg21 : arg21.IsWhole}
  {arg22 : Memref sig .tc .vmem S512x512 .f32} {harg22 : arg22.IsWhole}
  {x0 : Vec Ideal S1x8 .f32}
  {x1 : Vec Ideal S1x512x1024 .f32}
  {x2 : Vec Ideal S1024x4864 .bf16}
  {x3 : Vec Ideal S8x128x256 .f32}
  {x4 : Vec Ideal S4x128x128 .f32}
  {x5 : Vec Ideal S4x128x128 .f32}
  {x6 : Vec Ideal S4x128x128 .f32}
  {x7 : Vec Ideal S4x128x128 .f32}
  {x8 : Vec Ideal S1x512 .f32}
  {x9 : Vec Ideal S512x1024 .bf16}
  {x10 : Vec Ideal S512x1024 .bf16}
  {x11 : Vec Ideal S1024x1024 .bf16}
  {x12 : Vec Ideal S1x1024 .f32}
  {x13 : Vec Ideal S1x1024 .f32}
  {xs0 : Vec Ideal S640x128 .bf16}
  {xs1 : Vec Ideal S640x128 .bf16}
  {xs2 : Vec Ideal S4x128x128 .f32}

variable {P : Params} {s : ℕ} (I : Inputs P s x0 x1 x2 x3 x4 x5 x6 x7 x8 x9 x10 x11 x12 x13) (hs0 : s = 0)

include I hs0

theorem bk0_A (j : Fin 256) (u : Fin 128) : (kernelRun0_A.sl.v32 c arg3 harg3 arg4 harg4 arg18 x1 x2) (ix2 j u) = band P (4 * s + 0) j.val (512 + u.val) :=
  (congrFun (bandk0_A (F := Ideal)) _).trans (by
      rw [keys_A]
      exact band_first _ 512 (newK_val I arg3 harg3 arg4 harg4) _ _ _ (fun y u => by
        rw [read_first, pay4_apply, hs0]; unfold band; rw [if_pos (by omega)]) j u)

theorem bk1_A (j : Fin 256) (u : Fin 128) : (kernelRun0_A.sl.v274 c arg3 harg3 arg4 harg4 arg18 x1 x2) (ix2 j u) = band P (4 * s + 1) j.val (512 + u.val) :=
  (congrFun (bandk1_A (F := Ideal)) _).trans (by
      rw [keys_A]
      exact band_new _ 512 (newK_val I arg3 harg3 arg4 harg4) _ _ _ 1 (by decide) j u)

theorem bk2_A (j : Fin 256) (u : Fin 128) : (kernelRun0_A.sl.v500 c arg3 harg3 arg4 harg4 arg18 x1 x2) (ix2 j u) = band P (4 * s + 2) j.val (512 + u.val) :=
  (congrFun (bandk2_A (F := Ideal)) _).trans (by
      rw [keys_A]
      exact band_new _ 512 (newK_val I arg3 harg3 arg4 harg4) _ _ _ 2 (by decide) j u)

theorem bk3_A (j : Fin 256) (u : Fin 128) : (kernelRun0_A.sl.v726 c arg3 harg3 arg4 harg4 arg18 x1 x2) (ix2 j u) = band P (4 * s + 3) j.val (512 + u.val) :=
  (congrFun (bandk3_A (F := Ideal)) _).trans (by
      rw [keys_A]
      exact band_new _ 512 (newK_val I arg3 harg3 arg4 harg4) _ _ _ 3 (by decide) j u)

/-- The bands of keys of the block's chunks. -/
theorem bk_A (n : Fin 4) (j : Fin 256) (u : Fin 128) :
    (![(kernelRun0_A.sl.v32 c arg3 harg3 arg4 harg4 arg18 x1 x2), (kernelRun0_A.sl.v274 c arg3 harg3 arg4 harg4 arg18 x1 x2), (kernelRun0_A.sl.v500 c arg3 harg3 arg4 harg4 arg18 x1 x2), (kernelRun0_A.sl.v726 c arg3 harg3 arg4 harg4 arg18 x1 x2)] : Fin 4 → Vec Ideal S256x128 .bf16) n (ix2 j u) =
      band P (4 * s + n.val) j.val (512 + u.val) := by
  match n with
  | ⟨0, _⟩ => exact bk0_A (P := P) (s := s) (by assumption) (by assumption) j u
  | ⟨1, _⟩ => exact bk1_A (P := P) (s := s) (by assumption) (by assumption) j u
  | ⟨2, _⟩ => exact bk2_A (P := P) (s := s) (by assumption) (by assumption) j u
  | ⟨3, _⟩ => exact bk3_A (P := P) (s := s) (by assumption) (by assumption) j u

theorem bv0_A (j : Fin 256) (u : Fin 128) : (kernelRun0_A.sl.v33 c arg3 harg3 arg4 harg4 arg19 x1 x2) (ix2 j u) = band P (4 * s + 0) j.val (640 + u.val) :=
  (congrFun (bandv0_A (F := Ideal)) _).trans (by
      rw [vals_A]
      exact band_first _ 640 (newV_val I arg3 harg3 arg4 harg4) _ _ _ (fun y u => by
        rw [read_first, pay5_apply, hs0]; unfold band; rw [if_pos (by omega)]) j u)

theorem bv1_A (j : Fin 256) (u : Fin 128) : (kernelRun0_A.sl.v275 c arg3 harg3 arg4 harg4 arg19 x1 x2) (ix2 j u) = band P (4 * s + 1) j.val (640 + u.val) :=
  (congrFun (bandv1_A (F := Ideal)) _).trans (by
      rw [vals_A]
      exact band_new _ 640 (newV_val I arg3 harg3 arg4 harg4) _ _ _ 1 (by decide) j u)

theorem bv2_A (j : Fin 256) (u : Fin 128) : (kernelRun0_A.sl.v501 c arg3 harg3 arg4 harg4 arg19 x1 x2) (ix2 j u) = band P (4 * s + 2) j.val (640 + u.val) :=
  (congrFun (bandv2_A (F := Ideal)) _).trans (by
      rw [vals_A]
      exact band_new _ 640 (newV_val I arg3 harg3 arg4 harg4) _ _ _ 2 (by decide) j u)

theorem bv3_A (j : Fin 256) (u : Fin 128) : (kernelRun0_A.sl.v727 c arg3 harg3 arg4 harg4 arg19 x1 x2) (ix2 j u) = band P (4 * s + 3) j.val (640 + u.val) :=
  (congrFun (bandv3_A (F := Ideal)) _).trans (by
      rw [vals_A]
      exact band_new _ 640 (newV_val I arg3 harg3 arg4 harg4) _ _ _ 3 (by decide) j u)

/-- The bands of values of the block's chunks. -/
theorem bv_A (n : Fin 4) (j : Fin 256) (u : Fin 128) :
    (![(kernelRun0_A.sl.v33 c arg3 harg3 arg4 harg4 arg19 x1 x2), (kernelRun0_A.sl.v275 c arg3 harg3 arg4 harg4 arg19 x1 x2), (kernelRun0_A.sl.v501 c arg3 harg3 arg4 harg4 arg19 x1 x2), (kernelRun0_A.sl.v727 c arg3 harg3 arg4 harg4 arg19 x1 x2)] : Fin 4 → Vec Ideal S256x128 .bf16) n (ix2 j u) =
      band P (4 * s + n.val) j.val (640 + u.val) := by
  match n with
  | ⟨0, _⟩ => exact bv0_A (P := P) (s := s) (by assumption) (by assumption) j u
  | ⟨1, _⟩ => exact bv1_A (P := P) (s := s) (by assumption) (by assumption) j u
  | ⟨2, _⟩ => exact bv2_A (P := P) (s := s) (by assumption) (by assumption) j u
  | ⟨3, _⟩ => exact bv3_A (P := P) (s := s) (by assumption) (by assumption) j u

theorem lohi0_A : Lo P s 0 0 (kernelRun0_A.sl.HS2_1 (F := Ideal)) ∧ Hi P s 0 0 (kernelRun0_A.sl.HS2_1 (F := Ideal)) := by
  refine ⟨Lo.zero, fun h d e _ => ?_⟩
  rw [first_A]
  subst hs0
  exact first_state h d e

theorem at0_A : At P s 0 0 (kernelRun0_A.sl.v979 c arg20) := by
  rw [load0_A]
  exact Hi.load (c := 0) (h := 0) arg20 (lohi0_A I hs0).2

theorem lohi1_A : Lo P s 0 1 (kernelRun0_A.sl.HS2_2 c arg3 harg3 arg4 harg4 arg8 harg8 arg9 harg9 arg20 x1 x2 x6 x7) ∧ Hi P s 0 1 (kernelRun0_A.sl.HS2_2 c arg3 harg3 arg4 harg4 arg8 harg8 arg9 harg9 arg20 x1 x2 x6 x7) := by
  rw [list0_A]
  exact ⟨Lo.step I (c := 0) (h := 0) (lohi0_A I hs0).1 (at0_A I hs0), Hi.step (c := 0) (h := 0) (lohi0_A I hs0).2⟩

theorem at1_A : At P s 0 1 (kernelRun0_A.sl.v1037 c arg3 harg3 arg4 harg4 arg8 harg8 arg9 harg9 arg20 x1 x2 x6 x7) := by
  rw [load1_A]
  exact Hi.load (c := 0) (h := 1) arg20 (lohi1_A I hs0).2

theorem lohi2_A : Lo P s 0 2 (kernelRun0_A.sl.HS2_3 c arg3 harg3 arg4 harg4 arg8 harg8 arg9 harg9 arg20 x1 x2 x6 x7) ∧ Hi P s 0 2 (kernelRun0_A.sl.HS2_3 c arg3 harg3 arg4 harg4 arg8 harg8 arg9 harg9 arg20 x1 x2 x6 x7) := by
  rw [list1_A]
  exact ⟨Lo.step I (c := 0) (h := 1) (lohi1_A I hs0).1 (at1_A I hs0), Hi.step (c := 0) (h := 1) (lohi1_A I hs0).2⟩

theorem at2_A : At P s 0 2 (kernelRun0_A.sl.v1095 c arg3 harg3 arg4 harg4 arg8 harg8 arg9 harg9 arg20 x1 x2 x6 x7) := by
  rw [load2_A]
  exact Hi.load (c := 0) (h := 2) arg20 (lohi2_A I hs0).2

theorem lohi3_A : Lo P s 0 3 (kernelRun0_A.sl.HS2_4 c arg3 harg3 arg4 harg4 arg8 harg8 arg9 harg9 arg20 x1 x2 x6 x7) ∧ Hi P s 0 3 (kernelRun0_A.sl.HS2_4 c arg3 harg3 arg4 harg4 arg8 harg8 arg9 harg9 arg20 x1 x2 x6 x7) := by
  rw [list2_A]
  exact ⟨Lo.step I (c := 0) (h := 2) (lohi2_A I hs0).1 (at2_A I hs0), Hi.step (c := 0) (h := 2) (lohi2_A I hs0).2⟩

theorem at3_A : At P s 0 3 (kernelRun0_A.sl.v1153 c arg3 harg3 arg4 harg4 arg8 harg8 arg9 harg9 arg20 x1 x2 x6 x7) := by
  rw [load3_A]
  exact Hi.load (c := 0) (h := 3) arg20 (lohi3_A I hs0).2

theorem lohi4_A : Lo P s 1 0 (kernelRun0_A.sl.HS2_5 c arg3 harg3 arg4 harg4 arg8 harg8 arg9 harg9 arg20 x1 x2 x6 x7) ∧ Hi P s 1 0 (kernelRun0_A.sl.HS2_5 c arg3 harg3 arg4 harg4 arg8 harg8 arg9 harg9 arg20 x1 x2 x6 x7) := by
  refine ⟨Lo.zero, Lo.full (c := 0) ?_⟩
  rw [list3_A]
  exact Lo.step I (c := 0) (h := 3) (lohi3_A I hs0).1 (at3_A I hs0)

theorem at4_A : At P s 1 0 (kernelRun0_A.sl.v1211 c arg3 harg3 arg4 harg4 arg8 harg8 arg9 harg9 arg20 x1 x2 x6 x7) := by
  rw [load4_A]
  exact Hi.load (c := 1) (h := 0) arg20 (lohi4_A I hs0).2

theorem lohi5_A : Lo P s 1 1 (kernelRun0_A.sl.HS2_6 c arg3 harg3 arg4 harg4 arg8 harg8 arg9 harg9 arg20 x1 x2 x6 x7) ∧ Hi P s 1 1 (kernelRun0_A.sl.HS2_6 c arg3 harg3 arg4 harg4 arg8 harg8 arg9 harg9 arg20 x1 x2 x6 x7) := by
  rw [list4_A]
  exact ⟨Lo.step I (c := 1) (h := 0) (lohi4_A I hs0).1 (at4_A I hs0), Hi.step (c := 1) (h := 0) (lohi4_A I hs0).2⟩

theorem at5_A : At P s 1 1 (kernelRun0_A.sl.v1269 c arg3 harg3 arg4 harg4 arg8 harg8 arg9 harg9 arg20 x1 x2 x6 x7) := by
  rw [load5_A]
  exact Hi.load (c := 1) (h := 1) arg20 (lohi5_A I hs0).2

theorem lohi6_A : Lo P s 1 2 (kernelRun0_A.sl.HS2_7 c arg3 harg3 arg4 harg4 arg8 harg8 arg9 harg9 arg20 x1 x2 x6 x7) ∧ Hi P s 1 2 (kernelRun0_A.sl.HS2_7 c arg3 harg3 arg4 harg4 arg8 harg8 arg9 harg9 arg20 x1 x2 x6 x7) := by
  rw [list5_A]
  exact ⟨Lo.step I (c := 1) (h := 1) (lohi5_A I hs0).1 (at5_A I hs0), Hi.step (c := 1) (h := 1) (lohi5_A I hs0).2⟩

theorem at6_A : At P s 1 2 (kernelRun0_A.sl.v1327 c arg3 harg3 arg4 harg4 arg8 harg8 arg9 harg9 arg20 x1 x2 x6 x7) := by
  rw [load6_A]
  exact Hi.load (c := 1) (h := 2) arg20 (lohi6_A I hs0).2

theorem lohi7_A : Lo P s 1 3 (kernelRun0_A.sl.HS2_8 c arg3 harg3 arg4 harg4 arg8 harg8 arg9 harg9 arg20 x1 x2 x6 x7) ∧ Hi P s 1 3 (kernelRun0_A.sl.HS2_8 c arg3 harg3 arg4 harg4 arg8 harg8 arg9 harg9 arg20 x1 x2 x6 x7) := by
  rw [list6_A]
  exact ⟨Lo.step I (c := 1) (h := 2) (lohi6_A I hs0).1 (at6_A I hs0), Hi.step (c := 1) (h := 2) (lohi6_A I hs0).2⟩

theorem at7_A : At P s 1 3 (kernelRun0_A.sl.v1385 c arg3 harg3 arg4 harg4 arg8 harg8 arg9 harg9 arg20 x1 x2 x6 x7) := by
  rw [load7_A]
  exact Hi.load (c := 1) (h := 3) arg20 (lohi7_A I hs0).2

theorem lohi8_A : Lo P s 2 0 (kernelRun0_A.sl.HS2_9 c arg3 harg3 arg4 harg4 arg8 harg8 arg9 harg9 arg20 x1 x2 x6 x7) ∧ Hi P s 2 0 (kernelRun0_A.sl.HS2_9 c arg3 harg3 arg4 harg4 arg8 harg8 arg9 harg9 arg20 x1 x2 x6 x7) := by
  refine ⟨Lo.zero, Lo.full (c := 1) ?_⟩
  rw [list7_A]
  exact Lo.step I (c := 1) (h := 3) (lohi7_A I hs0).1 (at7_A I hs0)

theorem at8_A : At P s 2 0 (kernelRun0_A.sl.v1443 c arg3 harg3 arg4 harg4 arg8 harg8 arg9 harg9 arg20 x1 x2 x6 x7) := by
  rw [load8_A]
  exact Hi.load (c := 2) (h := 0) arg20 (lohi8_A I hs0).2

theorem lohi9_A : Lo P s 2 1 (kernelRun0_A.sl.HS2_10 c arg3 harg3 arg4 harg4 arg8 harg8 arg9 harg9 arg20 x1 x2 x6 x7) ∧ Hi P s 2 1 (kernelRun0_A.sl.HS2_10 c arg3 harg3 arg4 harg4 arg8 harg8 arg9 harg9 arg20 x1 x2 x6 x7) := by
  rw [list8_A]
  exact ⟨Lo.step I (c := 2) (h := 0) (lohi8_A I hs0).1 (at8_A I hs0), Hi.step (c := 2) (h := 0) (lohi8_A I hs0).2⟩

theorem at9_A : At P s 2 1 (kernelRun0_A.sl.v1501 c arg3 harg3 arg4 harg4 arg8 harg8 arg9 harg9 arg20 x1 x2 x6 x7) := by
  rw [load9_A]
  exact Hi.load (c := 2) (h := 1) arg20 (lohi9_A I hs0).2

theorem lohi10_A : Lo P s 2 2 (kernelRun0_A.sl.HS2_11 c arg3 harg3 arg4 harg4 arg8 harg8 arg9 harg9 arg20 x1 x2 x6 x7) ∧ Hi P s 2 2 (kernelRun0_A.sl.HS2_11 c arg3 harg3 arg4 harg4 arg8 harg8 arg9 harg9 arg20 x1 x2 x6 x7) := by
  rw [list9_A]
  exact ⟨Lo.step I (c := 2) (h := 1) (lohi9_A I hs0).1 (at9_A I hs0), Hi.step (c := 2) (h := 1) (lohi9_A I hs0).2⟩

theorem at10_A : At P s 2 2 (kernelRun0_A.sl.v1559 c arg3 harg3 arg4 harg4 arg8 harg8 arg9 harg9 arg20 x1 x2 x6 x7) := by
  rw [load10_A]
  exact Hi.load (c := 2) (h := 2) arg20 (lohi10_A I hs0).2

theorem lohi11_A : Lo P s 2 3 (kernelRun0_A.sl.HS2_12 c arg3 harg3 arg4 harg4 arg8 harg8 arg9 harg9 arg20 x1 x2 x6 x7) ∧ Hi P s 2 3 (kernelRun0_A.sl.HS2_12 c arg3 harg3 arg4 harg4 arg8 harg8 arg9 harg9 arg20 x1 x2 x6 x7) := by
  rw [list10_A]
  exact ⟨Lo.step I (c := 2) (h := 2) (lohi10_A I hs0).1 (at10_A I hs0), Hi.step (c := 2) (h := 2) (lohi10_A I hs0).2⟩

theorem at11_A : At P s 2 3 (kernelRun0_A.sl.v1617 c arg3 harg3 arg4 harg4 arg8 harg8 arg9 harg9 arg20 x1 x2 x6 x7) := by
  rw [load11_A]
  exact Hi.load (c := 2) (h := 3) arg20 (lohi11_A I hs0).2

theorem lohi12_A : Lo P s 3 0 (kernelRun0_A.sl.HS2_13 c arg3 harg3 arg4 harg4 arg8 harg8 arg9 harg9 arg20 x1 x2 x6 x7) ∧ Hi P s 3 0 (kernelRun0_A.sl.HS2_13 c arg3 harg3 arg4 harg4 arg8 harg8 arg9 harg9 arg20 x1 x2 x6 x7) := by
  refine ⟨Lo.zero, Lo.full (c := 2) ?_⟩
  rw [list11_A]
  exact Lo.step I (c := 2) (h := 3) (lohi11_A I hs0).1 (at11_A I hs0)

theorem at12_A : At P s 3 0 (kernelRun0_A.sl.v1675 c arg3 harg3 arg4 harg4 arg8 harg8 arg9 harg9 arg20 x1 x2 x6 x7) := by
  rw [load12_A]
  exact Hi.load (c := 3) (h := 0) arg20 (lohi12_A I hs0).2

theorem lohi13_A : Lo P s 3 1 (kernelRun0_A.sl.HS2_14 c arg3 harg3 arg4 harg4 arg8 harg8 arg9 harg9 arg20 x1 x2 x6 x7) ∧ Hi P s 3 1 (kernelRun0_A.sl.HS2_14 c arg3 harg3 arg4 harg4 arg8 harg8 arg9 harg9 arg20 x1 x2 x6 x7) := by
  rw [list12_A]
  exact ⟨Lo.step I (c := 3) (h := 0) (lohi12_A I hs0).1 (at12_A I hs0), Hi.step (c := 3) (h := 0) (lohi12_A I hs0).2⟩

theorem at13_A : At P s 3 1 (kernelRun0_A.sl.v1733 c arg3 harg3 arg4 harg4 arg8 harg8 arg9 harg9 arg20 x1 x2 x6 x7) := by
  rw [load13_A]
  exact Hi.load (c := 3) (h := 1) arg20 (lohi13_A I hs0).2

theorem lohi14_A : Lo P s 3 2 (kernelRun0_A.sl.HS2_15 c arg3 harg3 arg4 harg4 arg8 harg8 arg9 harg9 arg20 x1 x2 x6 x7) ∧ Hi P s 3 2 (kernelRun0_A.sl.HS2_15 c arg3 harg3 arg4 harg4 arg8 harg8 arg9 harg9 arg20 x1 x2 x6 x7) := by
  rw [list13_A]
  exact ⟨Lo.step I (c := 3) (h := 1) (lohi13_A I hs0).1 (at13_A I hs0), Hi.step (c := 3) (h := 1) (lohi13_A I hs0).2⟩

theorem at14_A : At P s 3 2 (kernelRun0_A.sl.v1791 c arg3 harg3 arg4 harg4 arg8 harg8 arg9 harg9 arg20 x1 x2 x6 x7) := by
  rw [load14_A]
  exact Hi.load (c := 3) (h := 2) arg20 (lohi14_A I hs0).2

theorem lohi15_A : Lo P s 3 3 (kernelRun0_A.sl.HS2_16 c arg3 harg3 arg4 harg4 arg8 harg8 arg9 harg9 arg20 x1 x2 x6 x7) ∧ Hi P s 3 3 (kernelRun0_A.sl.HS2_16 c arg3 harg3 arg4 harg4 arg8 harg8 arg9 harg9 arg20 x1 x2 x6 x7) := by
  rw [list14_A]
  exact ⟨Lo.step I (c := 3) (h := 2) (lohi14_A I hs0).1 (at14_A I hs0), Hi.step (c := 3) (h := 2) (lohi14_A I hs0).2⟩

theorem at15_A : At P s 3 3 (kernelRun0_A.sl.v1849 c arg3 harg3 arg4 harg4 arg8 harg8 arg9 harg9 arg20 x1 x2 x6 x7) := by
  rw [load15_A]
  exact Hi.load (c := 3) (h := 3) arg20 (lohi15_A I hs0).2

theorem row0_A (h : Fin 4) (d e : Fin 128) :
    (![(kernelRun0_A.sl.v979 c arg20), (kernelRun0_A.sl.v1037 c arg3 harg3 arg4 harg4 arg8 harg8 arg9 harg9 arg20 x1 x2 x6 x7), (kernelRun0_A.sl.v1095 c arg3 harg3 arg4 harg4 arg8 harg8 arg9 harg9 arg20 x1 x2 x6 x7), (kernelRun0_A.sl.v1153 c arg3 harg3 arg4 harg4 arg8 harg8 arg9 harg9 arg20 x1 x2 x6 x7)] : Fin 4 → Vec Ideal S1x128x128 .f32) h (ix3 0 d e) = state P (4 * s + 0) h.val d.val e.val := by
  match h with
  | ⟨0, _⟩ => exact at0_A I hs0 d e
  | ⟨1, _⟩ => exact at1_A I hs0 d e
  | ⟨2, _⟩ => exact at2_A I hs0 d e
  | ⟨3, _⟩ => exact at3_A I hs0 d e

theorem row1_A (h : Fin 4) (d e : Fin 128) :
    (![(kernelRun0_A.sl.v1211 c arg3 harg3 arg4 harg4 arg8 harg8 arg9 harg9 arg20 x1 x2 x6 x7), (kernelRun0_A.sl.v1269 c arg3 harg3 arg4 harg4 arg8 harg8 arg9 harg9 arg20 x1 x2 x6 x7), (kernelRun0_A.sl.v1327 c arg3 harg3 arg4 harg4 arg8 harg8 arg9 harg9 arg20 x1 x2 x6 x7), (kernelRun0_A.sl.v1385 c arg3 harg3 arg4 harg4 arg8 harg8 arg9 harg9 arg20 x1 x2 x6 x7)] : Fin 4 → Vec Ideal S1x128x128 .f32) h (ix3 0 d e) = state P (4 * s + 1) h.val d.val e.val := by
  match h with
  | ⟨0, _⟩ => exact at4_A I hs0 d e
  | ⟨1, _⟩ => exact at5_A I hs0 d e
  | ⟨2, _⟩ => exact at6_A I hs0 d e
  | ⟨3, _⟩ => exact at7_A I hs0 d e

theorem row2_A (h : Fin 4) (d e : Fin 128) :
    (![(kernelRun0_A.sl.v1443 c arg3 harg3 arg4 harg4 arg8 harg8 arg9 harg9 arg20 x1 x2 x6 x7), (kernelRun0_A.sl.v1501 c arg3 harg3 arg4 harg4 arg8 harg8 arg9 harg9 arg20 x1 x2 x6 x7), (kernelRun0_A.sl.v1559 c arg3 harg3 arg4 harg4 arg8 harg8 arg9 harg9 arg20 x1 x2 x6 x7), (kernelRun0_A.sl.v1617 c arg3 harg3 arg4 harg4 arg8 harg8 arg9 harg9 arg20 x1 x2 x6 x7)] : Fin 4 → Vec Ideal S1x128x128 .f32) h (ix3 0 d e) = state P (4 * s + 2) h.val d.val e.val := by
  match h with
  | ⟨0, _⟩ => exact at8_A I hs0 d e
  | ⟨1, _⟩ => exact at9_A I hs0 d e
  | ⟨2, _⟩ => exact at10_A I hs0 d e
  | ⟨3, _⟩ => exact at11_A I hs0 d e

theorem row3_A (h : Fin 4) (d e : Fin 128) :
    (![(kernelRun0_A.sl.v1675 c arg3 harg3 arg4 harg4 arg8 harg8 arg9 harg9 arg20 x1 x2 x6 x7), (kernelRun0_A.sl.v1733 c arg3 harg3 arg4 harg4 arg8 harg8 arg9 harg9 arg20 x1 x2 x6 x7), (kernelRun0_A.sl.v1791 c arg3 harg3 arg4 harg4 arg8 harg8 arg9 harg9 arg20 x1 x2 x6 x7), (kernelRun0_A.sl.v1849 c arg3 harg3 arg4 harg4 arg8 harg8 arg9 harg9 arg20 x1 x2 x6 x7)] : Fin 4 → Vec Ideal S1x128x128 .f32) h (ix3 0 d e) = state P (4 * s + 3) h.val d.val e.val := by
  match h with
  | ⟨0, _⟩ => exact at12_A I hs0 d e
  | ⟨1, _⟩ => exact at13_A I hs0 d e
  | ⟨2, _⟩ => exact at14_A I hs0 d e
  | ⟨3, _⟩ => exact at15_A I hs0 d e

/-- The states the block's chunks start from. -/
theorem at_A (n h : Fin 4) (d e : Fin 128) :
    (![![(kernelRun0_A.sl.v979 c arg20), (kernelRun0_A.sl.v1037 c arg3 harg3 arg4 harg4 arg8 harg8 arg9 harg9 arg20 x1 x2 x6 x7), (kernelRun0_A.sl.v1095 c arg3 harg3 arg4 harg4 arg8 harg8 arg9 harg9 arg20 x1 x2 x6 x7), (kernelRun0_A.sl.v1153 c arg3 harg3 arg4 harg4 arg8 harg8 arg9 harg9 arg20 x1 x2 x6 x7)], ![(kernelRun0_A.sl.v1211 c arg3 harg3 arg4 harg4 arg8 harg8 arg9 harg9 arg20 x1 x2 x6 x7), (kernelRun0_A.sl.v1269 c arg3 harg3 arg4 harg4 arg8 harg8 arg9 harg9 arg20 x1 x2 x6 x7), (kernelRun0_A.sl.v1327 c arg3 harg3 arg4 harg4 arg8 harg8 arg9 harg9 arg20 x1 x2 x6 x7), (kernelRun0_A.sl.v1385 c arg3 harg3 arg4 harg4 arg8 harg8 arg9 harg9 arg20 x1 x2 x6 x7)], ![(kernelRun0_A.sl.v1443 c arg3 harg3 arg4 harg4 arg8 harg8 arg9 harg9 arg20 x1 x2 x6 x7), (kernelRun0_A.sl.v1501 c arg3 harg3 arg4 harg4 arg8 harg8 arg9 harg9 arg20 x1 x2 x6 x7), (kernelRun0_A.sl.v1559 c arg3 harg3 arg4 harg4 arg8 harg8 arg9 harg9 arg20 x1 x2 x6 x7), (kernelRun0_A.sl.v1617 c arg3 harg3 arg4 harg4 arg8 harg8 arg9 harg9 arg20 x1 x2 x6 x7)], ![(kernelRun0_A.sl.v1675 c arg3 harg3 arg4 harg4 arg8 harg8 arg9 harg9 arg20 x1 x2 x6 x7), (kernelRun0_A.sl.v1733 c arg3 harg3 arg4 harg4 arg8 harg8 arg9 harg9 arg20 x1 x2 x6 x7), (kernelRun0_A.sl.v1791 c arg3 harg3 arg4 harg4 arg8 harg8 arg9 harg9 arg20 x1 x2 x6 x7), (kernelRun0_A.sl.v1849 c arg3 harg3 arg4 harg4 arg8 harg8 arg9 harg9 arg20 x1 x2 x6 x7)]] : Fin 4 → Fin 4 → Vec Ideal S1x128x128 .f32) n h (ix3 0 d e) = state P (4 * s + n.val) h.val d.val e.val := by
  match n with
  | ⟨0, _⟩ => exact row0_A I hs0 h d e
  | ⟨1, _⟩ => exact row1_A I hs0 h d e
  | ⟨2, _⟩ => exact row2_A I hs0 h d e
  | ⟨3, _⟩ => exact row3_A I hs0 h d e

variable (hi : (i 1).val = s)

include hi

/-- The residual rows of the block. -/
theorem z_A (r : Fin 512) (m : Fin 1024) : (kernelRun0_A.sl.r_140 c i arg2 harg2 arg3 harg3 arg4 harg4 arg5 harg5 arg6 harg6 arg7 harg7 arg8 harg8 arg9 harg9 arg10 harg10 arg11 harg11 arg12 harg12 arg13 harg13 arg18 arg19 arg20 arg21 arg22 x0 x1 x2 x3 x4 x5 x6 x7 x8 x9 x10 x11) (ix2 r m) = resid P (512 * s + r.val) m.val := by
  rw [resid_A, attn_A, ret_A]
  exact resid_val I arg2 harg2 arg3 harg3 arg4 harg4 arg5 harg5 arg6 arg7 harg6 harg7 arg10 harg10
    arg11 arg12 harg11 harg12 arg13 harg13 arg21 arg22 i hi _ _ _ (bk_A I hs0) (bv_A I hs0) (at_A I hs0) r m

variable (hc0 : cond0_0 i)

/-- The block's output. -/
theorem o14_A (r : Fin 512) (m : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 0 r m) = mixed P (512 * s + r.val) m := by
  rw [out14_A]
  refine (View.read_writes_cons_unit_of_mem _ _ tokens_inb _ _ _ (ix3 0 r m : S1x512x1024.Idx) rfl fun a => ?_).trans ?_
  · match a with
    | ⟨0, _⟩ => rfl
    | ⟨1, _⟩ => show r.val = 0 + r.val; omega
    | ⟨2, _⟩ => show m.val = 0 + m.val; omega
  · exact (out_val I arg14 arg15 harg14 harg15 _ (fun r m => z_A I hs0 hi r m) r m).1

/-- The block's output. -/
theorem o15_A (r : Fin 512) (m : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 0 r m) = mixed P (512 * s + r.val) m := by
  rw [out15_A]
  refine (View.read_writes_cons_unit_of_mem _ _ tokens_inb _ _ _ (ix3 0 r m : S1x512x1024.Idx) rfl fun a => ?_).trans ?_
  · match a with
    | ⟨0, _⟩ => rfl
    | ⟨1, _⟩ => show r.val = 0 + r.val; omega
    | ⟨2, _⟩ => show m.val = 0 + m.val; omega
  · exact (out_val I arg14 arg15 harg14 harg15 _ (fun r m => z_A I hs0 hi r m) r m).2

/-- The buffer of keys the next block finds. -/
theorem s0_A (y u : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix2 ⟨y.val, by omega⟩ u) = band P (4 * (s + 1)) y.val (512 + u.val) := by
  rw [skeys_A, read_first, pay103_apply, lastk_A, keys_A]
  exact band_last _ 512 (newK_val I arg3 harg3 arg4 harg4) _ _ _ y u

/-- The buffer of values the next block finds. -/
theorem s1_A (y u : Fin 128) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix2 ⟨y.val, by omega⟩ u) = band P (4 * (s + 1)) y.val (640 + u.val) := by
  rw [svals_A, read_first, pay104_apply, lastv_A, vals_A]
  exact band_last _ 640 (newV_val I arg3 harg3 arg4 harg4) _ _ _ y u

/-- The states the next block finds. -/
theorem s2_A (h : Fin 4) (d e : Fin 128) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 h d e) = state P (4 * (s + 1)) h.val d.val e.val := by
  rw [sstate_A, View.read_writes_junk_apply_eq_canon]
  exact Lo.full (c := 3) (Lo.step I (c := 3) (h := 3) (lohi15_A I hs0).1 (at15_A I hs0)) h d e (Nat.zero_le _)

/-- What the block leaves. -/
theorem after_A : After P s (out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13, out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13,
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13, sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13, sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13) :=
  After.of (o14_A I hs0 hi hc0) (o15_A I hs0 hi hc0) (s0_A I hs0 hi hc0) (s1_A I hs0 hi hc0) (s2_A I hs0 hi hc0)

end Cert.Mixer
-- ==== Proof.PiecesB.lean ====
/-
  The stores of the kernel's run at a later block of a sequence, named by what they hold: the blocks' keys and values, the chunks'
  states, the two branches and the outputs.
-/
module

public import proofs.«01_k».proof.Proof.Chain
public import proofs.«01_k».proof.Proof.Gen.KernelIdeal.Frame

@[expose] public section

noncomputable section

namespace Cert.Mixer

open Idealize.ShloMosaic Cert.KernelIdeal Cert.KernelIdeal.Gen

set_option maxRecDepth 16384

variable {F : FTy → Type} [FloatOps F]

variable {c : Dev nD} {i : grid0.Coords}
  {arg2 : Memref sig .tc .smem S1x8 .f32} {harg2 : arg2.IsWhole}
  {arg3 : Memref sig .tc .vmem S1x512x1024 .f32} {harg3 : arg3.IsWhole}
  {arg4 : Memref sig .tc .vmem S1024x4864 .bf16} {harg4 : arg4.IsWhole}
  {arg5 : Memref sig .tc .vmem S8x128x256 .f32} {harg5 : arg5.IsWhole}
  {arg6 : Memref sig .tc .vmem S4x128x128 .f32} {harg6 : arg6.IsWhole}
  {arg7 : Memref sig .tc .vmem S4x128x128 .f32} {harg7 : arg7.IsWhole}
  {arg8 : Memref sig .tc .vmem S4x128x128 .f32} {harg8 : arg8.IsWhole}
  {arg9 : Memref sig .tc .vmem S4x128x128 .f32} {harg9 : arg9.IsWhole}
  {arg10 : Memref sig .tc .vmem S1x512 .f32} {harg10 : arg10.IsWhole}
  {arg11 : Memref sig .tc .vmem S512x1024 .bf16} {harg11 : arg11.IsWhole}
  {arg12 : Memref sig .tc .vmem S512x1024 .bf16} {harg12 : arg12.IsWhole}
  {arg13 : Memref sig .tc .vmem S1024x1024 .bf16} {harg13 : arg13.IsWhole}
  {arg14 : Memref sig .tc .vmem S1x1024 .f32} {harg14 : arg14.IsWhole}
  {arg15 : Memref sig .tc .vmem S1x1024 .f32} {harg15 : arg15.IsWhole}
  {arg16 : Memref sig .tc .vmem S1x512x1024 .f32} {harg16 : arg16.IsWhole}
  {arg17 : Memref sig .tc .vmem S1x512x1024 .bf16} {harg17 : arg17.IsWhole}
  {arg18 : Memref sig .tc .vmem S640x128 .bf16} {harg18 : arg18.IsWhole}
  {arg19 : Memref sig .tc .vmem S640x128 .bf16} {harg19 : arg19.IsWhole}
  {arg20 : Memref sig .tc .vmem S4x128x128 .f32} {harg20 : arg20.IsWhole}
  {arg21 : Memref sig .tc .vmem S512x512 .f32} {harg21 : arg21.IsWhole}
  {arg22 : Memref sig .tc .vmem S512x512 .f32} {harg22 : arg22.IsWhole}
  {x0 : Vec F S1x8 .f32}
  {x1 : Vec F S1x512x1024 .f32}
  {x2 : Vec F S1024x4864 .bf16}
  {x3 : Vec F S8x128x256 .f32}
  {x4 : Vec F S4x128x128 .f32}
  {x5 : Vec F S4x128x128 .f32}
  {x6 : Vec F S4x128x128 .f32}
  {x7 : Vec F S4x128x128 .f32}
  {x8 : Vec F S1x512 .f32}
  {x9 : Vec F S512x1024 .bf16}
  {x10 : Vec F S512x1024 .bf16}
  {x11 : Vec F S1024x1024 .bf16}
  {x12 : Vec F S1x1024 .f32}
  {x13 : Vec F S1x1024 .f32}
  {xs0 : Vec F S640x128 .bf16}
  {xs1 : Vec F S640x128 .bf16}
  {xs2 : Vec F S4x128x128 .f32}

/-- The store of the block's keys. -/
theorem keys_B :
    (kernelRun0_B.sl.HS0_1 c arg3 harg3 arg4 harg4 x1 x2) =
      [newRows (k0_pay10 (tokensOf arg3 harg3 x1) (colsB arg4 harg4 x2 512 (by norm_num)))] := rfl

/-- The store of the block's values. -/
theorem vals_B :
    (kernelRun0_B.sl.HS1_1 c arg3 harg3 arg4 harg4 x1 x2) =
      [newRows (k0_pay11 (tokensOf arg3 harg3 x1) (colsB arg4 harg4 x2 640 (by norm_num)))] := rfl

/-- The band of chunk 0. -/
theorem bandk0_B :
    (kernelRun0_B.sl.r_4 c arg3 harg3 arg4 harg4 arg18 harg18 x1 x2 xs0) =
      bandLoad arg18 (arg18.view.writes (Elt F) (harg18.unread xs0) (kernelRun0_B.sl.HS0_1 c arg3 harg3 arg4 harg4 x1 x2)) 0 := rfl

/-- The band of chunk 0. -/
theorem bandv0_B :
    (kernelRun0_B.sl.r_5 c arg3 harg3 arg4 harg4 arg19 harg19 x1 x2 xs1) =
      bandLoad arg19 (arg19.view.writes (Elt F) (harg19.unread xs1) (kernelRun0_B.sl.HS1_1 c arg3 harg3 arg4 harg4 x1 x2)) 0 := rfl

/-- The band of chunk 1. -/
theorem bandk1_B :
    (kernelRun0_B.sl.v274 c arg3 harg3 arg4 harg4 arg18 x1 x2) =
      bandLoad arg18 (arg18.view.writes (Elt F) arg18.view.junk (kernelRun0_B.sl.HS0_1 c arg3 harg3 arg4 harg4 x1 x2)) 1 := rfl

/-- The band of chunk 1. -/
theorem bandv1_B :
    (kernelRun0_B.sl.v275 c arg3 harg3 arg4 harg4 arg19 x1 x2) =
      bandLoad arg19 (arg19.view.writes (Elt F) arg19.view.junk (kernelRun0_B.sl.HS1_1 c arg3 harg3 arg4 harg4 x1 x2)) 1 := rfl

/-- The band of chunk 2. -/
theorem bandk2_B :
    (kernelRun0_B.sl.v500 c arg3 harg3 arg4 harg4 arg18 x1 x2) =
      bandLoad arg18 (arg18.view.writes (Elt F) arg18.view.junk (kernelRun0_B.sl.HS0_1 c arg3 harg3 arg4 harg4 x1 x2)) 2 := rfl

/-- The band of chunk 2. -/
theorem bandv2_B :
    (kernelRun0_B.sl.v501 c arg3 harg3 arg4 harg4 arg19 x1 x2) =
      bandLoad arg19 (arg19.view.writes (Elt F) arg19.view.junk (kernelRun0_B.sl.HS1_1 c arg3 harg3 arg4 harg4 x1 x2)) 2 := rfl

/-- The band of chunk 3. -/
theorem bandk3_B :
    (kernelRun0_B.sl.v726 c arg3 harg3 arg4 harg4 arg18 x1 x2) =
      bandLoad arg18 (arg18.view.writes (Elt F) arg18.view.junk (kernelRun0_B.sl.HS0_1 c arg3 harg3 arg4 harg4 x1 x2)) 3 := rfl

/-- The band of chunk 3. -/
theorem bandv3_B :
    (kernelRun0_B.sl.v727 c arg3 harg3 arg4 harg4 arg19 x1 x2) =
      bandLoad arg19 (arg19.view.writes (Elt F) arg19.view.junk (kernelRun0_B.sl.HS1_1 c arg3 harg3 arg4 harg4 x1 x2)) 3 := rfl

/-- The rows kept for the next block. -/
theorem lastk_B :
    (kernelRun0_B.sl.v952 c arg3 harg3 arg4 harg4 arg18 x1 x2) =
      lastLoad arg18 (arg18.view.writes (Elt F) arg18.view.junk (kernelRun0_B.sl.HS0_1 c arg3 harg3 arg4 harg4 x1 x2)) := rfl

/-- The rows kept for the next block. -/
theorem lastv_B :
    (kernelRun0_B.sl.v956 c arg3 harg3 arg4 harg4 arg19 x1 x2) =
      lastLoad arg19 (arg19.view.writes (Elt F) arg19.view.junk (kernelRun0_B.sl.HS1_1 c arg3 harg3 arg4 harg4 x1 x2)) := rfl

/-- A head's state before the first chunk. -/
theorem load0_B :
    (kernelRun0_B.sl.r_72 c arg20 harg20 xs2) =
      headTable arg20 harg20 xs2 0 := rfl

/-- A head's state before the first chunk. -/
theorem load1_B :
    (kernelRun0_B.sl.v1037 c arg20 harg20 xs2) =
      headTable arg20 harg20 xs2 1 := rfl

/-- A head's state before the first chunk. -/
theorem load2_B :
    (kernelRun0_B.sl.v1095 c arg20 harg20 xs2) =
      headTable arg20 harg20 xs2 2 := rfl

/-- A head's state before the first chunk. -/
theorem load3_B :
    (kernelRun0_B.sl.v1153 c arg20 harg20 xs2) =
      headTable arg20 harg20 xs2 3 := rfl

/-- Head 0's state before chunk 1. -/
theorem load4_B :
    (kernelRun0_B.sl.v1211 c arg3 harg3 arg4 harg4 arg8 harg8 arg9 harg9 arg20 harg20 x1 x2 x6 x7 xs2) =
      stateLoad arg20 (kernelRun0_B.sl.HS2_4 c arg3 harg3 arg4 harg4 arg8 harg8 arg9 harg9 arg20 harg20 x1 x2 x6 x7 xs2) 0 := rfl

/-- Head 1's state before chunk 1. -/
theorem load5_B :
    (kernelRun0_B.sl.v1269 c arg3 harg3 arg4 harg4 arg8 harg8 arg9 harg9 arg20 harg20 x1 x2 x6 x7 xs2) =
      stateLoad arg20 (kernelRun0_B.sl.HS2_5 c arg3 harg3 arg4 harg4 arg8 harg8 arg9 harg9 arg20 harg20 x1 x2 x6 x7 xs2) 1 := rfl

/-- Head 2's state before chunk 1. -/
theorem load6_B :
    (kernelRun0_B.sl.v1327 c arg3 harg3 arg4 harg4 arg8 harg8 arg9 harg9 arg20 harg20 x1 x2 x6 x7 xs2) =
      stateLoad arg20 (kernelRun0_B.sl.HS2_6 c arg3 harg3 arg4 harg4 arg8 harg8 arg9 harg9 arg20 harg20 x1 x2 x6 x7 xs2) 2 := rfl

/-- Head 3's state before chunk 1. -/
theorem load7_B :
    (kernelRun0_B.sl.v1385 c arg3 harg3 arg4 harg4 arg8 harg8 arg9 harg9 arg20 harg20 x1 x2 x6 x7 xs2) =
      stateLoad arg20 (kernelRun0_B.sl.HS2_7 c arg3 harg3 arg4 harg4 arg8 harg8 arg9 harg9 arg20 harg20 x1 x2 x6 x7 xs2) 3 := rfl

/-- Head 0's state before chunk 2. -/
theorem load8_B :
    (kernelRun0_B.sl.v1443 c arg3 harg3 arg4 harg4 arg8 harg8 arg9 harg9 arg20 harg20 x1 x2 x6 x7 xs2) =
      stateLoad arg20 (kernelRun0_B.sl.HS2_8 c arg3 harg3 arg4 harg4 arg8 harg8 arg9 harg9 arg20 harg20 x1 x2 x6 x7 xs2) 0 := rfl

/-- Head 1's state before chunk 2. -/
theorem load9_B :
    (kernelRun0_B.sl.v1501 c arg3 harg3 arg4 harg4 arg8 harg8 arg9 harg9 arg20 harg20 x1 x2 x6 x7 xs2) =
      stateLoad arg20 (kernelRun0_B.sl.HS2_9 c arg3 harg3 arg4 harg4 arg8 harg8 arg9 harg9 arg20 harg20 x1 x2 x6 x7 xs2) 1 := rfl

/-- Head 2's state before chunk 2. -/
theorem load10_B :
    (kernelRun0_B.sl.v1559 c arg3 harg3 arg4 harg4 arg8 harg8 arg9 harg9 arg20 harg20 x1 x2 x6 x7 xs2) =
      stateLoad arg20 (kernelRun0_B.sl.HS2_10 c arg3 harg3 arg4 harg4 arg8 harg8 arg9 harg9 arg20 harg20 x1 x2 x6 x7 xs2) 2 := rfl

/-- Head 3's state before chunk 2. -/
theorem load11_B :
    (kernelRun0_B.sl.v1617 c arg3 harg3 arg4 harg4 arg8 harg8 arg9 harg9 arg20 harg20 x1 x2 x6 x7 xs2) =
      stateLoad arg20 (kernelRun0_B.sl.HS2_11 c arg3 harg3 arg4 harg4 arg8 harg8 arg9 harg9 arg20 harg20 x1 x2 x6 x7 xs2) 3 := rfl

/-- Head 0's state before chunk 3. -/
theorem load12_B :
    (kernelRun0_B.sl.v1675 c arg3 harg3 arg4 harg4 arg8 harg8 arg9 harg9 arg20 harg20 x1 x2 x6 x7 xs2) =
      stateLoad arg20 (kernelRun0_B.sl.HS2_12 c arg3 harg3 arg4 harg4 arg8 harg8 arg9 harg9 arg20 harg20 x1 x2 x6 x7 xs2) 0 := rfl

/-- Head 1's state before chunk 3. -/
theorem load13_B :
    (kernelRun0_B.sl.v1733 c arg3 harg3 arg4 harg4 arg8 harg8 arg9 harg9 arg20 harg20 x1 x2 x6 x7 xs2) =
      stateLoad arg20 (kernelRun0_B.sl.HS2_13 c arg3 harg3 arg4 harg4 arg8 harg8 arg9 harg9 arg20 harg20 x1 x2 x6 x7 xs2) 1 := rfl

/-- Head 2's state before chunk 3. -/
theorem load14_B :
    (kernelRun0_B.sl.v1791 c arg3 harg3 arg4 harg4 arg8 harg8 arg9 harg9 arg20 harg20 x1 x2 x6 x7 xs2) =
      stateLoad arg20 (kernelRun0_B.sl.HS2_14 c arg3 harg3 arg4 harg4 arg8 harg8 arg9 harg9 arg20 harg20 x1 x2 x6 x7 xs2) 2 := rfl

/-- Head 3's state before chunk 3. -/
theorem load15_B :
    (kernelRun0_B.sl.v1849 c arg3 harg3 arg4 harg4 arg8 harg8 arg9 harg9 arg20 harg20 x1 x2 x6 x7 xs2) =
      stateLoad arg20 (kernelRun0_B.sl.HS2_15 c arg3 harg3 arg4 harg4 arg8 harg8 arg9 harg9 arg20 harg20 x1 x2 x6 x7 xs2) 3 := rfl

/-- The states' stores in the first chunk. -/
theorem list3_B :
    (kernelRun0_B.sl.HS2_4 c arg3 harg3 arg4 harg4 arg8 harg8 arg9 harg9 arg20 harg20 x1 x2 x6 x7 xs2) =
      [stepPiece 0 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1153 c arg20 harg20 xs2) (headTable arg8 harg8 x6) (headTable arg9 harg9 x7),
        stepPiece 0 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1095 c arg20 harg20 xs2) (headTable arg8 harg8 x6) (headTable arg9 harg9 x7),
        stepPiece 0 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1037 c arg20 harg20 xs2) (headTable arg8 harg8 x6) (headTable arg9 harg9 x7),
        stepPiece 0 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.r_72 c arg20 harg20 xs2) (headTable arg8 harg8 x6) (headTable arg9 harg9 x7)] := rfl

/-- The states' stores to chunk 1, head 0. -/
theorem list4_B :
    (kernelRun0_B.sl.HS2_5 c arg3 harg3 arg4 harg4 arg8 harg8 arg9 harg9 arg20 harg20 x1 x2 x6 x7 xs2) =
      stepPiece 1 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1211 c arg3 harg3 arg4 harg4 arg8 harg8 arg9 harg9 arg20 harg20 x1 x2 x6 x7 xs2) (headTable arg8 harg8 x6) (headTable arg9 harg9 x7) :: (kernelRun0_B.sl.HS2_4 c arg3 harg3 arg4 harg4 arg8 harg8 arg9 harg9 arg20 harg20 x1 x2 x6 x7 xs2) := rfl

/-- The states' stores to chunk 1, head 1. -/
theorem list5_B :
    (kernelRun0_B.sl.HS2_6 c arg3 harg3 arg4 harg4 arg8 harg8 arg9 harg9 arg20 harg20 x1 x2 x6 x7 xs2) =
      stepPiece 1 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1269 c arg3 harg3 arg4 harg4 arg8 harg8 arg9 harg9 arg20 harg20 x1 x2 x6 x7 xs2) (headTable arg8 harg8 x6) (headTable arg9 harg9 x7) :: (kernelRun0_B.sl.HS2_5 c arg3 harg3 arg4 harg4 arg8 harg8 arg9 harg9 arg20 harg20 x1 x2 x6 x7 xs2) := rfl

/-- The states' stores to chunk 1, head 2. -/
theorem list6_B :
    (kernelRun0_B.sl.HS2_7 c arg3 harg3 arg4 harg4 arg8 harg8 arg9 harg9 arg20 harg20 x1 x2 x6 x7 xs2) =
      stepPiece 1 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1327 c arg3 harg3 arg4 harg4 arg8 harg8 arg9 harg9 arg20 harg20 x1 x2 x6 x7 xs2) (headTable arg8 harg8 x6) (headTable arg9 harg9 x7) :: (kernelRun0_B.sl.HS2_6 c arg3 harg3 arg4 harg4 arg8 harg8 arg9 harg9 arg20 harg20 x1 x2 x6 x7 xs2) := rfl

/-- The states' stores to chunk 1, head 3. -/
theorem list7_B :
    (kernelRun0_B.sl.HS2_8 c arg3 harg3 arg4 harg4 arg8 harg8 arg9 harg9 arg20 harg20 x1 x2 x6 x7 xs2) =
      stepPiece 1 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1385 c arg3 harg3 arg4 harg4 arg8 harg8 arg9 harg9 arg20 harg20 x1 x2 x6 x7 xs2) (headTable arg8 harg8 x6) (headTable arg9 harg9 x7) :: (kernelRun0_B.sl.HS2_7 c arg3 harg3 arg4 harg4 arg8 harg8 arg9 harg9 arg20 harg20 x1 x2 x6 x7 xs2) := rfl

/-- The states' stores to chunk 2, head 0. -/
theorem list8_B :
    (kernelRun0_B.sl.HS2_9 c arg3 harg3 arg4 harg4 arg8 harg8 arg9 harg9 arg20 harg20 x1 x2 x6 x7 xs2) =
      stepPiece 2 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1443 c arg3 harg3 arg4 harg4 arg8 harg8 arg9 harg9 arg20 harg20 x1 x2 x6 x7 xs2) (headTable arg8 harg8 x6) (headTable arg9 harg9 x7) :: (kernelRun0_B.sl.HS2_8 c arg3 harg3 arg4 harg4 arg8 harg8 arg9 harg9 arg20 harg20 x1 x2 x6 x7 xs2) := rfl

/-- The states' stores to chunk 2, head 1. -/
theorem list9_B :
    (kernelRun0_B.sl.HS2_10 c arg3 harg3 arg4 harg4 arg8 harg8 arg9 harg9 arg20 harg20 x1 x2 x6 x7 xs2) =
      stepPiece 2 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1501 c arg3 harg3 arg4 harg4 arg8 harg8 arg9 harg9 arg20 harg20 x1 x2 x6 x7 xs2) (headTable arg8 harg8 x6) (headTable arg9 harg9 x7) :: (kernelRun0_B.sl.HS2_9 c arg3 harg3 arg4 harg4 arg8 harg8 arg9 harg9 arg20 harg20 x1 x2 x6 x7 xs2) := rfl

/-- The states' stores to chunk 2, head 2. -/
theorem list10_B :
    (kernelRun0_B.sl.HS2_11 c arg3 harg3 arg4 harg4 arg8 harg8 arg9 harg9 arg20 harg20 x1 x2 x6 x7 xs2) =
      stepPiece 2 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1559 c arg3 harg3 arg4 harg4 arg8 harg8 arg9 harg9 arg20 harg20 x1 x2 x6 x7 xs2) (headTable arg8 harg8 x6) (headTable arg9 harg9 x7) :: (kernelRun0_B.sl.HS2_10 c arg3 harg3 arg4 harg4 arg8 harg8 arg9 harg9 arg20 harg20 x1 x2 x6 x7 xs2) := rfl

/-- The states' stores to chunk 2, head 3. -/
theorem list11_B :
    (kernelRun0_B.sl.HS2_12 c arg3 harg3 arg4 harg4 arg8 harg8 arg9 harg9 arg20 harg20 x1 x2 x6 x7 xs2) =
      stepPiece 2 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1617 c arg3 harg3 arg4 harg4 arg8 harg8 arg9 harg9 arg20 harg20 x1 x2 x6 x7 xs2) (headTable arg8 harg8 x6) (headTable arg9 harg9 x7) :: (kernelRun0_B.sl.HS2_11 c arg3 harg3 arg4 harg4 arg8 harg8 arg9 harg9 arg20 harg20 x1 x2 x6 x7 xs2) := rfl

/-- The states' stores to chunk 3, head 0. -/
theorem list12_B :
    (kernelRun0_B.sl.HS2_13 c arg3 harg3 arg4 harg4 arg8 harg8 arg9 harg9 arg20 harg20 x1 x2 x6 x7 xs2) =
      stepPiece 3 0 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1675 c arg3 harg3 arg4 harg4 arg8 harg8 arg9 harg9 arg20 harg20 x1 x2 x6 x7 xs2) (headTable arg8 harg8 x6) (headTable arg9 harg9 x7) :: (kernelRun0_B.sl.HS2_12 c arg3 harg3 arg4 harg4 arg8 harg8 arg9 harg9 arg20 harg20 x1 x2 x6 x7 xs2) := rfl

/-- The states' stores to chunk 3, head 1. -/
theorem list13_B :
    (kernelRun0_B.sl.HS2_14 c arg3 harg3 arg4 harg4 arg8 harg8 arg9 harg9 arg20 harg20 x1 x2 x6 x7 xs2) =
      stepPiece 3 1 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1733 c arg3 harg3 arg4 harg4 arg8 harg8 arg9 harg9 arg20 harg20 x1 x2 x6 x7 xs2) (headTable arg8 harg8 x6) (headTable arg9 harg9 x7) :: (kernelRun0_B.sl.HS2_13 c arg3 harg3 arg4 harg4 arg8 harg8 arg9 harg9 arg20 harg20 x1 x2 x6 x7 xs2) := rfl

/-- The states' stores to chunk 3, head 2. -/
theorem list14_B :
    (kernelRun0_B.sl.HS2_15 c arg3 harg3 arg4 harg4 arg8 harg8 arg9 harg9 arg20 harg20 x1 x2 x6 x7 xs2) =
      stepPiece 3 2 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1791 c arg3 harg3 arg4 harg4 arg8 harg8 arg9 harg9 arg20 harg20 x1 x2 x6 x7 xs2) (headTable arg8 harg8 x6) (headTable arg9 harg9 x7) :: (kernelRun0_B.sl.HS2_14 c arg3 harg3 arg4 harg4 arg8 harg8 arg9 harg9 arg20 harg20 x1 x2 x6 x7 xs2) := rfl

set_option maxHeartbeats 4000000 in
/-- The attention's stores. -/
theorem attn_B :
    (kernelRun0_B.sl.HS3_32 c i arg2 harg2 arg3 harg3 arg4 harg4 arg5 harg5 arg18 harg18 arg19 harg19 x0 x1 x2 x3 xs0 xs1) =
      (attnPieces i (k0_pay9 (tokensOf arg3 harg3 x1) (colsA arg4 harg4 x2 0 (by norm_num))) ![(kernelRun0_B.sl.r_4 c arg3 harg3 arg4 harg4 arg18 harg18 x1 x2 xs0), (kernelRun0_B.sl.v274 c arg3 harg3 arg4 harg4 arg18 x1 x2), (kernelRun0_B.sl.v500 c arg3 harg3 arg4 harg4 arg18 x1 x2), (kernelRun0_B.sl.v726 c arg3 harg3 arg4 harg4 arg18 x1 x2)]
      ![(kernelRun0_B.sl.r_5 c arg3 harg3 arg4 harg4 arg19 harg19 x1 x2 xs1), (kernelRun0_B.sl.v275 c arg3 harg3 arg4 harg4 arg19 x1 x2), (kernelRun0_B.sl.v501 c arg3 harg3 arg4 harg4 arg19 x1 x2), (kernelRun0_B.sl.v727 c arg3 harg3 arg4 harg4 arg19 x1 x2)] (biasOf arg5 harg5 x3) (sinkOf arg2 harg2 x0)) := rfl

set_option maxHeartbeats 4000000 in
/-- The retention's stores. -/
theorem ret_B :
    (kernelRun0_B.sl.HS4_16 c arg3 harg3 arg4 harg4 arg6 harg6 arg7 harg7 arg8 harg8 arg9 harg9 arg10 harg10 arg20 harg20 x1 x2 x4 x5 x6 x7 x8 xs2) =
      (retPieces (k0_pay105 (k0_pay8 (tokensOf arg3 harg3 x1)) (colsA arg4 harg4 x2 768 (by norm_num))) (k0_pay106 (k0_pay8 (tokensOf arg3 harg3 x1)) (colsA arg4 harg4 x2 1280 (by norm_num))) (k0_pay107 (k0_pay8 (tokensOf arg3 harg3 x1)) (colsA arg4 harg4 x2 1792 (by norm_num))) (k0_pay108 (k0_pay8 (tokensOf arg3 harg3 x1)) (colsA arg4 harg4 x2 2304 (by norm_num)))
      ![![(kernelRun0_B.sl.r_72 c arg20 harg20 xs2), (kernelRun0_B.sl.v1037 c arg20 harg20 xs2), (kernelRun0_B.sl.v1095 c arg20 harg20 xs2), (kernelRun0_B.sl.v1153 c arg20 harg20 xs2)], ![(kernelRun0_B.sl.v1211 c arg3 harg3 arg4 harg4 arg8 harg8 arg9 harg9 arg20 harg20 x1 x2 x6 x7 xs2), (kernelRun0_B.sl.v1269 c arg3 harg3 arg4 harg4 arg8 harg8 arg9 harg9 arg20 harg20 x1 x2 x6 x7 xs2), (kernelRun0_B.sl.v1327 c arg3 harg3 arg4 harg4 arg8 harg8 arg9 harg9 arg20 harg20 x1 x2 x6 x7 xs2), (kernelRun0_B.sl.v1385 c arg3 harg3 arg4 harg4 arg8 harg8 arg9 harg9 arg20 harg20 x1 x2 x6 x7 xs2)], ![(kernelRun0_B.sl.v1443 c arg3 harg3 arg4 harg4 arg8 harg8 arg9 harg9 arg20 harg20 x1 x2 x6 x7 xs2), (kernelRun0_B.sl.v1501 c arg3 harg3 arg4 harg4 arg8 harg8 arg9 harg9 arg20 harg20 x1 x2 x6 x7 xs2), (kernelRun0_B.sl.v1559 c arg3 harg3 arg4 harg4 arg8 harg8 arg9 harg9 arg20 harg20 x1 x2 x6 x7 xs2), (kernelRun0_B.sl.v1617 c arg3 harg3 arg4 harg4 arg8 harg8 arg9 harg9 arg20 harg20 x1 x2 x6 x7 xs2)], ![(kernelRun0_B.sl.v1675 c arg3 harg3 arg4 harg4 arg8 harg8 arg9 harg9 arg20 harg20 x1 x2 x6 x7 xs2), (kernelRun0_B.sl.v1733 c arg3 harg3 arg4 harg4 arg8 harg8 arg9 harg9 arg20 harg20 x1 x2 x6 x7 xs2), (kernelRun0_B.sl.v1791 c arg3 harg3 arg4 harg4 arg8 harg8 arg9 harg9 arg20 harg20 x1 x2 x6 x7 xs2), (kernelRun0_B.sl.v1849 c arg3 harg3 arg4 harg4 arg8 harg8 arg9 harg9 arg20 harg20 x1 x2 x6 x7 xs2)]]
      (headTable arg6 harg6 x4) (headTable arg7 harg7 x5) (gainOf arg10 harg10 x8)) := rfl

/-- The residual row. -/
theorem resid_B :
    (kernelRun0_B.sl.r_143 c i arg2 harg2 arg3 harg3 arg4 harg4 arg5 harg5 arg6 harg6 arg7 harg7 arg8 harg8 arg9 harg9 arg10 harg10 arg11 harg11 arg12 harg12 arg13 harg13 arg18 harg18 arg19 harg19 arg20 harg20 arg21 arg22 x0 x1 x2 x3 x4 x5 x6 x7 x8 x9 x10 x11 xs0 xs1 xs2) =
      k0_pay241 (k0_pay7 (tokensOf arg3 harg3 x1)) (k0_pay8 (tokensOf arg3 harg3 x1)) (branchLoad arg21 (kernelRun0_B.sl.HS3_32 c i arg2 harg2 arg3 harg3 arg4 harg4 arg5 harg5 arg18 harg18 arg19 harg19 x0 x1 x2 x3 xs0 xs1)) (allA arg11 harg11 x9)
        (branchLoad arg22 (kernelRun0_B.sl.HS4_16 c arg3 harg3 arg4 harg4 arg6 harg6 arg7 harg7 arg8 harg8 arg9 harg9 arg10 harg10 arg20 harg20 x1 x2 x4 x5 x6 x7 x8 xs2)) (allA arg12 harg12 x10) (colsC arg4 harg4 x2 2816 (by norm_num)) (colsC arg4 harg4 x2 3840 (by norm_num)) (allB arg13 harg13 x11) := rfl

variable (hc0 : ¬cond0_0 i)

/-- The block's output. -/
theorem out14_B :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 =
      VO0_14.read (Elt F) (VO0_14.writes (Elt F) VO0_14.junk [⟨Rect.unit (s := S1x512x1024) ![0, 0, 0] S1x512x1024.size tokens_inb,
        k0_pay2 (kernelRun0_B.sl.r_143 c i arg2 harg2 arg3 harg3 arg4 harg4 arg5 harg5 arg6 harg6 arg7 harg7 arg8 harg8 arg9 harg9 arg10 harg10 arg11 harg11 arg12 harg12 arg13 harg13 arg18 harg18 arg19 harg19 arg20 harg20 arg21 arg22 x0 x1 x2 x3 x4 x5 x6 x7 x8 x9 x10 x11 xs0 xs1 xs2) (k0_pay242 (allC arg14 harg14 x12)) (k0_pay243 (allC arg15 harg15 x13)) (k0_pay244 (kernelRun0_B.sl.r_143 c i arg2 harg2 arg3 harg3 arg4 harg4 arg5 harg5 arg6 harg6 arg7 harg7 arg8 harg8 arg9 harg9 arg10 harg10 arg11 harg11 arg12 harg12 arg13 harg13 arg18 harg18 arg19 harg19 arg20 harg20 arg21 arg22 x0 x1 x2 x3 x4 x5 x6 x7 x8 x9 x10 x11 xs0 xs1 xs2))⟩]) := rfl

/-- The block's output. -/
theorem out15_B :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 =
      VO0_15.read (Elt F) (VO0_15.writes (Elt F) VO0_15.junk [⟨Rect.unit (s := S1x512x1024) ![0, 0, 0] S1x512x1024.size tokens_inb,
        k0_pay3 (kernelRun0_B.sl.r_143 c i arg2 harg2 arg3 harg3 arg4 harg4 arg5 harg5 arg6 harg6 arg7 harg7 arg8 harg8 arg9 harg9 arg10 harg10 arg11 harg11 arg12 harg12 arg13 harg13 arg18 harg18 arg19 harg19 arg20 harg20 arg21 arg22 x0 x1 x2 x3 x4 x5 x6 x7 x8 x9 x10 x11 xs0 xs1 xs2) (k0_pay242 (allC arg14 harg14 x12)) (k0_pay243 (allC arg15 harg15 x13)) (k0_pay244 (kernelRun0_B.sl.r_143 c i arg2 harg2 arg3 harg3 arg4 harg4 arg5 harg5 arg6 harg6 arg7 harg7 arg8 harg8 arg9 harg9 arg10 harg10 arg11 harg11 arg12 harg12 arg13 harg13 arg18 harg18 arg19 harg19 arg20 harg20 arg21 arg22 x0 x1 x2 x3 x4 x5 x6 x7 x8 x9 x10 x11 xs0 xs1 xs2))⟩]) := rfl

/-- The buffer of keys after the block. -/
theorem skeys_B :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 =
      VS0_0.read (Elt F) (VS0_0.writes (Elt F) VS0_0.junk (oldRows (k0_pay103 (kernelRun0_B.sl.v952 c arg3 harg3 arg4 harg4 arg18 x1 x2)) :: (kernelRun0_B.sl.HS0_1 c arg3 harg3 arg4 harg4 x1 x2))) := rfl

/-- The buffer of values after the block. -/
theorem svals_B :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 =
      VS0_1.read (Elt F) (VS0_1.writes (Elt F) VS0_1.junk (oldRows (k0_pay104 (kernelRun0_B.sl.v956 c arg3 harg3 arg4 harg4 arg19 x1 x2)) :: (kernelRun0_B.sl.HS1_1 c arg3 harg3 arg4 harg4 x1 x2))) := rfl

/-- The states after the block. -/
theorem sstate_B :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 =
      VS0_2.read (Elt F) (VS0_2.writes (Elt F) VS0_2.junk (stepPiece 3 3 (k0_pay106 (k0_pay8 (tokensOf arg3 harg3 x1)) (colsA arg4 harg4 x2 1280 (by norm_num))) (k0_pay107 (k0_pay8 (tokensOf arg3 harg3 x1)) (colsA arg4 harg4 x2 1792 (by norm_num))) (kernelRun0_B.sl.v1849 c arg3 harg3 arg4 harg4 arg8 harg8 arg9 harg9 arg20 harg20 x1 x2 x6 x7 xs2) (headTable arg8 harg8 x6) (headTable arg9 harg9 x7) :: (kernelRun0_B.sl.HS2_15 c arg3 harg3 arg4 harg4 arg8 harg8 arg9 harg9 arg20 harg20 x1 x2 x6 x7 xs2))) := rfl

end Cert.Mixer
-- ==== Proof.CaseB.lean ====
/-
  The kernel's run at a later block of a sequence: its output is the mixed rows, and it leaves the next block its band and states.
-/
module

public import proofs.«01_k».proof.Proof.PiecesB
public import proofs.«01_k».proof.Proof.Zeros
public import proofs.«01_k».proof.Proof.After

@[expose] public section

noncomputable section

namespace Cert.Mixer

open Idealize.ShloMosaic Cert.KernelIdeal Cert.KernelIdeal.Gen
open scoped BigOperators

set_option maxRecDepth 16384
set_option backward.proofsInPublic true

variable {c : Dev nD} {i : grid0.Coords}
  {arg2 : Memref sig .tc .smem S1x8 .f32} {harg2 : arg2.IsWhole}
  {arg3 : Memref sig .tc .vmem S1x512x1024 .f32} {harg3 : arg3.IsWhole}
  {arg4 : Memref sig .tc .vmem S1024x4864 .bf16} {harg4 : arg4.IsWhole}
  {arg5 : Memref sig .tc .vmem S8x128x256 .f32} {harg5 : arg5.IsWhole}
  {arg6 : Memref sig .tc .vmem S4x128x128 .f32} {harg6 : arg6.IsWhole}
  {arg7 : Memref sig .tc .vmem S4x128x128 .f32} {harg7 : arg7.IsWhole}
  {arg8 : Memref sig .tc .vmem S4x128x128 .f32} {harg8 : arg8.IsWhole}
  {arg9 : Memref sig .tc .vmem S4x128x128 .f32} {harg9 : arg9.IsWhole}
  {arg10 : Memref sig .tc .vmem S1x512 .f32} {harg10 : arg10.IsWhole}
  {arg11 : Memref sig .tc .vmem S512x1024 .bf16} {harg11 : arg11.IsWhole}
  {arg12 : Memref sig .tc .vmem S512x1024 .bf16} {harg12 : arg12.IsWhole}
  {arg13 : Memref sig .tc .vmem S1024x1024 .bf16} {harg13 : arg13.IsWhole}
  {arg14 : Memref sig .tc .vmem S1x1024 .f32} {harg14 : arg14.IsWhole}
  {arg15 : Memref sig .tc .vmem S1x1024 .f32} {harg15 : arg15.IsWhole}
  {arg16 : Memref sig .tc .vmem S1x512x1024 .f32} {harg16 : arg16.IsWhole}
  {arg17 : Memref sig .tc .vmem S1x512x1024 .bf16} {harg17 : arg17.IsWhole}
  {arg18 : Memref sig .tc .vmem S640x128 .bf16} {harg18 : arg18.IsWhole}
  {arg19 : Memref sig .tc .vmem S640x128 .bf16} {harg19 : arg19.IsWhole}
  {arg20 : Memref sig .tc .vmem S4x128x128 .f32} {harg20 : arg20.IsWhole}
  {arg21 : Memref sig .tc .vmem S512x512 .f32} {harg21 : arg21.IsWhole}
  {arg22 : Memref sig .tc .vmem S512x512 .f32} {harg22 : arg22.IsWhole}
  {x0 : Vec Ideal S1x8 .f32}
  {x1 : Vec Ideal S1x512x1024 .f32}
  {x2 : Vec Ideal S1024x4864 .bf16}
  {x3 : Vec Ideal S8x128x256 .f32}
  {x4 : Vec Ideal S4x128x128 .f32}
  {x5 : Vec Ideal S4x128x128 .f32}
  {x6 : Vec Ideal S4x128x128 .f32}
  {x7 : Vec Ideal S4x128x128 .f32}
  {x8 : Vec Ideal S1x512 .f32}
  {x9 : Vec Ideal S512x1024 .bf16}
  {x10 : Vec Ideal S512x1024 .bf16}
  {x11 : Vec Ideal S1024x1024 .bf16}
  {x12 : Vec Ideal S1x1024 .f32}
  {x13 : Vec Ideal S1x1024 .f32}
  {xs0 : Vec Ideal S640x128 .bf16}
  {xs1 : Vec Ideal S640x128 .bf16}
  {xs2 : Vec Ideal S4x128x128 .f32}

variable {P : Params} {s : ℕ} (I : Inputs P s x0 x1 x2 x3 x4 x5 x6 x7 x8 x9 x10 x11 x12 x13)
  (hk : ∀ y u : Fin 128, xs0 (ix2 ⟨y.val, by omega⟩ u) = band P (4 * s) y.val (512 + u.val))
  (hv : ∀ y u : Fin 128, xs1 (ix2 ⟨y.val, by omega⟩ u) = band P (4 * s) y.val (640 + u.val))
  (hs : ∀ (h : Fin 4) (d e : Fin 128), xs2 (ix3 h d e) = state P (4 * s) h.val d.val e.val)

include I hk hv hs

theorem bk0_B (j : Fin 256) (u : Fin 128) : (kernelRun0_B.sl.r_4 c arg3 harg3 arg4 harg4 arg18 harg18 x1 x2 xs0) (ix2 j u) = band P (4 * s + 0) j.val (512 + u.val) :=
  (congrFun (bandk0_B (F := Ideal)) _).trans (by
      rw [keys_B]
      exact band_first _ 512 (newK_val I arg3 harg3 arg4 harg4) _ _ _ (fun y u => by
        show arg18.view.read (Elt Ideal) (harg18.unread xs0) _ = _
        rw [harg18.read_unread]; exact hk y u) j u)

theorem bk1_B (j : Fin 256) (u : Fin 128) : (kernelRun0_B.sl.v274 c arg3 harg3 arg4 harg4 arg18 x1 x2) (ix2 j u) = band P (4 * s + 1) j.val (512 + u.val) :=
  (congrFun (bandk1_B (F := Ideal)) _).trans (by
      rw [keys_B]
      exact band_new _ 512 (newK_val I arg3 harg3 arg4 harg4) _ _ _ 1 (by decide) j u)

theorem bk2_B (j : Fin 256) (u : Fin 128) : (kernelRun0_B.sl.v500 c arg3 harg3 arg4 harg4 arg18 x1 x2) (ix2 j u) = band P (4 * s + 2) j.val (512 + u.val) :=
  (congrFun (bandk2_B (F := Ideal)) _).trans (by
      rw [keys_B]
      exact band_new _ 512 (newK_val I arg3 harg3 arg4 harg4) _ _ _ 2 (by decide) j u)

theorem bk3_B (j : Fin 256) (u : Fin 128) : (kernelRun0_B.sl.v726 c arg3 harg3 arg4 harg4 arg18 x1 x2) (ix2 j u) = band P (4 * s + 3) j.val (512 + u.val) :=
  (congrFun (bandk3_B (F := Ideal)) _).trans (by
      rw [keys_B]
      exact band_new _ 512 (newK_val I arg3 harg3 arg4 harg4) _ _ _ 3 (by decide) j u)

/-- The bands of keys of the block's chunks. -/
theorem bk_B (n : Fin 4) (j : Fin 256) (u : Fin 128) :
    (![(kernelRun0_B.sl.r_4 c arg3 harg3 arg4 harg4 arg18 harg18 x1 x2 xs0), (kernelRun0_B.sl.v274 c arg3 harg3 arg4 harg4 arg18 x1 x2), (kernelRun0_B.sl.v500 c arg3 harg3 arg4 harg4 arg18 x1 x2), (kernelRun0_B.sl.v726 c arg3 harg3 arg4 harg4 arg18 x1 x2)] : Fin 4 → Vec Ideal S256x128 .bf16) n (ix2 j u) =
      band P (4 * s + n.val) j.val (512 + u.val) := by
  match n with
  | ⟨0, _⟩ => exact bk0_B (P := P) (s := s) (by assumption) (by assumption) (by assumption) (by assumption) j u
  | ⟨1, _⟩ => exact bk1_B (P := P) (s := s) (by assumption) (by assumption) (by assumption) (by assumption) j u
  | ⟨2, _⟩ => exact bk2_B (P := P) (s := s) (by assumption) (by assumption) (by assumption) (by assumption) j u
  | ⟨3, _⟩ => exact bk3_B (P := P) (s := s) (by assumption) (by assumption) (by assumption) (by assumption) j u

theorem bv0_B (j : Fin 256) (u : Fin 128) : (kernelRun0_B.sl.r_5 c arg3 harg3 arg4 harg4 arg19 harg19 x1 x2 xs1) (ix2 j u) = band P (4 * s + 0) j.val (640 + u.val) :=
  (congrFun (bandv0_B (F := Ideal)) _).trans (by
      rw [vals_B]
      exact band_first _ 640 (newV_val I arg3 harg3 arg4 harg4) _ _ _ (fun y u => by
        show arg19.view.read (Elt Ideal) (harg19.unread xs1) _ = _
        rw [harg19.read_unread]; exact hv y u) j u)

theorem bv1_B (j : Fin 256) (u : Fin 128) : (kernelRun0_B.sl.v275 c arg3 harg3 arg4 harg4 arg19 x1 x2) (ix2 j u) = band P (4 * s + 1) j.val (640 + u.val) :=
  (congrFun (bandv1_B (F := Ideal)) _).trans (by
      rw [vals_B]
      exact band_new _ 640 (newV_val I arg3 harg3 arg4 harg4) _ _ _ 1 (by decide) j u)

theorem bv2_B (j : Fin 256) (u : Fin 128) : (kernelRun0_B.sl.v501 c arg3 harg3 arg4 harg4 arg19 x1 x2) (ix2 j u) = band P (4 * s + 2) j.val (640 + u.val) :=
  (congrFun (bandv2_B (F := Ideal)) _).trans (by
      rw [vals_B]
      exact band_new _ 640 (newV_val I arg3 harg3 arg4 harg4) _ _ _ 2 (by decide) j u)

theorem bv3_B (j : Fin 256) (u : Fin 128) : (kernelRun0_B.sl.v727 c arg3 harg3 arg4 harg4 arg19 x1 x2) (ix2 j u) = band P (4 * s + 3) j.val (640 + u.val) :=
  (congrFun (bandv3_B (F := Ideal)) _).trans (by
      rw [vals_B]
      exact band_new _ 640 (newV_val I arg3 harg3 arg4 harg4) _ _ _ 3 (by decide) j u)

/-- The bands of values of the block's chunks. -/
theorem bv_B (n : Fin 4) (j : Fin 256) (u : Fin 128) :
    (![(kernelRun0_B.sl.r_5 c arg3 harg3 arg4 harg4 arg19 harg19 x1 x2 xs1), (kernelRun0_B.sl.v275 c arg3 harg3 arg4 harg4 arg19 x1 x2), (kernelRun0_B.sl.v501 c arg3 harg3 arg4 harg4 arg19 x1 x2), (kernelRun0_B.sl.v727 c arg3 harg3 arg4 harg4 arg19 x1 x2)] : Fin 4 → Vec Ideal S256x128 .bf16) n (ix2 j u) =
      band P (4 * s + n.val) j.val (640 + u.val) := by
  match n with
  | ⟨0, _⟩ => exact bv0_B (P := P) (s := s) (by assumption) (by assumption) (by assumption) (by assumption) j u
  | ⟨1, _⟩ => exact bv1_B (P := P) (s := s) (by assumption) (by assumption) (by assumption) (by assumption) j u
  | ⟨2, _⟩ => exact bv2_B (P := P) (s := s) (by assumption) (by assumption) (by assumption) (by assumption) j u
  | ⟨3, _⟩ => exact bv3_B (P := P) (s := s) (by assumption) (by assumption) (by assumption) (by assumption) j u

theorem at0_B : At P s 0 0 (kernelRun0_B.sl.r_72 c arg20 harg20 xs2) := by
  rw [load0_B]
  intro d e
  rw [headTable_apply]; exact hs 0 d e

theorem at1_B : At P s 0 1 (kernelRun0_B.sl.v1037 c arg20 harg20 xs2) := by
  rw [load1_B]
  intro d e
  rw [headTable_apply]; exact hs 1 d e

theorem at2_B : At P s 0 2 (kernelRun0_B.sl.v1095 c arg20 harg20 xs2) := by
  rw [load2_B]
  intro d e
  rw [headTable_apply]; exact hs 2 d e

theorem at3_B : At P s 0 3 (kernelRun0_B.sl.v1153 c arg20 harg20 xs2) := by
  rw [load3_B]
  intro d e
  rw [headTable_apply]; exact hs 3 d e

theorem lohi4_B : Lo P s 1 0 (kernelRun0_B.sl.HS2_4 c arg3 harg3 arg4 harg4 arg8 harg8 arg9 harg9 arg20 harg20 x1 x2 x6 x7 xs2) ∧ Hi P s 1 0 (kernelRun0_B.sl.HS2_4 c arg3 harg3 arg4 harg4 arg8 harg8 arg9 harg9 arg20 harg20 x1 x2 x6 x7 xs2) := by
  refine ⟨Lo.zero, Lo.full (c := 0) ?_⟩
  rw [list3_B]
  exact Lo.step I (c := 0) (h := 3) (Lo.step I (c := 0) (h := 2) (Lo.step I (c := 0) (h := 1) (Lo.step I (c := 0) (h := 0) Lo.zero
    (at0_B I hk hv hs)) (at1_B I hk hv hs)) (at2_B I hk hv hs)) (at3_B I hk hv hs)

theorem at4_B : At P s 1 0 (kernelRun0_B.sl.v1211 c arg3 harg3 arg4 harg4 arg8 harg8 arg9 harg9 arg20 harg20 x1 x2 x6 x7 xs2) := by
  rw [load4_B]
  exact Hi.load (c := 1) (h := 0) arg20 (lohi4_B I hk hv hs).2

theorem lohi5_B : Lo P s 1 1 (kernelRun0_B.sl.HS2_5 c arg3 harg3 arg4 harg4 arg8 harg8 arg9 harg9 arg20 harg20 x1 x2 x6 x7 xs2) ∧ Hi P s 1 1 (kernelRun0_B.sl.HS2_5 c arg3 harg3 arg4 harg4 arg8 harg8 arg9 harg9 arg20 harg20 x1 x2 x6 x7 xs2) := by
  rw [list4_B]
  exact ⟨Lo.step I (c := 1) (h := 0) (lohi4_B I hk hv hs).1 (at4_B I hk hv hs), Hi.step (c := 1) (h := 0) (lohi4_B I hk hv hs).2⟩

theorem at5_B : At P s 1 1 (kernelRun0_B.sl.v1269 c arg3 harg3 arg4 harg4 arg8 harg8 arg9 harg9 arg20 harg20 x1 x2 x6 x7 xs2) := by
  rw [load5_B]
  exact Hi.load (c := 1) (h := 1) arg20 (lohi5_B I hk hv hs).2

theorem lohi6_B : Lo P s 1 2 (kernelRun0_B.sl.HS2_6 c arg3 harg3 arg4 harg4 arg8 harg8 arg9 harg9 arg20 harg20 x1 x2 x6 x7 xs2) ∧ Hi P s 1 2 (kernelRun0_B.sl.HS2_6 c arg3 harg3 arg4 harg4 arg8 harg8 arg9 harg9 arg20 harg20 x1 x2 x6 x7 xs2) := by
  rw [list5_B]
  exact ⟨Lo.step I (c := 1) (h := 1) (lohi5_B I hk hv hs).1 (at5_B I hk hv hs), Hi.step (c := 1) (h := 1) (lohi5_B I hk hv hs).2⟩

theorem at6_B : At P s 1 2 (kernelRun0_B.sl.v1327 c arg3 harg3 arg4 harg4 arg8 harg8 arg9 harg9 arg20 harg20 x1 x2 x6 x7 xs2) := by
  rw [load6_B]
  exact Hi.load (c := 1) (h := 2) arg20 (lohi6_B I hk hv hs).2

theorem lohi7_B : Lo P s 1 3 (kernelRun0_B.sl.HS2_7 c arg3 harg3 arg4 harg4 arg8 harg8 arg9 harg9 arg20 harg20 x1 x2 x6 x7 xs2) ∧ Hi P s 1 3 (kernelRun0_B.sl.HS2_7 c arg3 harg3 arg4 harg4 arg8 harg8 arg9 harg9 arg20 harg20 x1 x2 x6 x7 xs2) := by
  rw [list6_B]
  exact ⟨Lo.step I (c := 1) (h := 2) (lohi6_B I hk hv hs).1 (at6_B I hk hv hs), Hi.step (c := 1) (h := 2) (lohi6_B I hk hv hs).2⟩

theorem at7_B : At P s 1 3 (kernelRun0_B.sl.v1385 c arg3 harg3 arg4 harg4 arg8 harg8 arg9 harg9 arg20 harg20 x1 x2 x6 x7 xs2) := by
  rw [load7_B]
  exact Hi.load (c := 1) (h := 3) arg20 (lohi7_B I hk hv hs).2

theorem lohi8_B : Lo P s 2 0 (kernelRun0_B.sl.HS2_8 c arg3 harg3 arg4 harg4 arg8 harg8 arg9 harg9 arg20 harg20 x1 x2 x6 x7 xs2) ∧ Hi P s 2 0 (kernelRun0_B.sl.HS2_8 c arg3 harg3 arg4 harg4 arg8 harg8 arg9 harg9 arg20 harg20 x1 x2 x6 x7 xs2) := by
  refine ⟨Lo.zero, Lo.full (c := 1) ?_⟩
  rw [list7_B]
  exact Lo.step I (c := 1) (h := 3) (lohi7_B I hk hv hs).1 (at7_B I hk hv hs)

theorem at8_B : At P s 2 0 (kernelRun0_B.sl.v1443 c arg3 harg3 arg4 harg4 arg8 harg8 arg9 harg9 arg20 harg20 x1 x2 x6 x7 xs2) := by
  rw [load8_B]
  exact Hi.load (c := 2) (h := 0) arg20 (lohi8_B I hk hv hs).2

theorem lohi9_B : Lo P s 2 1 (kernelRun0_B.sl.HS2_9 c arg3 harg3 arg4 harg4 arg8 harg8 arg9 harg9 arg20 harg20 x1 x2 x6 x7 xs2) ∧ Hi P s 2 1 (kernelRun0_B.sl.HS2_9 c arg3 harg3 arg4 harg4 arg8 harg8 arg9 harg9 arg20 harg20 x1 x2 x6 x7 xs2) := by
  rw [list8_B]
  exact ⟨Lo.step I (c := 2) (h := 0) (lohi8_B I hk hv hs).1 (at8_B I hk hv hs), Hi.step (c := 2) (h := 0) (lohi8_B I hk hv hs).2⟩

theorem at9_B : At P s 2 1 (kernelRun0_B.sl.v1501 c arg3 harg3 arg4 harg4 arg8 harg8 arg9 harg9 arg20 harg20 x1 x2 x6 x7 xs2) := by
  rw [load9_B]
  exact Hi.load (c := 2) (h := 1) arg20 (lohi9_B I hk hv hs).2

theorem lohi10_B : Lo P s 2 2 (kernelRun0_B.sl.HS2_10 c arg3 harg3 arg4 harg4 arg8 harg8 arg9 harg9 arg20 harg20 x1 x2 x6 x7 xs2) ∧ Hi P s 2 2 (kernelRun0_B.sl.HS2_10 c arg3 harg3 arg4 harg4 arg8 harg8 arg9 harg9 arg20 harg20 x1 x2 x6 x7 xs2) := by
  rw [list9_B]
  exact ⟨Lo.step I (c := 2) (h := 1) (lohi9_B I hk hv hs).1 (at9_B I hk hv hs), Hi.step (c := 2) (h := 1) (lohi9_B I hk hv hs).2⟩

theorem at10_B : At P s 2 2 (kernelRun0_B.sl.v1559 c arg3 harg3 arg4 harg4 arg8 harg8 arg9 harg9 arg20 harg20 x1 x2 x6 x7 xs2) := by
  rw [load10_B]
  exact Hi.load (c := 2) (h := 2) arg20 (lohi10_B I hk hv hs).2

theorem lohi11_B : Lo P s 2 3 (kernelRun0_B.sl.HS2_11 c arg3 harg3 arg4 harg4 arg8 harg8 arg9 harg9 arg20 harg20 x1 x2 x6 x7 xs2) ∧ Hi P s 2 3 (kernelRun0_B.sl.HS2_11 c arg3 harg3 arg4 harg4 arg8 harg8 arg9 harg9 arg20 harg20 x1 x2 x6 x7 xs2) := by
  rw [list10_B]
  exact ⟨Lo.step I (c := 2) (h := 2) (lohi10_B I hk hv hs).1 (at10_B I hk hv hs), Hi.step (c := 2) (h := 2) (lohi10_B I hk hv hs).2⟩

theorem at11_B : At P s 2 3 (kernelRun0_B.sl.v1617 c arg3 harg3 arg4 harg4 arg8 harg8 arg9 harg9 arg20 harg20 x1 x2 x6 x7 xs2) := by
  rw [load11_B]
  exact Hi.load (c := 2) (h := 3) arg20 (lohi11_B I hk hv hs).2

theorem lohi12_B : Lo P s 3 0 (kernelRun0_B.sl.HS2_12 c arg3 harg3 arg4 harg4 arg8 harg8 arg9 harg9 arg20 harg20 x1 x2 x6 x7 xs2) ∧ Hi P s 3 0 (kernelRun0_B.sl.HS2_12 c arg3 harg3 arg4 harg4 arg8 harg8 arg9 harg9 arg20 harg20 x1 x2 x6 x7 xs2) := by
  refine ⟨Lo.zero, Lo.full (c := 2) ?_⟩
  rw [list11_B]
  exact Lo.step I (c := 2) (h := 3) (lohi11_B I hk hv hs).1 (at11_B I hk hv hs)

theorem at12_B : At P s 3 0 (kernelRun0_B.sl.v1675 c arg3 harg3 arg4 harg4 arg8 harg8 arg9 harg9 arg20 harg20 x1 x2 x6 x7 xs2) := by
  rw [load12_B]
  exact Hi.load (c := 3) (h := 0) arg20 (lohi12_B I hk hv hs).2

theorem lohi13_B : Lo P s 3 1 (kernelRun0_B.sl.HS2_13 c arg3 harg3 arg4 harg4 arg8 harg8 arg9 harg9 arg20 harg20 x1 x2 x6 x7 xs2) ∧ Hi P s 3 1 (kernelRun0_B.sl.HS2_13 c arg3 harg3 arg4 harg4 arg8 harg8 arg9 harg9 arg20 harg20 x1 x2 x6 x7 xs2) := by
  rw [list12_B]
  exact ⟨Lo.step I (c := 3) (h := 0) (lohi12_B I hk hv hs).1 (at12_B I hk hv hs), Hi.step (c := 3) (h := 0) (lohi12_B I hk hv hs).2⟩

theorem at13_B : At P s 3 1 (kernelRun0_B.sl.v1733 c arg3 harg3 arg4 harg4 arg8 harg8 arg9 harg9 arg20 harg20 x1 x2 x6 x7 xs2) := by
  rw [load13_B]
  exact Hi.load (c := 3) (h := 1) arg20 (lohi13_B I hk hv hs).2

theorem lohi14_B : Lo P s 3 2 (kernelRun0_B.sl.HS2_14 c arg3 harg3 arg4 harg4 arg8 harg8 arg9 harg9 arg20 harg20 x1 x2 x6 x7 xs2) ∧ Hi P s 3 2 (kernelRun0_B.sl.HS2_14 c arg3 harg3 arg4 harg4 arg8 harg8 arg9 harg9 arg20 harg20 x1 x2 x6 x7 xs2) := by
  rw [list13_B]
  exact ⟨Lo.step I (c := 3) (h := 1) (lohi13_B I hk hv hs).1 (at13_B I hk hv hs), Hi.step (c := 3) (h := 1) (lohi13_B I hk hv hs).2⟩

theorem at14_B : At P s 3 2 (kernelRun0_B.sl.v1791 c arg3 harg3 arg4 harg4 arg8 harg8 arg9 harg9 arg20 harg20 x1 x2 x6 x7 xs2) := by
  rw [load14_B]
  exact Hi.load (c := 3) (h := 2) arg20 (lohi14_B I hk hv hs).2

theorem lohi15_B : Lo P s 3 3 (kernelRun0_B.sl.HS2_15 c arg3 harg3 arg4 harg4 arg8 harg8 arg9 harg9 arg20 harg20 x1 x2 x6 x7 xs2) ∧ Hi P s 3 3 (kernelRun0_B.sl.HS2_15 c arg3 harg3 arg4 harg4 arg8 harg8 arg9 harg9 arg20 harg20 x1 x2 x6 x7 xs2) := by
  rw [list14_B]
  exact ⟨Lo.step I (c := 3) (h := 2) (lohi14_B I hk hv hs).1 (at14_B I hk hv hs), Hi.step (c := 3) (h := 2) (lohi14_B I hk hv hs).2⟩

theorem at15_B : At P s 3 3 (kernelRun0_B.sl.v1849 c arg3 harg3 arg4 harg4 arg8 harg8 arg9 harg9 arg20 harg20 x1 x2 x6 x7 xs2) := by
  rw [load15_B]
  exact Hi.load (c := 3) (h := 3) arg20 (lohi15_B I hk hv hs).2

theorem row0_B (h : Fin 4) (d e : Fin 128) :
    (![(kernelRun0_B.sl.r_72 c arg20 harg20 xs2), (kernelRun0_B.sl.v1037 c arg20 harg20 xs2), (kernelRun0_B.sl.v1095 c arg20 harg20 xs2), (kernelRun0_B.sl.v1153 c arg20 harg20 xs2)] : Fin 4 → Vec Ideal S1x128x128 .f32) h (ix3 0 d e) = state P (4 * s + 0) h.val d.val e.val := by
  match h with
  | ⟨0, _⟩ => exact at0_B I hk hv hs d e
  | ⟨1, _⟩ => exact at1_B I hk hv hs d e
  | ⟨2, _⟩ => exact at2_B I hk hv hs d e
  | ⟨3, _⟩ => exact at3_B I hk hv hs d e

theorem row1_B (h : Fin 4) (d e : Fin 128) :
    (![(kernelRun0_B.sl.v1211 c arg3 harg3 arg4 harg4 arg8 harg8 arg9 harg9 arg20 harg20 x1 x2 x6 x7 xs2), (kernelRun0_B.sl.v1269 c arg3 harg3 arg4 harg4 arg8 harg8 arg9 harg9 arg20 harg20 x1 x2 x6 x7 xs2), (kernelRun0_B.sl.v1327 c arg3 harg3 arg4 harg4 arg8 harg8 arg9 harg9 arg20 harg20 x1 x2 x6 x7 xs2), (kernelRun0_B.sl.v1385 c arg3 harg3 arg4 harg4 arg8 harg8 arg9 harg9 arg20 harg20 x1 x2 x6 x7 xs2)] : Fin 4 → Vec Ideal S1x128x128 .f32) h (ix3 0 d e) = state P (4 * s + 1) h.val d.val e.val := by
  match h with
  | ⟨0, _⟩ => exact at4_B I hk hv hs d e
  | ⟨1, _⟩ => exact at5_B I hk hv hs d e
  | ⟨2, _⟩ => exact at6_B I hk hv hs d e
  | ⟨3, _⟩ => exact at7_B I hk hv hs d e

theorem row2_B (h : Fin 4) (d e : Fin 128) :
    (![(kernelRun0_B.sl.v1443 c arg3 harg3 arg4 harg4 arg8 harg8 arg9 harg9 arg20 harg20 x1 x2 x6 x7 xs2), (kernelRun0_B.sl.v1501 c arg3 harg3 arg4 harg4 arg8 harg8 arg9 harg9 arg20 harg20 x1 x2 x6 x7 xs2), (kernelRun0_B.sl.v1559 c arg3 harg3 arg4 harg4 arg8 harg8 arg9 harg9 arg20 harg20 x1 x2 x6 x7 xs2), (kernelRun0_B.sl.v1617 c arg3 harg3 arg4 harg4 arg8 harg8 arg9 harg9 arg20 harg20 x1 x2 x6 x7 xs2)] : Fin 4 → Vec Ideal S1x128x128 .f32) h (ix3 0 d e) = state P (4 * s + 2) h.val d.val e.val := by
  match h with
  | ⟨0, _⟩ => exact at8_B I hk hv hs d e
  | ⟨1, _⟩ => exact at9_B I hk hv hs d e
  | ⟨2, _⟩ => exact at10_B I hk hv hs d e
  | ⟨3, _⟩ => exact at11_B I hk hv hs d e

theorem row3_B (h : Fin 4) (d e : Fin 128) :
    (![(kernelRun0_B.sl.v1675 c arg3 harg3 arg4 harg4 arg8 harg8 arg9 harg9 arg20 harg20 x1 x2 x6 x7 xs2), (kernelRun0_B.sl.v1733 c arg3 harg3 arg4 harg4 arg8 harg8 arg9 harg9 arg20 harg20 x1 x2 x6 x7 xs2), (kernelRun0_B.sl.v1791 c arg3 harg3 arg4 harg4 arg8 harg8 arg9 harg9 arg20 harg20 x1 x2 x6 x7 xs2), (kernelRun0_B.sl.v1849 c arg3 harg3 arg4 harg4 arg8 harg8 arg9 harg9 arg20 harg20 x1 x2 x6 x7 xs2)] : Fin 4 → Vec Ideal S1x128x128 .f32) h (ix3 0 d e) = state P (4 * s + 3) h.val d.val e.val := by
  match h with
  | ⟨0, _⟩ => exact at12_B I hk hv hs d e
  | ⟨1, _⟩ => exact at13_B I hk hv hs d e
  | ⟨2, _⟩ => exact at14_B I hk hv hs d e
  | ⟨3, _⟩ => exact at15_B I hk hv hs d e

/-- The states the block's chunks start from. -/
theorem at_B (n h : Fin 4) (d e : Fin 128) :
    (![![(kernelRun0_B.sl.r_72 c arg20 harg20 xs2), (kernelRun0_B.sl.v1037 c arg20 harg20 xs2), (kernelRun0_B.sl.v1095 c arg20 harg20 xs2), (kernelRun0_B.sl.v1153 c arg20 harg20 xs2)], ![(kernelRun0_B.sl.v1211 c arg3 harg3 arg4 harg4 arg8 harg8 arg9 harg9 arg20 harg20 x1 x2 x6 x7 xs2), (kernelRun0_B.sl.v1269 c arg3 harg3 arg4 harg4 arg8 harg8 arg9 harg9 arg20 harg20 x1 x2 x6 x7 xs2), (kernelRun0_B.sl.v1327 c arg3 harg3 arg4 harg4 arg8 harg8 arg9 harg9 arg20 harg20 x1 x2 x6 x7 xs2), (kernelRun0_B.sl.v1385 c arg3 harg3 arg4 harg4 arg8 harg8 arg9 harg9 arg20 harg20 x1 x2 x6 x7 xs2)], ![(kernelRun0_B.sl.v1443 c arg3 harg3 arg4 harg4 arg8 harg8 arg9 harg9 arg20 harg20 x1 x2 x6 x7 xs2), (kernelRun0_B.sl.v1501 c arg3 harg3 arg4 harg4 arg8 harg8 arg9 harg9 arg20 harg20 x1 x2 x6 x7 xs2), (kernelRun0_B.sl.v1559 c arg3 harg3 arg4 harg4 arg8 harg8 arg9 harg9 arg20 harg20 x1 x2 x6 x7 xs2), (kernelRun0_B.sl.v1617 c arg3 harg3 arg4 harg4 arg8 harg8 arg9 harg9 arg20 harg20 x1 x2 x6 x7 xs2)], ![(kernelRun0_B.sl.v1675 c arg3 harg3 arg4 harg4 arg8 harg8 arg9 harg9 arg20 harg20 x1 x2 x6 x7 xs2), (kernelRun0_B.sl.v1733 c arg3 harg3 arg4 harg4 arg8 harg8 arg9 harg9 arg20 harg20 x1 x2 x6 x7 xs2), (kernelRun0_B.sl.v1791 c arg3 harg3 arg4 harg4 arg8 harg8 arg9 harg9 arg20 harg20 x1 x2 x6 x7 xs2), (kernelRun0_B.sl.v1849 c arg3 harg3 arg4 harg4 arg8 harg8 arg9 harg9 arg20 harg20 x1 x2 x6 x7 xs2)]] : Fin 4 → Fin 4 → Vec Ideal S1x128x128 .f32) n h (ix3 0 d e) = state P (4 * s + n.val) h.val d.val e.val := by
  match n with
  | ⟨0, _⟩ => exact row0_B I hk hv hs h d e
  | ⟨1, _⟩ => exact row1_B I hk hv hs h d e
  | ⟨2, _⟩ => exact row2_B I hk hv hs h d e
  | ⟨3, _⟩ => exact row3_B I hk hv hs h d e

variable (hi : (i 1).val = s)

include hi

/-- The residual rows of the block. -/
theorem z_B (r : Fin 512) (m : Fin 1024) : (kernelRun0_B.sl.r_143 c i arg2 harg2 arg3 harg3 arg4 harg4 arg5 harg5 arg6 harg6 arg7 harg7 arg8 harg8 arg9 harg9 arg10 harg10 arg11 harg11 arg12 harg12 arg13 harg13 arg18 harg18 arg19 harg19 arg20 harg20 arg21 arg22 x0 x1 x2 x3 x4 x5 x6 x7 x8 x9 x10 x11 xs0 xs1 xs2) (ix2 r m) = resid P (512 * s + r.val) m.val := by
  rw [resid_B, attn_B, ret_B]
  exact resid_val I arg2 harg2 arg3 harg3 arg4 harg4 arg5 harg5 arg6 arg7 harg6 harg7 arg10 harg10
    arg11 arg12 harg11 harg12 arg13 harg13 arg21 arg22 i hi _ _ _ (bk_B I hk hv hs) (bv_B I hk hv hs) (at_B I hk hv hs) r m

variable (hc0 : ¬cond0_0 i)

/-- The block's output. -/
theorem o14_B (r : Fin 512) (m : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 (ix3 0 r m) = mixed P (512 * s + r.val) m := by
  rw [out14_B]
  refine (View.read_writes_cons_unit_of_mem _ _ tokens_inb _ _ _ (ix3 0 r m : S1x512x1024.Idx) rfl fun a => ?_).trans ?_
  · match a with
    | ⟨0, _⟩ => rfl
    | ⟨1, _⟩ => show r.val = 0 + r.val; omega
    | ⟨2, _⟩ => show m.val = 0 + m.val; omega
  · exact (out_val I arg14 arg15 harg14 harg15 _ (fun r m => z_B I hk hv hs hi r m) r m).1

/-- The block's output. -/
theorem o15_B (r : Fin 512) (m : Fin 1024) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 (ix3 0 r m) = mixed P (512 * s + r.val) m := by
  rw [out15_B]
  refine (View.read_writes_cons_unit_of_mem _ _ tokens_inb _ _ _ (ix3 0 r m : S1x512x1024.Idx) rfl fun a => ?_).trans ?_
  · match a with
    | ⟨0, _⟩ => rfl
    | ⟨1, _⟩ => show r.val = 0 + r.val; omega
    | ⟨2, _⟩ => show m.val = 0 + m.val; omega
  · exact (out_val I arg14 arg15 harg14 harg15 _ (fun r m => z_B I hk hv hs hi r m) r m).2

/-- The buffer of keys the next block finds. -/
theorem s0_B (y u : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 (ix2 ⟨y.val, by omega⟩ u) = band P (4 * (s + 1)) y.val (512 + u.val) := by
  rw [skeys_B, read_first, pay103_apply, lastk_B, keys_B]
  exact band_last _ 512 (newK_val I arg3 harg3 arg4 harg4) _ _ _ y u

/-- The buffer of values the next block finds. -/
theorem s1_B (y u : Fin 128) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 (ix2 ⟨y.val, by omega⟩ u) = band P (4 * (s + 1)) y.val (640 + u.val) := by
  rw [svals_B, read_first, pay104_apply, lastv_B, vals_B]
  exact band_last _ 640 (newV_val I arg3 harg3 arg4 harg4) _ _ _ y u

/-- The states the next block finds. -/
theorem s2_B (h : Fin 4) (d e : Fin 128) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 (ix3 h d e) = state P (4 * (s + 1)) h.val d.val e.val := by
  rw [sstate_B, View.read_writes_junk_apply_eq_canon]
  exact Lo.full (c := 3) (Lo.step I (c := 3) (h := 3) (lohi15_B I hk hv hs).1 (at15_B I hk hv hs)) h d e (Nat.zero_le _)

/-- What the block leaves. -/
theorem after_B : After P s (out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2, out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2,
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2, sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2, sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2) :=
  After.of (o14_B I hk hv hs hi hc0) (o15_B I hk hv hs hi hc0) (s0_B I hk hv hs hi hc0) (s1_B I hk hv hs hi hc0) (s2_B I hk hv hs hi hc0)

end Cert.Mixer
-- ==== Proof.Sweep.lean ====
/-
  Block after block, the kernel's grid: what each point writes is the mixed rows of its block, by induction over the
  points, the band and the states carried along.
-/
module

public import proofs.«01_k».proof.Proof.CaseA
public import proofs.«01_k».proof.Proof.CaseB
public import proofs.«01_k».proof.Proof.Gen.KernelIdeal.Value

@[expose] public section

noncomputable section

namespace Cert.Mixer

open Idealize.ShloMosaic Idealize.ShloMosaic.TcCoe Cert.KernelIdeal Cert.KernelIdeal.Gen
open scoped BigOperators

set_option maxRecDepth 16384

theorem coords_block : ∀ t : Fin cfg0.N, (grid0.coords t 1).val = t.val % 4 :=
  (by decide +kernel : ∀ t : Fin grid0.N, (grid0.coords t 1).val = t.val % 4)

variable (m : (ℓ : Loc nD τ sig) → Buf (Elt Ideal) ℓ) (c : Dev nD) (Pb : ℕ → Params)
  (hI : ∀ t : Fin cfg0.N, Inputs (Pb (t.val / 4)) (t.val % 4) (iblk m c 0 t) (iblk m c 1 t) (iblk m c 2 t) (iblk m c 3 t)
    (iblk m c 4 t) (iblk m c 5 t) (iblk m c 6 t) (iblk m c 7 t) (iblk m c 8 t) (iblk m c 9 t) (iblk m c 10 t)
    (iblk m c 11 t) (iblk m c 12 t) (iblk m c 13 t))

include hI

theorem after_first (t : Fin cfg0.N) (h0 : t.val % 4 = 0) : After (Pb (t.val / 4)) (t.val % 4) (outsAt0 m c t.val t.isLt) := by
  rw [outsAt0_A m c t h0]
  refine after_A ?_ h0 (coords_block t) _
  exact hI t

theorem after_later (t : Fin cfg0.N) (h0 : ¬t.val % 4 = 0)
    (A : After (Pb (t.val / 4)) (t.val % 4 - 1) (outsAt0 m c (t.val - 1) (Nat.lt_of_le_of_lt (Nat.sub_le _ _) t.isLt))) :
    After (Pb (t.val / 4)) (t.val % 4) (outsAt0 m c t.val t.isLt) := by
  have hs : t.val % 4 - 1 + 1 = t.val % 4 := by omega
  have hk := A.keys
  have hv := A.vals
  have hst := A.states
  rw [hs] at hk hv hst
  rw [outsAt0_B m c t h0]
  refine after_B ?_ hk hv hst (coords_block t) _
  exact hI t

/-- After every point. -/
theorem after (n : ℕ) (hn : n < cfg0.N) : After (Pb (n / 4)) (n % 4) (outsAt0 m c n hn) := by
  induction n with
  | zero => exact after_first m c Pb hI ⟨0, hn⟩ rfl
  | succ n ih =>
    by_cases h0 : (n + 1) % 4 = 0
    · exact after_first m c Pb hI ⟨n + 1, hn⟩ h0
    · refine after_later m c Pb hI ⟨n + 1, hn⟩ h0 ?_
      have A := ih (Nat.lt_of_succ_lt hn)
      have e1 : n / 4 = (n + 1) / 4 := by omega
      have e2 : n % 4 = (n + 1) % 4 - 1 := by omega
      rw [e1, e2] at A
      exact A

/-- The array of the mixed rows after the run. -/
theorem final14_apply (b : Fin 8) (t : Fin 2048) (q : Fin 1024) :
    Value.G14 m c (ix3 b t q) = mixed (Pb b.val) t.val q := by
  have hp : Value.pt14Of (ix3 b t q) = 4 * b.val + t.val / 512 := by
    show 4 * (b.val / 1 - 0) + 1 * (t.val / 512 - 0) + 1 * (q.val / 1024 - 0) = _
    omega
  have hN : cfg0.N = 32 := N_0
  have hlt : 4 * b.val + t.val / 512 < cfg0.N := by omega
  unfold Value.G14
  rw [dif_pos (by rw [hp]; exact hlt), ← Value.outsAt0_sweep m c _ (by rw [hp]; exact hlt)]
  have hl : Value.loc14Of (ix3 b t q) = (ix3 0 ⟨t.val % 512, Nat.mod_lt _ (by norm_num)⟩ q : S1x512x1024.Idx) := by
    funext a
    match a with
    | ⟨0, _⟩ => exact Fin.ext (by show b.val % 1 = 0; omega)
    | ⟨1, _⟩ => rfl
    | ⟨2, _⟩ => exact Fin.ext (by show q.val % 1024 = q.val; omega)
  rw [hl, (after m c Pb hI _ _).out]
  congr 1
  · rw [hp]; congr 1; omega
  · rw [hp]; show 512 * ((4 * b.val + t.val / 512) % 4) + t.val % 512 = t.val; omega

/-- The same array in its other format. -/
theorem final15_apply (b : Fin 8) (t : Fin 2048) (q : Fin 1024) :
    Value.G15 m c (ix3 b t q) = mixed (Pb b.val) t.val q := by
  have hp : Value.pt15Of (ix3 b t q) = 4 * b.val + t.val / 512 := by
    show 4 * (b.val / 1 - 0) + 1 * (t.val / 512 - 0) + 1 * (q.val / 1024 - 0) = _
    omega
  have hN : cfg0.N = 32 := N_0
  have hlt : 4 * b.val + t.val / 512 < cfg0.N := by omega
  unfold Value.G15
  rw [dif_pos (by rw [hp]; exact hlt), ← Value.outsAt0_sweep m c _ (by rw [hp]; exact hlt)]
  have hl : Value.loc15Of (ix3 b t q) = (ix3 0 ⟨t.val % 512, Nat.mod_lt _ (by norm_num)⟩ q : S1x512x1024.Idx) := by
    funext a
    match a with
    | ⟨0, _⟩ => exact Fin.ext (by show b.val % 1 = 0; omega)
    | ⟨1, _⟩ => rfl
    | ⟨2, _⟩ => exact Fin.ext (by show q.val % 1024 = q.val; omega)
  rw [hl, (after m c Pb hI _ _).outb]
  congr 1
  · rw [hp]; congr 1; omega
  · rw [hp]; show 512 * ((4 * b.val + t.val / 512) % 4) + t.val % 512 = t.val; omega

end Cert.Mixer
-- ==== Proof.Blocks.lean ====
/-
  The blocks of the kernel's windows at a grid point: 512 tokens of a sequence, and the weights and tables whole.
-/
module

public import proofs.«01_k».proof.Proof.Sweep

@[expose] public section

noncomputable section

namespace Cert.Mixer

open Idealize.ShloMosaic Idealize.ShloMosaic.TcCoe Cert.KernelIdeal Cert.KernelIdeal.Gen
open scoped BigOperators

set_option maxRecDepth 16384

theorem idx_tok : ∀ t : Fin cfg0.N, win0_1.index t = ![t.val / 4, t.val % 4, 0] :=
  (by decide +kernel : ∀ t : Fin grid0.N, win0_1.index t = ![t.val / 4, t.val % 4, 0])

theorem idx_0 : ∀ t : Fin cfg0.N, win0_0.index t = ![0, 0] :=
  (by decide +kernel : ∀ t : Fin grid0.N, win0_0.index t = ![0, 0])

theorem idx_2 : ∀ t : Fin cfg0.N, win0_2.index t = ![0, 0] :=
  (by decide +kernel : ∀ t : Fin grid0.N, win0_2.index t = ![0, 0])

theorem idx_3 : ∀ t : Fin cfg0.N, win0_3.index t = ![0, 0, 0] :=
  (by decide +kernel : ∀ t : Fin grid0.N, win0_3.index t = ![0, 0, 0])

theorem idx_4 : ∀ t : Fin cfg0.N, win0_4.index t = ![0, 0, 0] :=
  (by decide +kernel : ∀ t : Fin grid0.N, win0_4.index t = ![0, 0, 0])

theorem idx_5 : ∀ t : Fin cfg0.N, win0_5.index t = ![0, 0, 0] :=
  (by decide +kernel : ∀ t : Fin grid0.N, win0_5.index t = ![0, 0, 0])

theorem idx_6 : ∀ t : Fin cfg0.N, win0_6.index t = ![0, 0, 0] :=
  (by decide +kernel : ∀ t : Fin grid0.N, win0_6.index t = ![0, 0, 0])

theorem idx_7 : ∀ t : Fin cfg0.N, win0_7.index t = ![0, 0, 0] :=
  (by decide +kernel : ∀ t : Fin grid0.N, win0_7.index t = ![0, 0, 0])

theorem idx_8 : ∀ t : Fin cfg0.N, win0_8.index t = ![0, 0] :=
  (by decide +kernel : ∀ t : Fin grid0.N, win0_8.index t = ![0, 0])

theorem idx_9 : ∀ t : Fin cfg0.N, win0_9.index t = ![0, 0] :=
  (by decide +kernel : ∀ t : Fin grid0.N, win0_9.index t = ![0, 0])

theorem idx_10 : ∀ t : Fin cfg0.N, win0_10.index t = ![0, 0] :=
  (by decide +kernel : ∀ t : Fin grid0.N, win0_10.index t = ![0, 0])

theorem idx_11 : ∀ t : Fin cfg0.N, win0_11.index t = ![0, 0] :=
  (by decide +kernel : ∀ t : Fin grid0.N, win0_11.index t = ![0, 0])

theorem idx_12 : ∀ t : Fin cfg0.N, win0_12.index t = ![0, 0] :=
  (by decide +kernel : ∀ t : Fin grid0.N, win0_12.index t = ![0, 0])

theorem idx_13 : ∀ t : Fin cfg0.N, win0_13.index t = ![0, 0] :=
  (by decide +kernel : ∀ t : Fin grid0.N, win0_13.index t = ![0, 0])

variable (m : (ℓ : Loc nD τ sig) → Buf (Elt Ideal) ℓ) (c : Dev nD)

theorem block_tok (t : Fin cfg0.N) (r : Fin 512) (k : Fin 1024) (b : Fin 8) (i : Fin 2048) (hb : b.val = t.val / 4)
    (hi : i.val = 512 * (t.val % 4) + r.val) :
    (iblk m c 1 t : S1x512x1024.Idx → EReal) (ix3 0 r k)
      = (m ((c : Thread nD τ).loc main_arg0) : S8x2048x1024.Idx → EReal) (ix3 b i k) := by
  blk_ext [iblk, V, idx_tok t]

theorem block_0 (t : Fin cfg0.N) (a : Fin 1) (j : Fin 8) :
    (iblk m c 0 t : S1x8.Idx → EReal) (ix2 a j) = (V m c main_v84 : S1x8.Idx → EReal) (ix2 a j) := by
  blk_ext [iblk, idx_0 t]

theorem block_2 (t : Fin cfg0.N) (a : Fin 1024) (j : Fin 4864) :
    (iblk m c 2 t : S1024x4864.Idx → EReal) (ix2 a j) = (V m c main_v82 : S1024x4864.Idx → EReal) (ix2 a j) := by
  blk_ext [iblk, idx_2 t]

theorem block_3 (t : Fin cfg0.N) (h : Fin 8) (a : Fin 128) (j : Fin 256) :
    (iblk m c 3 t : S8x128x256.Idx → EReal) (ix3 h a j) = (V m c main_v31 : S8x128x256.Idx → EReal) (ix3 h a j) := by
  blk_ext [iblk, idx_3 t]

theorem block_4 (t : Fin cfg0.N) (h : Fin 4) (a : Fin 128) (j : Fin 128) :
    (iblk m c 4 t : S4x128x128.Idx → EReal) (ix3 h a j) = (V m c main_v55 : S4x128x128.Idx → EReal) (ix3 h a j) := by
  blk_ext [iblk, idx_4 t]

theorem block_5 (t : Fin cfg0.N) (h : Fin 4) (a : Fin 128) (j : Fin 128) :
    (iblk m c 5 t : S4x128x128.Idx → EReal) (ix3 h a j) = (V m c main_v76 : S4x128x128.Idx → EReal) (ix3 h a j) := by
  blk_ext [iblk, idx_5 t]

theorem block_6 (t : Fin cfg0.N) (h : Fin 4) (a : Fin 128) (j : Fin 128) :
    (iblk m c 6 t : S4x128x128.Idx → EReal) (ix3 h a j) = (V m c main_v78 : S4x128x128.Idx → EReal) (ix3 h a j) := by
  blk_ext [iblk, idx_6 t]

theorem block_7 (t : Fin cfg0.N) (h : Fin 4) (a : Fin 128) (j : Fin 128) :
    (iblk m c 7 t : S4x128x128.Idx → EReal) (ix3 h a j) = (V m c main_v80 : S4x128x128.Idx → EReal) (ix3 h a j) := by
  blk_ext [iblk, idx_7 t]

theorem block_8 (t : Fin cfg0.N) (a : Fin 1) (j : Fin 512) :
    (iblk m c 8 t : S1x512.Idx → EReal) (ix2 a j) = (V m c main_v86 : S1x512.Idx → EReal) (ix2 a j) := by
  blk_ext [iblk, idx_8 t]

theorem block_9 (t : Fin cfg0.N) (a : Fin 512) (j : Fin 1024) :
    (iblk m c 9 t : S512x1024.Idx → EReal) (ix2 a j) = (V m c main_v88 : S512x1024.Idx → EReal) (ix2 a j) := by
  blk_ext [iblk, idx_9 t]

theorem block_10 (t : Fin cfg0.N) (a : Fin 512) (j : Fin 1024) :
    (iblk m c 10 t : S512x1024.Idx → EReal) (ix2 a j) = (V m c main_v90 : S512x1024.Idx → EReal) (ix2 a j) := by
  blk_ext [iblk, idx_10 t]

theorem block_11 (t : Fin cfg0.N) (a : Fin 1024) (j : Fin 1024) :
    (iblk m c 11 t : S1024x1024.Idx → EReal) (ix2 a j) = (V m c main_v92 : S1024x1024.Idx → EReal) (ix2 a j) := by
  blk_ext [iblk, idx_11 t]

theorem block_12 (t : Fin cfg0.N) (a : Fin 1) (j : Fin 1024) :
    (iblk m c 12 t : S1x1024.Idx → EReal) (ix2 a j) = (V m c main_v94 : S1x1024.Idx → EReal) (ix2 a j) := by
  blk_ext [iblk, idx_12 t]

theorem block_13 (t : Fin cfg0.N) (a : Fin 1) (j : Fin 1024) :
    (iblk m c 13 t : S1x1024.Idx → EReal) (ix2 a j) = (V m c main_v96 : S1x1024.Idx → EReal) (ix2 a j) := by
  blk_ext [iblk, idx_13 t]

end Cert.Mixer
-- ==== Proof.Host.lean ====
/-
  The tables and weights as the kernel finds them.
-/
module

public import proofs.«01_k».proof.Proof.Sweep
public import proofs.«01_k».proof.Proof.Gen.ReferenceIdeal.Read

@[expose] public section

noncomputable section

namespace Cert.Mixer

open Idealize.ShloMosaic Idealize.ShloMosaic.TcCoe Cert.KernelIdeal Cert.KernelIdeal.Gen Cert.ReferenceIdeal.Read
open scoped BigOperators

set_option maxRecDepth 16384

variable (m : (ℓ : Loc nD τ sig) → Buf (Elt Ideal) ℓ) (c : Dev nD)

theorem host_dm : V m c main_v55 = val_main_v123 (F := Ideal) := by
  entry_read
  rfl

theorem host_qd (h : Fin 4) (a j : Fin 128) : (V m c main_v76 : S4x128x128.Idx → EReal) (ix3 h a j) = val_main_v139 (F := Ideal) (ix2 h a) := by
  entry_read
  rfl

theorem host_kd (h : Fin 4) (a j : Fin 128) : (V m c main_v78 : S4x128x128.Idx → EReal) (ix3 h a j) = val_main_v131 (F := Ideal) (ix2 h a) := by
  entry_read
  rfl

theorem host_cd (h : Fin 4) (a j : Fin 128) : (V m c main_v80 : S4x128x128.Idx → EReal) (ix3 h a j) = val_main_v142 (F := Ideal) (ix1 h) := by
  entry_read
  rfl

theorem host_win : V m c main_v82 = val_main_v0 (F := Ideal) (m ((c : Thread nD τ).loc main_arg1)) := by
  entry_read
  rfl

theorem host_wa : V m c main_v88 = val_main_v312 (F := Ideal) (m ((c : Thread nD τ).loc main_arg4)) := by
  entry_read
  rfl

theorem host_wr : V m c main_v90 = val_main_v321 (F := Ideal) (m ((c : Thread nD τ).loc main_arg5)) := by
  entry_read
  rfl

theorem host_wo : V m c main_v92 = val_main_v327 (F := Ideal) (m ((c : Thread nD τ).loc main_arg6)) := by
  entry_read
  rfl

theorem host_sink (h : Fin 8) : (V m c main_v84 : S1x8.Idx → EReal) (ix2 0 h) = val_main_v16 (F := Ideal) (m ((c : Thread nD τ).loc main_arg2)) (ix1 h) := by
  entry_read
  rfl

theorem host_gn (h : Fin 512) : (V m c main_v86 : S1x512.Idx → EReal) (ix2 0 h) = val_main_v281 (F := Ideal) (m ((c : Thread nD τ).loc main_arg3)) (ix1 h) := by
  entry_read
  rfl

theorem host_lg (h : Fin 1024) : (V m c main_v94 : S1x1024.Idx → EReal) (ix2 0 h) = val_main_v330 (F := Ideal) (m ((c : Thread nD τ).loc main_arg7)) (ix1 h) := by
  entry_read
  rfl

theorem host_lb (h : Fin 1024) : (V m c main_v96 : S1x1024.Idx → EReal) (ix2 0 h) = val_main_v331 (F := Ideal) (m ((c : Thread nD τ).loc main_arg8)) (ix1 h) := by
  entry_read
  rfl

/-- The kernel's bias table: minus the slope times the distance inside the band, `⊥` outside. -/
theorem host_bias (h : Fin 8) (a : Fin 128) (j : Fin 256) : (V m c main_v31 : S8x128x256.Idx → EReal) (ix3 h a j)
    = Scalar.select (val_main_v41 (F := Ideal) (ix2 a j))
        ((-(val_main_v65 (F := Ideal) (ix1 h) : EReal)) * val_main_v67 (F := Ideal) (ix2 a j))
        (Ideal.ofBits .f32 0xFF800000#32) := by
  entry_read
  rfl

end Cert.Mixer
-- ==== Proof.RefProj.lean ====
/-
  The reference's projections of a token, and how its reshapes lay them out.
-/
module

public import proofs.«01_k».proof.Proof.Mixer
public import Idealize.ShloMosaic.Lib.Pointwise
public import proofs.«01_k».proof.Proof.Gen.ReferenceIdeal.Read

@[expose] public section

noncomputable section

namespace Cert.Mixer

open Idealize.ShloMosaic Idealize.ShloMosaic.TcCoe Cert.ReferenceIdeal Cert.ReferenceIdeal.Gen Cert.ReferenceIdeal.Read
open scoped BigOperators

/-- Sequence `b` of the reference's arrays, with its weights and tables, is what `P` says. -/
structure RefInputs (P : Params) (b : Fin 8) (x0 : S8x2048x1024.Idx → EReal) (x1 : S1x1024x4864.Idx → EReal) (x2 : S1x8.Idx → EReal)
    (x3 : S1x512.Idx → EReal) (x4 x5 : S1x512x1024.Idx → EReal) (x6 : S1x1024x1024.Idx → EReal)
    (x7 x8 : S1x1024.Idx → EReal) : Prop where
  tok : ∀ (t : Fin 2048) (k : Fin 1024), x0 (ix3 b t k) = P.x t.val k.val
  win : ∀ (k : Fin 1024) (u : Fin 4864), val_main_v0 (F := Ideal) x1 (ix2 k u) = P.w k.val u.val
  sink : ∀ h : Fin 8, val_main_v16 (F := Ideal) x2 (ix1 h) = P.sink h.val
  bias : ∀ (h : Fin 8) (a : Fin 128) (j : Fin 256), P.bias h.val a.val j.val = Scalar.select (val_main_v41 (F := Ideal) (ix2 a j))
        ((-(val_main_v65 (F := Ideal) (ix1 h) : EReal)) * val_main_v67 (F := Ideal) (ix2 a j))
        (Ideal.ofBits .f32 0xFF800000#32)
  dm : ∀ (h : Fin 4) (a j : Fin 128), val_main_v123 (F := Ideal) (ix3 h a j) = P.dm h.val a.val j.val
  kd : ∀ (h : Fin 4) (a j : Fin 128), val_main_v131 (F := Ideal) (ix2 h a) = P.kd h.val a.val j.val
  qd : ∀ (h : Fin 4) (a j : Fin 128), val_main_v139 (F := Ideal) (ix2 h a) = P.qd h.val a.val j.val
  cd : ∀ (h : Fin 4) (a j : Fin 128), val_main_v142 (F := Ideal) (ix1 h) = P.cd h.val a.val j.val
  gn : ∀ k : Fin 512, val_main_v281 (F := Ideal) x3 (ix1 k) = P.gn k.val
  wa : ∀ (k : Fin 512) (u : Fin 1024), val_main_v312 (F := Ideal) x4 (ix2 k u) = P.wa k.val u.val
  wr : ∀ (k : Fin 512) (u : Fin 1024), val_main_v321 (F := Ideal) x5 (ix2 k u) = P.wr k.val u.val
  wo : ∀ (k : Fin 1024) (u : Fin 1024), val_main_v327 (F := Ideal) x6 (ix2 k u) = P.wo k.val u.val
  lg : ∀ k : Fin 1024, val_main_v330 (F := Ideal) x7 (ix1 k) = P.lg k.val
  lb : ∀ k : Fin 1024, val_main_v331 (F := Ideal) x8 (ix1 k) = P.lb k.val

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

theorem ref_proj (i : S8x2048x4864.Idx) (h0 : (i 0).val = b.val) (t u : ℕ) (h1 : (i 1).val = t) (h2 : (i 2).val = u) :
    val_main_v1 (F := Ideal) x0 x1 i = proj P t u := by
  subst h1 h2
  rw [val_main_v1_apply]
  refine Finset.sum_congr rfl fun k _ => ?_
  have e0 : lidx_main_v1 i k = (ix3 b (i 1) k : S8x2048x1024.Idx) := by
    funext a; match a with
    | ⟨0, _⟩ => exact Fin.ext h0
    | ⟨1, _⟩ => rfl
    | ⟨2, _⟩ => rfl
  have e1 : ridx_main_v1 i k = (ix2 k (i 2) : S1024x4864.Idx) := by
    funext a; match a with
    | ⟨0, _⟩ => rfl
    | ⟨1, _⟩ => rfl
  rw [e0, e1]
  exact congrArg₂ (· * ·) (H.tok (i 1) k) (H.win k (i 2))

/-- The keys of the attention. -/
theorem ref_k4 (i : S8x2048x2x64.Idx) (h0 : (i 0).val = b.val) (t h e : ℕ) (h1 : (i 1).val = t) (h2 : (i 2).val = h) (h3 : (i 3).val = e) :
    val_main_v14 (F := Ideal) x0 x1 i = proj P t (512 + (64 * h + e)) := by
  have p0 : (i 0).val < 8 := (i 0).isLt
  have p1 : (i 1).val < 2048 := (i 1).isLt
  have p2 : (i 2).val < 2 := (i 2).isLt
  have p3 : (i 3).val < 64 := (i 3).isLt
  rw [val_main_v14_apply, val_main_v3_apply]
  refine ref_proj H _ ?_ _ _ ?_ ?_ <;> dsimp only <;> omega

/-- The values of the attention. -/
theorem ref_v4 (i : S8x2048x2x64.Idx) (h0 : (i 0).val = b.val) (t h e : ℕ) (h1 : (i 1).val = t) (h2 : (i 2).val = h) (h3 : (i 3).val = e) :
    val_main_v15 (F := Ideal) x0 x1 i = proj P t (640 + (64 * h + e)) := by
  have p0 : (i 0).val < 8 := (i 0).isLt
  have p1 : (i 1).val < 2048 := (i 1).isLt
  have p2 : (i 2).val < 2 := (i 2).isLt
  have p3 : (i 3).val < 64 := (i 3).isLt
  rw [val_main_v15_apply, val_main_v4_apply]
  refine ref_proj H _ ?_ _ _ ?_ ?_ <;> dsimp only <;> omega

/-- The queries of the attention, scaled. -/
theorem ref_q4 (i : S8x2048x8x64.Idx) (h0 : (i 0).val = b.val) (t h e : ℕ) (h1 : (i 1).val = t) (h2 : (i 2).val = h) (h3 : (i 3).val = e) :
    val_main_v13 (F := Ideal) x0 x1 i = proj P t (64 * h + e) * qScale := by
  have p0 : (i 0).val < 8 := (i 0).isLt
  have p1 : (i 1).val < 2048 := (i 1).isLt
  have p2 : (i 2).val < 8 := (i 2).isLt
  have p3 : (i 3).val < 64 := (i 3).isLt
  rw [val_main_v13_apply, val_main_v12_apply, val_main_v11_apply, val_main_v2_apply]
  refine congrArg₂ (· * ·) ?_ rfl
  refine ref_proj H _ ?_ _ _ ?_ ?_ <;> dsimp only <;> omega

/-- The queries of the retention, scaled. -/
theorem ref_rq4 (i : S8x2048x4x128.Idx) (h0 : (i 0).val = b.val) (t h e : ℕ) (h1 : (i 1).val = t) (h2 : (i 2).val = h) (h3 : (i 3).val = e) :
    val_main_v97 (F := Ideal) x0 x1 i = proj P t (768 + (128 * h + e)) * rScale := by
  have p0 : (i 0).val < 8 := (i 0).isLt
  have p1 : (i 1).val < 2048 := (i 1).isLt
  have p2 : (i 2).val < 4 := (i 2).isLt
  have p3 : (i 3).val < 128 := (i 3).isLt
  rw [val_main_v97_apply, val_main_v96_apply, val_main_v95_apply, val_main_v5_apply]
  refine congrArg₂ (· * ·) ?_ rfl
  refine ref_proj H _ ?_ _ _ ?_ ?_ <;> dsimp only <;> omega

/-- The keys of the retention. -/
theorem ref_rk4 (i : S8x2048x4x128.Idx) (h0 : (i 0).val = b.val) (t h e : ℕ) (h1 : (i 1).val = t) (h2 : (i 2).val = h) (h3 : (i 3).val = e) :
    val_main_v98 (F := Ideal) x0 x1 i = proj P t (1280 + (128 * h + e)) := by
  have p0 : (i 0).val < 8 := (i 0).isLt
  have p1 : (i 1).val < 2048 := (i 1).isLt
  have p2 : (i 2).val < 4 := (i 2).isLt
  have p3 : (i 3).val < 128 := (i 3).isLt
  rw [val_main_v98_apply, val_main_v6_apply]
  refine ref_proj H _ ?_ _ _ ?_ ?_ <;> dsimp only <;> omega

/-- The values of the retention. -/
theorem ref_rv4 (i : S8x2048x4x128.Idx) (h0 : (i 0).val = b.val) (t h e : ℕ) (h1 : (i 1).val = t) (h2 : (i 2).val = h) (h3 : (i 3).val = e) :
    val_main_v99 (F := Ideal) x0 x1 i = proj P t (1792 + (128 * h + e)) := by
  have p0 : (i 0).val < 8 := (i 0).isLt
  have p1 : (i 1).val < 2048 := (i 1).isLt
  have p2 : (i 2).val < 4 := (i 2).isLt
  have p3 : (i 3).val < 128 := (i 3).isLt
  rw [val_main_v99_apply, val_main_v7_apply]
  refine ref_proj H _ ?_ _ _ ?_ ?_ <;> dsimp only <;> omega

theorem ref_k (n : Fin 16) (j : Fin 128) (g : Fin 2) (e : Fin 64) :
    val_main_v18 (F := Ideal) x0 x1 (ix5 b n j g e) = proj P (128 * n.val + j.val) (512 + (64 * g.val + e.val)) := by
  have pb : b.val < 8 := b.isLt
  have pn : n.val < 16 := n.isLt
  have pj : j.val < 128 := j.isLt
  have pg : g.val < 2 := g.isLt
  have pe : e.val < 64 := e.isLt
  rw [val_main_v18_apply]
  refine ref_k4 H _ ?_ _ _ _ ?_ ?_ ?_ <;> dsimp only [ix5_0, ix5_1, ix5_2, ix5_3, ix5_4] <;> omega

theorem ref_v (n : Fin 16) (j : Fin 128) (g : Fin 2) (e : Fin 64) :
    val_main_v19 (F := Ideal) x0 x1 (ix5 b n j g e) = proj P (128 * n.val + j.val) (640 + (64 * g.val + e.val)) := by
  have pb : b.val < 8 := b.isLt
  have pn : n.val < 16 := n.isLt
  have pj : j.val < 128 := j.isLt
  have pg : g.val < 2 := g.isLt
  have pe : e.val < 64 := e.isLt
  rw [val_main_v19_apply]
  refine ref_v4 H _ ?_ _ _ _ ?_ ?_ ?_ <;> dsimp only [ix5_0, ix5_1, ix5_2, ix5_3, ix5_4] <;> omega

theorem ref_q (n : Fin 16) (j : Fin 128) (g : Fin 2) (r : Fin 4) (e : Fin 64) :
    val_main_v17 (F := Ideal) x0 x1 (ix6 b n j g r e) = proj P (128 * n.val + j.val) (64 * (4 * g.val + r.val) + e.val) * qScale := by
  have pb : b.val < 8 := b.isLt
  have pn : n.val < 16 := n.isLt
  have pj : j.val < 128 := j.isLt
  have pg : g.val < 2 := g.isLt
  have pr : r.val < 4 := r.isLt
  have pe : e.val < 64 := e.isLt
  refine Eq.trans ?_ (ref_q4 H (ix4 b ⟨n.val * 128 + j.val, by omega⟩ ⟨g.val * 4 + r.val, by omega⟩ e) rfl (128 * n.val + j.val)
    (4 * g.val + r.val) e.val (by show n.val * 128 + j.val = _; omega) (by show g.val * 4 + r.val = _; omega) rfl)
  pointwise [val_main_v17]

theorem ref_rq (n : Fin 16) (h : Fin 4) (j d : Fin 128) :
    val_main_v144 (F := Ideal) x0 x1 (ix5 n b h j d) = proj P (128 * n.val + j.val) (768 + (128 * h.val + d.val)) * rScale := by
  have pb : b.val < 8 := b.isLt
  have pn : n.val < 16 := n.isLt
  have pj : j.val < 128 := j.isLt
  have ph : h.val < 4 := h.isLt
  have pd : d.val < 128 := d.isLt
  rw [val_main_v144_apply, val_main_v143_apply]
  refine ref_rq4 H _ ?_ _ _ _ ?_ ?_ ?_ <;> dsimp only [ix5_0, ix5_1, ix5_2, ix5_3, ix5_4] <;> omega

theorem ref_rk (n : Fin 16) (h : Fin 4) (j d : Fin 128) :
    val_main_v146 (F := Ideal) x0 x1 (ix5 n b h j d) = proj P (128 * n.val + j.val) (1280 + (128 * h.val + d.val)) := by
  have pb : b.val < 8 := b.isLt
  have pn : n.val < 16 := n.isLt
  have pj : j.val < 128 := j.isLt
  have ph : h.val < 4 := h.isLt
  have pd : d.val < 128 := d.isLt
  rw [val_main_v146_apply, val_main_v145_apply]
  refine ref_rk4 H _ ?_ _ _ _ ?_ ?_ ?_ <;> dsimp only [ix5_0, ix5_1, ix5_2, ix5_3, ix5_4] <;> omega

theorem ref_rv (n : Fin 16) (h : Fin 4) (j d : Fin 128) :
    val_main_v148 (F := Ideal) x0 x1 (ix5 n b h j d) = proj P (128 * n.val + j.val) (1792 + (128 * h.val + d.val)) := by
  have pb : b.val < 8 := b.isLt
  have pn : n.val < 16 := n.isLt
  have pj : j.val < 128 := j.isLt
  have ph : h.val < 4 := h.isLt
  have pd : d.val < 128 := d.isLt
  rw [val_main_v148_apply, val_main_v147_apply]
  refine ref_rv4 H _ ?_ _ _ _ ?_ ?_ ?_ <;> dsimp only [ix5_0, ix5_1, ix5_2, ix5_3, ix5_4] <;> omega

/-- The retention's gate. -/
theorem ref_gate (t : Fin 2048) (u : Fin 512) : val_main_v8 (F := Ideal) x0 x1 (ix3 b t u) = proj P t.val (2304 + u.val) := by
  have pb : b.val < 8 := b.isLt
  rw [val_main_v8_apply]
  refine ref_proj H _ ?_ _ _ ?_ ?_ <;> dsimp only [ix3_0, ix3_1, ix3_2] <;> omega

theorem ref_ga (t : Fin 2048) (u : Fin 1024) : val_main_v9 (F := Ideal) x0 x1 (ix3 b t u) = proj P t.val (2816 + u.val) := by
  have pb : b.val < 8 := b.isLt
  rw [val_main_v9_apply]
  refine ref_proj H _ ?_ _ _ ?_ ?_ <;> dsimp only [ix3_0, ix3_1, ix3_2] <;> omega

theorem ref_gb (t : Fin 2048) (u : Fin 1024) : val_main_v10 (F := Ideal) x0 x1 (ix3 b t u) = proj P t.val (3840 + u.val) := by
  have pb : b.val < 8 := b.isLt
  rw [val_main_v10_apply]
  refine ref_proj H _ ?_ _ _ ?_ ?_ <;> dsimp only [ix3_0, ix3_1, ix3_2] <;> omega

end Cert.Mixer
-- ==== Proof.Real.lean ====
/-
  Extended reals that are real numbers, and the operations that keep them so.
-/
module

public import Idealize.ShloMosaic.PureOps.Ideal.Laws

@[expose] public section

noncomputable section

namespace Cert.Mixer

open Idealize.ShloMosaic
open scoped BigOperators

/-- A value that is a real number. -/
def Real' (x : EReal) : Prop := ∃ r : ℝ, x = (r : EReal)

theorem Real'.ne_top {x : EReal} (h : Real' x) : x ≠ ⊤ := by
  obtain ⟨r, rfl⟩ := h; exact EReal.coe_ne_top r

theorem Real'.ne_bot {x : EReal} (h : Real' x) : x ≠ ⊥ := by
  obtain ⟨r, rfl⟩ := h; exact EReal.coe_ne_bot r

theorem real_zero : Real' 0 := ⟨0, rfl⟩

theorem Real'.add {x y : EReal} (hx : Real' x) (hy : Real' y) : Real' (x + y) := by
  obtain ⟨r, rfl⟩ := hx; obtain ⟨s, rfl⟩ := hy; exact ⟨r + s, (EReal.coe_add r s).symm⟩

theorem Real'.mul {x y : EReal} (hx : Real' x) (hy : Real' y) : Real' (x * y) := by
  obtain ⟨r, rfl⟩ := hx; obtain ⟨s, rfl⟩ := hy; exact ⟨r * s, (EReal.coe_mul r s).symm⟩

theorem Real'.neg {x : EReal} (hx : Real' x) : Real' (-x) := by
  obtain ⟨r, rfl⟩ := hx; exact ⟨-r, (EReal.coe_neg r).symm⟩

theorem Real'.sum {n : ℕ} {f : Fin n → EReal} (h : ∀ k, Real' (f k)) : Real' (∑ k, f k) := by
  classical
  induction (Finset.univ : Finset (Fin n)) using Finset.induction_on with
  | empty => exact real_zero
  | insert a t ha ih => rw [Finset.sum_insert ha]; exact (h a).add ih

theorem Real'.div {x y : EReal} (hx : Real' x) (hy : Real' y) (h0 : y ≠ 0) : Real' (Ideal.div x y) := by
  obtain ⟨s, rfl⟩ := hy
  unfold Ideal.div
  rw [if_neg h0]
  exact hx.mul ⟨s⁻¹, (EReal.coe_inv s).symm⟩

theorem Real'.pow {x y : EReal} (hx : Real' x) (hy : Real' y) : Real' (Ideal.pow x y) := by
  obtain ⟨r, rfl⟩ := hx; obtain ⟨s, rfl⟩ := hy; exact ⟨Real.rpow r s, rfl⟩

/-- A word of a float format whose exponent field is not full is a real number. -/
theorem real_word (b : BitVec 32) (h : (b.extractLsb' 23 8).toNat ≠ 2 ^ 8 - 1) : Real' (Ideal.ofBits .f32 b) := by
  show Real' (Ideal.ieee 8 23 b)
  unfold Ideal.ieee
  dsimp only
  rw [if_neg h]
  split
  · exact ⟨_, rfl⟩
  · exact ⟨_, rfl⟩

/-- A word whose exponent field is neither full nor zero is not zero. -/
theorem word_ne_zero (b : BitVec 32) (h : (b.extractLsb' 23 8).toNat ≠ 2 ^ 8 - 1) (h' : (b.extractLsb' 23 8).toNat ≠ 0) :
    Ideal.ofBits .f32 b ≠ 0 := by
  show Ideal.ieee 8 23 b ≠ 0
  unfold Ideal.ieee
  dsimp only
  rw [if_neg h, if_neg h']
  rw [← EReal.coe_zero, Ne, EReal.coe_eq_coe_iff]
  refine mul_ne_zero (mul_ne_zero ?_ ?_) ?_
  · split <;> norm_num
  · norm_num
    positivity
  · positivity

/-- A value whose magnitude is below infinity is a real number. -/
theorem real_of_abs {x : EReal} (h : max x (-x) < ⊤) : Real' x := by
  induction x with
  | bot => exact absurd h (by simp)
  | top => exact absurd h (by simp)
  | coe r => exact ⟨r, rfl⟩

end Cert.Mixer

end
-- ==== Proof.Params.lean ====
/-
  The sequences of a batch, read off the arrays, and their weights and tables; the scores of finite inputs are finite.
-/
module

public import proofs.«01_k».proof.Proof.RefProj
public import proofs.«01_k».proof.Proof.Real

@[expose] public section

noncomputable section

namespace Cert.Mixer

open Idealize.ShloMosaic Idealize.ShloMosaic.TcCoe Cert.ReferenceIdeal Cert.ReferenceIdeal.Gen Cert.ReferenceIdeal.Read
open scoped BigOperators

/-- The entry a number names on an axis. -/
def at' (n : ℕ) [NeZero n] (k : ℕ) : Fin n := ⟨k % n, Nat.mod_lt _ (Nat.pos_of_ne_zero (NeZero.ne n))⟩

theorem at_val {n : ℕ} [NeZero n] (i : Fin n) : at' n i.val = i := Fin.ext (Nat.mod_eq_of_lt i.isLt)

/-- The bias of a head between a query and a key of its band: minus the slope times the distance, `⊥` outside the window. -/
def biasTab (h : Fin 8) (a : Fin 128) (j : Fin 256) : EReal :=
  Scalar.select (val_main_v41 (F := Ideal) (ix2 a j))
    ((-(val_main_v65 (F := Ideal) (ix1 h) : EReal)) * val_main_v67 (F := Ideal) (ix2 a j)) (Ideal.ofBits .f32 0xFF800000#32)

/-- Sequence `b` of the arrays. -/
def params (x0 : S8x2048x1024.Idx → EReal) (x1 : S1x1024x4864.Idx → EReal) (x2 : S1x8.Idx → EReal)
    (x3 : S1x512.Idx → EReal) (x4 x5 : S1x512x1024.Idx → EReal) (x6 : S1x1024x1024.Idx → EReal)
    (x7 x8 : S1x1024.Idx → EReal) (b : ℕ) : Params where
  x t k := x0 (ix3 (at' 8 b) (at' 2048 t) (at' 1024 k))
  w k u := val_main_v0 (F := Ideal) x1 (ix2 (at' 1024 k) (at' 4864 u))
  bias h a j := biasTab (at' 8 h) (at' 128 a) (at' 256 j)
  sink h := val_main_v16 (F := Ideal) x2 (ix1 (at' 8 h))
  dm h a j := val_main_v123 (F := Ideal) (ix3 (at' 4 h) (at' 128 a) (at' 128 j))
  kd h a _ := val_main_v131 (F := Ideal) (ix2 (at' 4 h) (at' 128 a))
  qd h a _ := val_main_v139 (F := Ideal) (ix2 (at' 4 h) (at' 128 a))
  cd h _ _ := val_main_v142 (F := Ideal) (ix1 (at' 4 h))
  gn k := val_main_v281 (F := Ideal) x3 (ix1 (at' 512 k))
  wa k u := val_main_v312 (F := Ideal) x4 (ix2 (at' 512 k) (at' 1024 u))
  wr k u := val_main_v321 (F := Ideal) x5 (ix2 (at' 512 k) (at' 1024 u))
  wo k u := val_main_v327 (F := Ideal) x6 (ix2 (at' 1024 k) (at' 1024 u))
  lg k := val_main_v330 (F := Ideal) x7 (ix1 (at' 1024 k))
  lb k := val_main_v331 (F := Ideal) x8 (ix1 (at' 1024 k))

variable (x0 : S8x2048x1024.Idx → EReal) (x1 : S1x1024x4864.Idx → EReal) (x2 : S1x8.Idx → EReal)
    (x3 : S1x512.Idx → EReal) (x4 x5 : S1x512x1024.Idx → EReal) (x6 : S1x1024x1024.Idx → EReal)
    (x7 x8 : S1x1024.Idx → EReal)

theorem params_ref (b : Fin 8) : RefInputs (params x0 x1 x2 x3 x4 x5 x6 x7 x8 b.val) b x0 x1 x2 x3 x4 x5 x6 x7 x8 where
  tok t k := by simp only [params, at_val]
  win k u := by simp only [params, at_val]
  sink h := by simp only [params, at_val]
  bias h a j := by simp only [params, at_val]; rfl
  dm h a j := by simp only [params, at_val]
  kd h a j := by simp only [params, at_val]
  qd h a j := by simp only [params, at_val]
  cd h a j := by simp only [params, at_val]
  gn k := by simp only [params, at_val]
  wa k u := by simp only [params, at_val]
  wr k u := by simp only [params, at_val]
  wo k u := by simp only [params, at_val]
  lg k := by simp only [params, at_val]
  lb k := by simp only [params, at_val]

theorem real_slope (h : Fin 8) : Real' (val_main_v65 (F := Ideal) (ix1 h)) := by
  have hi : Real' (val_main_v57 (F := Ideal) (ix1 h)) := ⟨_, rfl⟩
  have h1 : Real' (val_main_v59 (F := Ideal) (ix1 h)) := by
    rw [val_main_v59_apply, val_main_v58_apply]
    exact (real_word 0x3F800000#32 (by decide)).add hi
  have h2 : Real' (val_main_v61 (F := Ideal) (ix1 h)) := by
    rw [val_main_v61_apply, val_main_v60_apply]
    exact (real_word 0xC1000000#32 (by decide)).mul h1
  have h3 : Real' (val_main_v63 (F := Ideal) (ix1 h)) := by
    rw [val_main_v63_apply, val_main_v62_apply]
    exact h2.div (real_word 0x41000000#32 (by decide)) (word_ne_zero 0x41000000#32 (by decide) (by decide))
  rw [val_main_v65_apply, val_main_v64_apply]
  exact (real_word 0x40000000#32 (by decide)).pow h3

theorem bias_ne_top (h : Fin 8) (a : Fin 128) (j : Fin 256) : biasTab h a j ≠ ⊤ := by
  have hd : Real' (val_main_v67 (F := Ideal) (ix2 a j)) := ⟨_, rfl⟩
  have hm := ((real_slope h).neg.mul hd).ne_top
  show (if val_main_v41 (F := Ideal) (ix2 a j) = 1#1 then _ else Ideal.ofBits .f32 0xFF800000#32) ≠ ⊤
  split
  · exact hm
  · show Ideal.ieee 8 23 0xFF800000#32 ≠ ⊤
    simp [Ideal.ieee]

variable {x0 x1 x2}

theorem real_proj (h0 : ∀ i, Real' (x0 i)) (h1 : ∀ i, Real' (x1 i)) (b t u : ℕ) :
    Real' (proj (params x0 x1 x2 x3 x4 x5 x6 x7 x8 b) t u) := by
  refine Real'.sum fun k => (h0 _).mul ?_
  show Real' (val_main_v0 (F := Ideal) x1 _)
  rw [val_main_v0_apply]
  exact h1 _

/-- The scores of finite tokens and weights are below infinity. -/
theorem params_score (h0 : ∀ i, Real' (x0 i)) (h1 : ∀ i, Real' (x1 i)) (b t h j : ℕ) :
    score (params x0 x1 x2 x3 x4 x5 x6 x7 x8 b) t h j ≠ ⊤ := by
  have hp := real_proj (x2 := x2) x3 x4 x5 x6 x7 x8 h0 h1 b
  unfold score
  split
  · exact bot_ne_top
  · refine EReal.add_ne_top (Real'.ne_top (Real'.sum fun e => ((hp _ _).mul (real_word _ (by decide))).mul ?_)) (bias_ne_top _ _ _)
    unfold band
    split
    · exact real_zero
    · exact hp _ _

theorem params_sink (h2 : ∀ i, Real' (x2 i)) (b : ℕ) (h : Fin 8) :
    (params x0 x1 x2 x3 x4 x5 x6 x7 x8 b).sink h.val ≠ ⊤ ∧ (params x0 x1 x2 x3 x4 x5 x6 x7 x8 b).sink h.val ≠ ⊥ := by
  have e : Real' ((params x0 x1 x2 x3 x4 x5 x6 x7 x8 b).sink h.val) := by
    show Real' (val_main_v16 (F := Ideal) x2 _)
    rw [val_main_v16_apply]
    exact h2 _
  exact ⟨e.ne_top, e.ne_bot⟩

end Cert.Mixer
-- ==== Proof.Entry.lean ====
/-
  What a grid point's windows hold: the rows of its block, of the sequence it belongs to, and the weights and tables.
-/
module

public import proofs.«01_k».proof.Proof.Blocks
public import proofs.«01_k».proof.Proof.Host
public import proofs.«01_k».proof.Proof.Params

@[expose] public section

noncomputable section

namespace Cert.Mixer

open Idealize.ShloMosaic Idealize.ShloMosaic.TcCoe Cert.KernelIdeal Cert.KernelIdeal.Gen
open scoped BigOperators

set_option maxRecDepth 16384

variable (m : (ℓ : Loc nD τ sig) → Buf (Elt Ideal) ℓ) (c : Dev nD)

/-- Sequence `b` of the arrays in memory. -/
def seqOf (b : ℕ) : Params :=
  params (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b

theorem seq_ref (b : Fin 8) : RefInputs (seqOf m c b.val) b
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) :=
  params_ref _ _ _ _ _ _ _ _ _ b

theorem seq_inputs (t : Fin cfg0.N) : Inputs (seqOf m c (t.val / 4)) (t.val % 4) (iblk m c 0 t) (iblk m c 1 t) (iblk m c 2 t)
    (iblk m c 3 t) (iblk m c 4 t) (iblk m c 5 t) (iblk m c 6 t) (iblk m c 7 t) (iblk m c 8 t) (iblk m c 9 t) (iblk m c 10 t)
    (iblk m c 11 t) (iblk m c 12 t) (iblk m c 13 t) := by
  have hN : cfg0.N = 32 := N_0
  have ht : t.val < 32 := hN ▸ t.isLt
  have H := seq_ref m c ⟨t.val / 4, by omega⟩
  exact {
    sink := fun h => (block_0 m c t 0 h).trans ((host_sink m c h).trans (H.sink h))
    tok := fun r k => (block_tok m c t r k ⟨t.val / 4, by omega⟩
      ⟨512 * (t.val % 4) + r.val, by have p : r.val < 512 := r.isLt; omega⟩ rfl rfl).trans (H.tok _ k)
    win := fun k u => (block_2 m c t k u).trans ((congrFun (host_win m c) (ix2 k u)).trans (H.win k u))
    bias := fun h a j => (block_3 m c t h a j).trans ((host_bias m c h a j).trans (H.bias h a j).symm)
    dm := fun h a j => (block_4 m c t h a j).trans ((congrFun (host_dm m c) (ix3 h a j)).trans (H.dm h a j))
    qd := fun h a j => (block_5 m c t h a j).trans ((host_qd m c h a j).trans (H.qd h a j))
    kd := fun h a j => (block_6 m c t h a j).trans ((host_kd m c h a j).trans (H.kd h a j))
    cd := fun h a j => (block_7 m c t h a j).trans ((host_cd m c h a j).trans (H.cd h a j))
    gn := fun k => (block_8 m c t 0 k).trans ((host_gn m c k).trans (H.gn k))
    wa := fun k u => (block_9 m c t k u).trans ((congrFun (host_wa m c) (ix2 k u)).trans (H.wa k u))
    wr := fun k u => (block_10 m c t k u).trans ((congrFun (host_wr m c) (ix2 k u)).trans (H.wr k u))
    wo := fun k u => (block_11 m c t k u).trans ((congrFun (host_wo m c) (ix2 k u)).trans (H.wo k u))
    lg := fun k => (block_12 m c t 0 k).trans ((host_lg m c k).trans (H.lg k))
    lb := fun k => (block_13 m c t 0 k).trans ((host_lb m c k).trans (H.lb k)) }

end Cert.Mixer
-- ==== Proof.RefBand.lean ====
/-
  The reference's band of keys and values: the chunk before, then the chunk.
-/
module

public import proofs.«01_k».proof.Proof.RefProj

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

theorem call0_zero (i : S_.Idx) : val_main_call0_v0 (F := Ideal) i = (0 : EReal) := by
  pointwise [val_main_call0_v0, val_main_c]
  show ((((0#32 : BitVec 32).toInt : ℝ)) : EReal) = 0
  simp

theorem call1_zero (i : S_.Idx) : val_main_call1_v0 (F := Ideal) i = (0 : EReal) := by
  pointwise [val_main_call1_v0, val_main_c_0]
  show ((((0#32 : BitVec 32).toInt : ℝ)) : EReal) = 0
  simp

include H

/-- The keys a chunk's queries see: zeros before the first chunk. -/
theorem ref_bandk (n : Fin 16) (j : Fin 256) (g : Fin 2) (e : Fin 64) :
    val_main_v22 (F := Ideal) x0 x1 (ix5 b n j g e) = band P n.val j.val (512 + (64 * g.val + e.val)) := by
  have pn : n.val < 16 := n.isLt
  have pj : j.val < 256 := j.isLt
  pointwise [val_main_v22, val_main_v21, val_main_v20]
  unfold band
  split
  · rename_i h
    split
    · rename_i h'
      refine (ref_k H _ _ _ _).trans (Eq.trans ?_ (if_neg (by omega)).symm)
      exact congrArg (fun t => proj P t _) (show 128 * (n.val - 1) + j.val = 128 * n.val + j.val - 128 by omega)
    · rename_i h'
      exact (call0_zero _).trans (if_pos (by omega)).symm
  · rename_i h
    refine (ref_k H _ _ _ _).trans (Eq.trans ?_ (if_neg (by omega)).symm)
    exact congrArg (fun t => proj P t _) (show 128 * n.val + (j.val - 128) = 128 * n.val + j.val - 128 by omega)

/-- The values a chunk's queries see: zeros before the first chunk. -/
theorem ref_bandv (n : Fin 16) (j : Fin 256) (g : Fin 2) (e : Fin 64) :
    val_main_v25 (F := Ideal) x0 x1 (ix5 b n j g e) = band P n.val j.val (640 + (64 * g.val + e.val)) := by
  have pn : n.val < 16 := n.isLt
  have pj : j.val < 256 := j.isLt
  pointwise [val_main_v25, val_main_v24, val_main_v23]
  unfold band
  split
  · rename_i h
    split
    · rename_i h'
      refine (ref_v H _ _ _ _).trans (Eq.trans ?_ (if_neg (by omega)).symm)
      exact congrArg (fun t => proj P t _) (show 128 * (n.val - 1) + j.val = 128 * n.val + j.val - 128 by omega)
    · rename_i h'
      exact (call1_zero _).trans (if_pos (by omega)).symm
  · rename_i h
    refine (ref_v H _ _ _ _).trans (Eq.trans ?_ (if_neg (by omega)).symm)
    exact congrArg (fun t => proj P t _) (show 128 * n.val + (j.val - 128) = 128 * n.val + j.val - 128 by omega)

end Cert.Mixer
-- ==== Proof.RefTop.lean ====
/-
  The reference's softmax over a band and its sink: the largest score, the denominator and the weights.
-/
module

public import proofs.«01_k».proof.Proof.RefBand

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal}

/-- The word of minus infinity. -/
theorem word_negInf : Ideal.ofBits .f32 0xFF800000#32 = ⊥ := by
  show Ideal.ieee 8 23 0xFF800000#32 = ⊥
  simp [Ideal.ieee]

/-- The largest of a row is the larger of its last entry and of the largest of the others. -/
theorem fold_last (f : Fin 257 → EReal) : (Finset.univ : Finset (Fin 257)).fold max ⊥ f
    = max (Finset.univ.sup fun j : Fin 256 => f j.castSucc) (f (Fin.last 256)) := by
  show (Finset.univ : Finset (Fin 257)).sup f = _
  rw [Fin.univ_castSuccEmb, Finset.sup_cons, Finset.sup_map, max_comm]
  rfl

theorem ref_cat (n : Fin 16) (g : Fin 2) (r : Fin 4) (i : Fin 128) (j : Fin 256) :
    val_main_v79 (F := Ideal) x0 x1 x2 (ix6 b n g r i j.castSucc) = val_main_v76 (F := Ideal) x0 x1 (ix6 b n g r i j) := by
  have pj : j.castSucc.val < 256 := j.isLt
  pointwise [val_main_v79]
  exact dif_pos pj

theorem ref_cat_sink (n : Fin 16) (g : Fin 2) (r : Fin 4) (i : Fin 128) (k : Fin 257) (hk : ¬ k.val < 256) :
    val_main_v79 (F := Ideal) x0 x1 x2 (ix6 b n g r i k) = val_main_v78 (F := Ideal) x2 (ix6 b n g r i 0) := by
  pointwise [val_main_v79]
  rw [dif_neg hk]
  exact congrArg (fun o : Fin 1 => val_main_v78 (F := Ideal) x2 (ix6 b n g r i o)) (Subsingleton.elim _ _)

theorem ref_cat_last (n : Fin 16) (g : Fin 2) (r : Fin 4) (i : Fin 128) :
    val_main_v79 (F := Ideal) x0 x1 x2 (ix6 b n g r i (Fin.last 256)) = val_main_v78 (F := Ideal) x2 (ix6 b n g r i 0) :=
  ref_cat_sink n g r i _ (by decide)

theorem ref_max (n : Fin 16) (g : Fin 2) (r : Fin 4) (i : Fin 128) :
    val_main_v80 (F := Ideal) x0 x1 x2 (ix5 b n g r i) = top (fun j : Fin 256 => val_main_v76 (F := Ideal) x0 x1 (ix6 b n g r i j))
      (val_main_v78 (F := Ideal) x2 (ix6 b n g r i 0)) := by
  unfold top
  simp only [← ref_cat (x2 := x2), ← ref_cat_last (x0 := x0) (x1 := x1)]
  unfold val_main_v80
  generalize val_main_v79 (F := Ideal) x0 x1 x2 = y
  refine (Host.reduce_eq_fold_single (max : EReal → EReal → EReal) y (val_main_cst_11 (F := Ideal))
    reducesTo_S8x16x2x4x128x257_S8x16x2x4x128_d5 (by decide) h_S_ (ix5 b n g r i)).trans ?_
  rw [← fold_last (fun k => y (ix6 b n g r i k))]
  refine (congrArg (fun z => Finset.fold max z _ _) word_negInf).trans (congrArg (fun f => Finset.fold max ⊥ f _) (funext fun k => ?_))
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem ref_top (n : Fin 16) (g : Fin 2) (r : Fin 4) (i : Fin 128) :
    val_main_v82 (F := Ideal) x0 x1 x2 (ix5 b n g r i) = top (fun j : Fin 256 => val_main_v76 (F := Ideal) x0 x1 (ix6 b n g r i j))
      (val_main_v78 (F := Ideal) x2 (ix6 b n g r i 0)) := by
  rw [val_main_v82_apply, ref_max, val_main_v81_apply, val_main_cst_12_apply]
  refine (congrArg (fun z => max z _) word_negInf).trans ?_
  exact max_eq_right bot_le

end Cert.Mixer
-- ==== Proof.RefScore.lean ====
/-
  The reference's attention scores.
-/
module

public import proofs.«01_k».proof.Proof.RefTop

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

omit H in
theorem sgt_zero : ∀ n : Fin 16, IntOp.cmpi .sgt (BitVec.ofNat 32 n.val) 0#32 = if n.val = 0 then 0#1 else 1#1 := by decide

omit H in
set_option maxRecDepth 4096 in
theorem sge_half : ∀ j : Fin 256, IntOp.cmpi .sge (BitVec.ofNat 32 j.val) 128#32 = if j.val < 128 then 0#1 else 1#1 := by decide

omit H in
theorem and_one : ∀ v : BitVec 1, IntOp.andi v 1#1 = v := by decide

omit H in
theorem and_zero : ∀ v : BitVec 1, IntOp.andi v 0#1 = 0#1 := by decide

omit H in
/-- Which keys a chunk's queries see: none before the first chunk, and those of the window. -/
theorem ref_valid (n : Fin 16) (i : Fin 128) (j : Fin 256) : val_main_v56 (F := Ideal) (ix3 n i j)
    = if n.val = 0 ∧ j.val < 128 then 0#1 else val_main_v41 (F := Ideal) (ix2 i j) := by
  pointwise [val_main_v56, val_main_v55, val_main_v54, val_main_v53, val_main_v52, val_main_v51, val_main_v50, val_main_v49, val_main_v48,
    val_main_v47, val_main_v46, val_main_v45, val_main_v44, val_main_v43, val_main_v42, val_main_c_4, val_main_c_5]
  rw [sgt_zero, sge_half]
  by_cases hn : n.val = 0 <;> by_cases hj : j.val < 128
  · rw [if_pos hn, if_pos hj, if_pos ⟨hn, hj⟩]; exact and_zero _
  · rw [if_pos hn, if_neg hj, if_neg (fun h => hj h.2)]; exact and_one _
  · rw [if_neg hn, if_pos hj, if_neg (fun h => hn h.1)]; exact and_one _
  · rw [if_neg hn, if_neg hj, if_neg (fun h => hn h.1)]; exact and_one _

/-- The scores. -/
theorem ref_score (n : Fin 16) (g : Fin 2) (r : Fin 4) (i : Fin 128) (j : Fin 256) :
    val_main_v76 (F := Ideal) x0 x1 (ix6 b n g r i j) = score P (128 * n.val + i.val) (4 * g.val + r.val) j.val := by
  have pi : i.val < 128 := i.isLt
  have pr : r.val < 4 := r.isLt
  have pg : g.val < 2 := g.isLt
  have e1 : (128 * n.val + i.val) / 128 = n.val := by omega
  have e2 : (128 * n.val + i.val) % 128 = i.val := by omega
  have e3 : (4 * g.val + r.val) / 4 = g.val := by omega
  have hb := H.bias ⟨4 * g.val + r.val, by omega⟩ i j
  have e4 : (⟨g.val * 4 + r.val, by omega⟩ : Fin 8) = ⟨4 * g.val + r.val, by omega⟩ := Fin.ext (by show g.val * 4 + r.val = 4 * g.val + r.val; omega)
  pointwise [val_main_v76, val_main_call2_v0, val_main_call2_v1, val_main_call2_v2, val_main_cst_10, val_main_v75, val_main_v74, val_main_v73,
    val_main_v72, val_main_v71, val_main_v70, val_main_v69, val_main_v68, val_main_v66, val_main_v27, val_main_v26]
  unfold score
  rw [e1, e2, e3, ref_valid]
  dsimp only at hb
  rw [hb]
  by_cases hc : n.val = 0 ∧ j.val < 128
  · rw [if_pos hc, if_pos hc]
    exact word_negInf
  · rw [if_neg hc, if_neg hc]
    have hs : (∑ x : Fin 64, val_main_v22 (F := Ideal) x0 x1 (ix5 b n j g x) * val_main_v17 (F := Ideal) x0 x1 (ix6 b n i g r x) : EReal)
        = ∑ e : Fin 64, (proj P (128 * n.val + i.val) (64 * (4 * g.val + r.val) + e.val) * qScale)
          * band P n.val j.val (512 + (64 * g.val + e.val)) :=
      Finset.sum_congr rfl fun x _ => by rw [ref_bandk H, ref_q H, mul_comm]
    refine Eq.trans (congrArg (fun s => Scalar.select _ (s - _) _) hs) ?_
    rw [e4]
    generalize (∑ e : Fin 64, (proj P (128 * n.val + i.val) (64 * (4 * g.val + r.val) + e.val) * qScale)
          * band P n.val j.val (512 + (64 * g.val + e.val))) = s
    generalize val_main_v41 (F := Ideal) (ix2 i j) = v
    show (if v = 1#1 then s - _ else Ideal.ofBits .f32 0xFF800000#32) = s + (if v = 1#1 then _ else Ideal.ofBits .f32 0xFF800000#32)
    split
    · rw [sub_eq_add_neg, EReal.neg_mul]
    · rw [word_negInf, EReal.add_bot]

end Cert.Mixer
-- ==== Proof.RefAttn.lean ====
/-
  The reference's attention.
-/
module

public import proofs.«01_k».proof.Proof.RefScore

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

omit H in
theorem ref_exp (n : Fin 16) (g : Fin 2) (r : Fin 4) (i : Fin 128) (k : Fin 257) :
    val_main_v86 (F := Ideal) x0 x1 x2 (ix6 b n g r i k) = Ideal.exp (val_main_v79 (F := Ideal) x0 x1 x2 (ix6 b n g r i k)
      - val_main_v82 (F := Ideal) x0 x1 x2 (ix5 b n g r i)) := by
  pointwise [val_main_v86, val_main_v85, val_main_v84, val_main_v83]

omit H in
theorem ref_den (n : Fin 16) (g : Fin 2) (r : Fin 4) (i : Fin 128) :
    val_main_v87 (F := Ideal) x0 x1 x2 (ix5 b n g r i) = denom (fun j : Fin 256 => val_main_v76 (F := Ideal) x0 x1 (ix6 b n g r i j))
      (val_main_v78 (F := Ideal) x2 (ix6 b n g r i 0)) := by
  have e (k : Fin 257) : idx_main_v87 (ix5 b n g r i : S8x16x2x4x128.Idx) k = (ix6 b n g r i k : S8x16x2x4x128x257.Idx) :=
    funext fun a => Fin.ext (by match a with | ⟨0, _⟩ => rfl | ⟨1, _⟩ => rfl | ⟨2, _⟩ => rfl | ⟨3, _⟩ => rfl | ⟨4, _⟩ => rfl | ⟨5, _⟩ => rfl)
  have z : val_main_cst_13 (F := Ideal) (Shape.Idx.first h_S_) = (0 : EReal) := Ideal.ofBits_zero_f32
  rw [val_main_v87_apply, z, zero_add, Fin.sum_univ_castSucc]
  simp only [e, ref_exp, ref_cat, ref_cat_last, ref_top]
  rfl

omit H in
theorem ref_weight (n : Fin 16) (g : Fin 2) (r : Fin 4) (i : Fin 128) (j : Fin 256) :
    val_main_v91 (F := Ideal) x0 x1 x2 (ix6 b n g r i j) = Ideal.div (Ideal.exp (val_main_v76 (F := Ideal) x0 x1 (ix6 b n g r i j)
      - top (fun j : Fin 256 => val_main_v76 (F := Ideal) x0 x1 (ix6 b n g r i j)) (val_main_v78 (F := Ideal) x2 (ix6 b n g r i 0))))
      (denom (fun j : Fin 256 => val_main_v76 (F := Ideal) x0 x1 (ix6 b n g r i j)) (val_main_v78 (F := Ideal) x2 (ix6 b n g r i 0))) := by
  rw [← ref_den, ← ref_top, ← ref_cat (x2 := x2), ← ref_exp]
  pointwise [val_main_v91, val_main_v90, val_main_v89, val_main_v88]
  rfl

theorem ref_z (n : Fin 16) (g : Fin 2) (r : Fin 4) (i : Fin 128) :
    val_main_v78 (F := Ideal) x2 (ix6 b n g r i 0) = P.sink (4 * g.val + r.val) := by
  have pr : r.val < 4 := r.isLt
  have pg : g.val < 2 := g.isLt
  refine Eq.trans ?_ (H.sink ⟨4 * g.val + r.val, by omega⟩)
  have e4 : (⟨g.val * 4 + r.val, by omega⟩ : Fin 8) = ⟨4 * g.val + r.val, by omega⟩ := Fin.ext (by show g.val * 4 + r.val = 4 * g.val + r.val; omega)
  rw [← e4]
  pointwise [val_main_v78, val_main_v77]

/-- The attention of a token, when its denominators are those of finite scores and sinks. -/
theorem ref_attn (hs : ∀ t h j, score P t h j ≠ ⊤) (hz : ∀ h : Fin 8, P.sink h.val ≠ ⊤ ∧ P.sink h.val ≠ ⊥) (t : Fin 2048) (u : Fin 512) :
    val_main_v94 (F := Ideal) x0 x1 x2 (ix3 b t u) = attn P t.val u.val := by
  have pt : t.val < 2048 := t.isLt
  have pu : u.val < 512 := u.isLt
  have e0 : val_main_v94 (F := Ideal) x0 x1 x2 (ix3 b t u)
      = val_main_v92 (F := Ideal) x0 x1 x2 (ix6 b ⟨t.val / 128, by omega⟩ ⟨u.val / 256, by omega⟩ ⟨u.val % 64, by omega⟩
          ⟨u.val / 64 % 4, by omega⟩ ⟨t.val % 128, by omega⟩) := by
    pointwise [val_main_v94, val_main_v93]
  rw [e0]
  unfold attn
  have h1 : 4 * (u.val / 256) + u.val / 64 % 4 = u.val / 64 := by omega
  have h2 : 128 * (t.val / 128) + t.val % 128 = t.val := by omega
  have h3 : u.val / 64 / 4 = u.val / 256 := by omega
  obtain ⟨z1, z2⟩ := hz ⟨u.val / 64, by omega⟩
  rw [attend_eq _ _ _ (fun j => hs _ _ _) z1 z2]
  pointwise [val_main_v92]
  unfold attendNorm
  refine Finset.sum_congr rfl fun j _ => ?_
  rw [ref_bandv H, ref_weight]
  simp only [ref_score H, ref_z H, h1, h2, h3]
  exact mul_comm _ _

end Cert.Mixer
-- ==== Proof.RefState.lean ====
/-
  The reference's retention: what each chunk adds to the state, the state before each chunk, and the sum of the two.
-/
module

public import proofs.«01_k».proof.Proof.RefProj

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

/-- What a chunk adds to the state. -/
theorem ref_add (n : Fin 16) (h : Fin 4) (d e : Fin 128) :
    val_main_v158 (F := Ideal) x0 x1 (ix5 n b h d e) = ∑ j : Fin 128, (proj P (128 * n.val + j.val) (1280 + (128 * h.val + d.val))
      * P.kd h.val j.val d.val) * proj P (128 * n.val + j.val) (1792 + (128 * h.val + e.val)) := by
  pointwise [val_main_v158, val_main_v157, val_main_v156, val_main_v155, val_main_v154]
  refine Finset.sum_congr rfl fun j _ => ?_
  rw [ref_rk H, ref_rv H, H.kd h j d]

theorem ref_state0 (h : Fin 4) (d e : Fin 128) : val_main_v159 (F := Ideal) (ix4 b h d e) = state P 0 h.val d.val e.val := by
  pointwise [val_main_v159, val_main_cst_23]
  rfl

theorem ref_state1 (h : Fin 4) (d e : Fin 128) :
    val_main_v165 (F := Ideal) x0 x1 (ix4 b h d e) = state P 1 h.val d.val e.val := by
  pointwise [val_main_v165, val_main_v164, val_main_v163, val_main_v162, val_main_v161, val_main_v160]
  rw [ref_state0 H, ref_add H, H.cd h d e]
  rfl

theorem ref_state2 (h : Fin 4) (d e : Fin 128) :
    val_main_v171 (F := Ideal) x0 x1 (ix4 b h d e) = state P 2 h.val d.val e.val := by
  pointwise [val_main_v171, val_main_v170, val_main_v169, val_main_v168, val_main_v167, val_main_v166]
  rw [ref_state1 H, ref_add H, H.cd h d e]
  rfl

theorem ref_state3 (h : Fin 4) (d e : Fin 128) :
    val_main_v177 (F := Ideal) x0 x1 (ix4 b h d e) = state P 3 h.val d.val e.val := by
  pointwise [val_main_v177, val_main_v176, val_main_v175, val_main_v174, val_main_v173, val_main_v172]
  rw [ref_state2 H, ref_add H, H.cd h d e]
  rfl

theorem ref_state4 (h : Fin 4) (d e : Fin 128) :
    val_main_v183 (F := Ideal) x0 x1 (ix4 b h d e) = state P 4 h.val d.val e.val := by
  pointwise [val_main_v183, val_main_v182, val_main_v181, val_main_v180, val_main_v179, val_main_v178]
  rw [ref_state3 H, ref_add H, H.cd h d e]
  rfl

theorem ref_state5 (h : Fin 4) (d e : Fin 128) :
    val_main_v189 (F := Ideal) x0 x1 (ix4 b h d e) = state P 5 h.val d.val e.val := by
  pointwise [val_main_v189, val_main_v188, val_main_v187, val_main_v186, val_main_v185, val_main_v184]
  rw [ref_state4 H, ref_add H, H.cd h d e]
  rfl

theorem ref_state6 (h : Fin 4) (d e : Fin 128) :
    val_main_v195 (F := Ideal) x0 x1 (ix4 b h d e) = state P 6 h.val d.val e.val := by
  pointwise [val_main_v195, val_main_v194, val_main_v193, val_main_v192, val_main_v191, val_main_v190]
  rw [ref_state5 H, ref_add H, H.cd h d e]
  rfl

theorem ref_state7 (h : Fin 4) (d e : Fin 128) :
    val_main_v201 (F := Ideal) x0 x1 (ix4 b h d e) = state P 7 h.val d.val e.val := by
  pointwise [val_main_v201, val_main_v200, val_main_v199, val_main_v198, val_main_v197, val_main_v196]
  rw [ref_state6 H, ref_add H, H.cd h d e]
  rfl

theorem ref_state8 (h : Fin 4) (d e : Fin 128) :
    val_main_v207 (F := Ideal) x0 x1 (ix4 b h d e) = state P 8 h.val d.val e.val := by
  pointwise [val_main_v207, val_main_v206, val_main_v205, val_main_v204, val_main_v203, val_main_v202]
  rw [ref_state7 H, ref_add H, H.cd h d e]
  rfl

theorem ref_state9 (h : Fin 4) (d e : Fin 128) :
    val_main_v213 (F := Ideal) x0 x1 (ix4 b h d e) = state P 9 h.val d.val e.val := by
  pointwise [val_main_v213, val_main_v212, val_main_v211, val_main_v210, val_main_v209, val_main_v208]
  rw [ref_state8 H, ref_add H, H.cd h d e]
  rfl

theorem ref_state10 (h : Fin 4) (d e : Fin 128) :
    val_main_v219 (F := Ideal) x0 x1 (ix4 b h d e) = state P 10 h.val d.val e.val := by
  pointwise [val_main_v219, val_main_v218, val_main_v217, val_main_v216, val_main_v215, val_main_v214]
  rw [ref_state9 H, ref_add H, H.cd h d e]
  rfl

theorem ref_state11 (h : Fin 4) (d e : Fin 128) :
    val_main_v225 (F := Ideal) x0 x1 (ix4 b h d e) = state P 11 h.val d.val e.val := by
  pointwise [val_main_v225, val_main_v224, val_main_v223, val_main_v222, val_main_v221, val_main_v220]
  rw [ref_state10 H, ref_add H, H.cd h d e]
  rfl

theorem ref_state12 (h : Fin 4) (d e : Fin 128) :
    val_main_v231 (F := Ideal) x0 x1 (ix4 b h d e) = state P 12 h.val d.val e.val := by
  pointwise [val_main_v231, val_main_v230, val_main_v229, val_main_v228, val_main_v227, val_main_v226]
  rw [ref_state11 H, ref_add H, H.cd h d e]
  rfl

theorem ref_state13 (h : Fin 4) (d e : Fin 128) :
    val_main_v237 (F := Ideal) x0 x1 (ix4 b h d e) = state P 13 h.val d.val e.val := by
  pointwise [val_main_v237, val_main_v236, val_main_v235, val_main_v234, val_main_v233, val_main_v232]
  rw [ref_state12 H, ref_add H, H.cd h d e]
  rfl

theorem ref_state14 (h : Fin 4) (d e : Fin 128) :
    val_main_v243 (F := Ideal) x0 x1 (ix4 b h d e) = state P 14 h.val d.val e.val := by
  pointwise [val_main_v243, val_main_v242, val_main_v241, val_main_v240, val_main_v239, val_main_v238]
  rw [ref_state13 H, ref_add H, H.cd h d e]
  rfl

theorem ref_state15 (h : Fin 4) (d e : Fin 128) :
    val_main_v249 (F := Ideal) x0 x1 (ix4 b h d e) = state P 15 h.val d.val e.val := by
  pointwise [val_main_v249, val_main_v248, val_main_v247, val_main_v246, val_main_v245, val_main_v244]
  rw [ref_state14 H, ref_add H, H.cd h d e]
  rfl

end Cert.Mixer
-- ==== Proof.RefChunk.lean ====
/-
  The reference's retention, from a chunk's own keys and from the state before it, normalised and gated.
-/
module

public import proofs.«01_k».proof.Proof.RefState

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

/-- The states, stacked. -/
theorem ref_states (n : Fin 16) (h : Fin 4) (d e : Fin 128) :
    val_main_v272 (F := Ideal) x0 x1 (ix5 n b h d e) = state P n.val h.val d.val e.val := by
  fin_cases n
  · refine Eq.trans ?_ (ref_state0 H h d e)
    pointwise [val_main_v272, val_main_v256]
  · refine Eq.trans ?_ (ref_state1 H h d e)
    pointwise [val_main_v272, val_main_v257]
  · refine Eq.trans ?_ (ref_state2 H h d e)
    pointwise [val_main_v272, val_main_v258]
  · refine Eq.trans ?_ (ref_state3 H h d e)
    pointwise [val_main_v272, val_main_v259]
  · refine Eq.trans ?_ (ref_state4 H h d e)
    pointwise [val_main_v272, val_main_v260]
  · refine Eq.trans ?_ (ref_state5 H h d e)
    pointwise [val_main_v272, val_main_v261]
  · refine Eq.trans ?_ (ref_state6 H h d e)
    pointwise [val_main_v272, val_main_v262]
  · refine Eq.trans ?_ (ref_state7 H h d e)
    pointwise [val_main_v272, val_main_v263]
  · refine Eq.trans ?_ (ref_state8 H h d e)
    pointwise [val_main_v272, val_main_v264]
  · refine Eq.trans ?_ (ref_state9 H h d e)
    pointwise [val_main_v272, val_main_v265]
  · refine Eq.trans ?_ (ref_state10 H h d e)
    pointwise [val_main_v272, val_main_v266]
  · refine Eq.trans ?_ (ref_state11 H h d e)
    pointwise [val_main_v272, val_main_v267]
  · refine Eq.trans ?_ (ref_state12 H h d e)
    pointwise [val_main_v272, val_main_v268]
  · refine Eq.trans ?_ (ref_state13 H h d e)
    pointwise [val_main_v272, val_main_v269]
  · refine Eq.trans ?_ (ref_state14 H h d e)
    pointwise [val_main_v272, val_main_v270]
  · refine Eq.trans ?_ (ref_state15 H h d e)
    pointwise [val_main_v272, val_main_v271]

/-- The retention of a token before its normalisation. -/
theorem ref_chunk (n : Fin 16) (h : Fin 4) (i e : Fin 128) :
    val_main_v278 (F := Ideal) x0 x1 (ix5 n b h i e) = chunkRet P n.val h.val i.val e.val := by
  pointwise [val_main_v278, val_main_v277, val_main_v276, val_main_v275, val_main_v274, val_main_v273, val_main_v153,
    val_main_v152, val_main_v151, val_main_v150, val_main_v149]
  unfold chunkRet
  refine congrArg₂ (· + ·) (Finset.sum_congr rfl fun j _ => ?_) (congrArg₂ (· * ·) (Finset.sum_congr rfl fun d _ => ?_) (H.qd h i e))
  · rw [ref_rv H, H.dm h i j]
    refine congrArg (fun s => s * _ * _) (Finset.sum_congr rfl fun d _ => ?_)
    rw [ref_rq H, ref_rk H]
  · rw [ref_rq H, ref_states H]

end Cert.Mixer
-- ==== Proof.RefRet.lean ====
/-
  The reference's retention heads: each row normalised by its mean and variance, with its gain and its gate.
-/
module

public import proofs.«01_k».proof.Proof.RefChunk

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

/-- A token's row of a head. -/
theorem ref_row (t : Fin 2048) (h : Fin 4) (e : Fin 128) :
    val_main_v280 (F := Ideal) x0 x1 (ix4 b t h e) = chunkRet P (t.val / 128) h.val (t.val % 128) e.val := by
  have pt : t.val < 2048 := t.isLt
  refine Eq.trans ?_ (ref_chunk H ⟨t.val / 128, by omega⟩ h ⟨t.val % 128, by omega⟩ e)
  pointwise [val_main_v280, val_main_v279]

omit H in
theorem ref_mean (t : Fin 2048) (h : Fin 4) (o : Fin 1) :
    val_main_v285 (F := Ideal) x0 x1 (ix4 b t h o) = mean len128 (fun e : Fin 128 => val_main_v280 (F := Ideal) x0 x1 (ix4 b t h e)) := by
  pointwise [val_main_v285, val_main_v284, val_main_v283, val_main_v282, val_main_cst_25, val_main_cst_24]
  rfl

omit H in
theorem ref_centre (t : Fin 2048) (h : Fin 4) (e : Fin 128) :
    val_main_v287 (F := Ideal) x0 x1 (ix4 b t h e) = val_main_v280 (F := Ideal) x0 x1 (ix4 b t h e)
      - mean len128 (fun e : Fin 128 => val_main_v280 (F := Ideal) x0 x1 (ix4 b t h e)) := by
  rw [← ref_mean t h 0]
  pointwise [val_main_v287, val_main_v286]

omit H in
theorem ref_var (t : Fin 2048) (h : Fin 4) (o : Fin 1) :
    val_main_v292 (F := Ideal) x0 x1 (ix4 b t h o) = var len128 (fun e : Fin 128 => val_main_v280 (F := Ideal) x0 x1 (ix4 b t h e)) := by
  pointwise [val_main_v292, val_main_v291, val_main_v290, val_main_v289, val_main_v288, val_main_cst_26, val_main_cst_27]
  simp only [ref_centre]
  rfl

omit H in
theorem ref_unit (t : Fin 2048) (h : Fin 4) (e : Fin 128) :
    val_main_v299 (F := Ideal) x0 x1 (ix4 b t h e) = unitNorm len128 (fun e : Fin 128 => val_main_v280 (F := Ideal) x0 x1 (ix4 b t h e)) e := by
  unfold unitNorm
  rw [← ref_mean t h 0, ← ref_var t h 0]
  pointwise [val_main_v299, val_main_v298, val_main_v297, val_main_v296, val_main_v295, val_main_v294, val_main_v293, val_main_cst_28]

/-- The retention of a token. -/
theorem ref_ret (t : Fin 2048) (u : Fin 512) : val_main_v305 (F := Ideal) x0 x1 x3 (ix3 b t u) = ret P t.val u.val := by
  have pu : u.val < 512 := u.isLt
  have e1 : val_main_v305 (F := Ideal) x0 x1 x3 (ix3 b t u)
      = (val_main_v299 (F := Ideal) x0 x1 (ix4 b t ⟨u.val / 128, by omega⟩ ⟨u.val % 128, by omega⟩) * val_main_v281 (F := Ideal) x3 (ix1 u))
        * (val_main_v8 (F := Ideal) x0 x1 (ix3 b t u) * Ideal.logistic (val_main_v8 (F := Ideal) x0 x1 (ix3 b t u))) := by
    pointwise [val_main_v305, val_main_v304, val_main_v303, val_main_v302, val_main_v301, val_main_v300, val_main_call4_v0,
      val_main_call4_v1, val_main_call4_v2, val_main_call4_v3, val_main_call4_v4, val_main_call4_v5, val_main_call4_cst, val_main_call4_cst_0]
    rfl
  rw [e1, ref_unit, ref_gate H, H.gn]
  simp only [ref_row H]
  rfl

end Cert.Mixer
-- ==== Proof.RefOut.lean ====
/-
  The reference's results: the two branches gated and summed, the residual, and the layer normalisation.
-/
module

public import proofs.«01_k».proof.Proof.RefAttn
public import proofs.«01_k».proof.Proof.RefRet

@[expose] public section

noncomputable section

namespace Cert.Mixer

open Idealize.ShloMosaic Idealize.ShloMosaic.TcCoe Cert.ReferenceIdeal Cert.ReferenceIdeal.Gen Cert.ReferenceIdeal.Read
open scoped BigOperators

variable {P : Params} {b : Fin 8} {x0 : S8x2048x1024.Idx → EReal} {x1 : S1x1024x4864.Idx → EReal} {x2 : S1x8.Idx → EReal}
    {x3 : S1x512.Idx → EReal} {x4 x5 : S1x512x1024.Idx → EReal} {x6 : S1x1024x1024.Idx → EReal}
    {x7 x8 : S1x1024.Idx → EReal} (H : RefInputs P b x0 x1 x2 x3 x4 x5 x6 x7 x8)

include H

theorem ref_sig_a (t : Fin 2048) (u : Fin 1024) :
    val_main_v311 (F := Ideal) x0 x1 (ix3 b t u) = Ideal.logistic (proj P t.val (2816 + u.val)) := by
  rw [← ref_ga H]
  pointwise [val_main_v311, val_main_v310, val_main_v309, val_main_v308, val_main_v307, val_main_v306, val_main_cst_29, val_main_cst_30]
  rfl

theorem ref_sig_b (t : Fin 2048) (u : Fin 1024) :
    val_main_v320 (F := Ideal) x0 x1 (ix3 b t u) = Ideal.logistic (proj P t.val (3840 + u.val)) := by
  rw [← ref_gb H]
  pointwise [val_main_v320, val_main_v319, val_main_v318, val_main_v317, val_main_v316, val_main_v315, val_main_cst_31, val_main_cst_32]
  rfl

/-- The gated sum of the two branches. -/
theorem ref_merge (hs : ∀ t h j, score P t h j ≠ ⊤) (hz : ∀ h : Fin 8, P.sink h.val ≠ ⊤ ∧ P.sink h.val ≠ ⊥) (t : Fin 2048) (u : Fin 1024) :
    val_main_v324 (F := Ideal) x0 x1 x2 x3 x4 x5 (ix3 b t u) = merge (∑ c : Fin 512, attn P t.val c.val * P.wa c.val u.val)
      (proj P t.val (2816 + u.val)) (∑ c : Fin 512, ret P t.val c.val * P.wr c.val u.val) (proj P t.val (3840 + u.val)) := by
  pointwise [val_main_v324, val_main_v323, val_main_v322, val_main_v314, val_main_v313]
  rw [ref_sig_a H, ref_sig_b H]
  unfold merge
  have ea : (∑ c : Fin 512, val_main_v94 (F := Ideal) x0 x1 x2 (ix3 b t c) * val_main_v312 (F := Ideal) x4 (ix2 c u) : EReal)
      = ∑ c : Fin 512, attn P t.val c.val * P.wa c.val u.val :=
    Finset.sum_congr rfl fun c _ => by rw [ref_attn H hs hz, H.wa]
  have eb : (∑ c : Fin 512, val_main_v305 (F := Ideal) x0 x1 x3 (ix3 b t c) * val_main_v321 (F := Ideal) x5 (ix2 c u) : EReal)
      = ∑ c : Fin 512, ret P t.val c.val * P.wr c.val u.val :=
    Finset.sum_congr rfl fun c _ => by rw [ref_ret H, H.wr]
  rw [ea, eb]

theorem ref_resid (hs : ∀ t h j, score P t h j ≠ ⊤) (hz : ∀ h : Fin 8, P.sink h.val ≠ ⊤ ∧ P.sink h.val ≠ ⊥) (t : Fin 2048) (m : Fin 1024) :
    val_main_v329 (F := Ideal) x0 x1 x2 x3 x4 x5 x6 (ix3 b t m) = resid P t.val m.val := by
  pointwise [val_main_v329, val_main_v328, val_main_v326, val_main_v325, val_main_cst_33]
  unfold resid
  rw [H.tok]
  refine congrArg₂ (· + ·) rfl (Finset.sum_congr rfl fun c _ => ?_)
  rw [ref_merge H hs hz, H.wo]

omit H in
theorem ref_lmean (t : Fin 2048) (o : Fin 1) :
    val_main_v335 (F := Ideal) x0 x1 x2 x3 x4 x5 x6 (ix3 b t o)
      = mean len1024 (fun e : Fin 1024 => val_main_v329 (F := Ideal) x0 x1 x2 x3 x4 x5 x6 (ix3 b t e)) := by
  pointwise [val_main_v335, val_main_v334, val_main_v333, val_main_v332, val_main_cst_34, val_main_cst_35]
  rfl

omit H in
theorem ref_lcentre (t : Fin 2048) (e : Fin 1024) :
    val_main_v337 (F := Ideal) x0 x1 x2 x3 x4 x5 x6 (ix3 b t e) = val_main_v329 (F := Ideal) x0 x1 x2 x3 x4 x5 x6 (ix3 b t e)
      - mean len1024 (fun e : Fin 1024 => val_main_v329 (F := Ideal) x0 x1 x2 x3 x4 x5 x6 (ix3 b t e)) := by
  rw [← ref_lmean t 0]
  pointwise [val_main_v337, val_main_v336]

omit H in
theorem ref_lvar (t : Fin 2048) (o : Fin 1) :
    val_main_v342 (F := Ideal) x0 x1 x2 x3 x4 x5 x6 (ix3 b t o)
      = var len1024 (fun e : Fin 1024 => val_main_v329 (F := Ideal) x0 x1 x2 x3 x4 x5 x6 (ix3 b t e)) := by
  pointwise [val_main_v342, val_main_v341, val_main_v340, val_main_v339, val_main_v338, val_main_cst_36, val_main_cst_37]
  simp only [ref_lcentre]
  rfl

/-- The first result. -/
theorem ref_out (hs : ∀ t h j, score P t h j ≠ ⊤) (hz : ∀ h : Fin 8, P.sink h.val ≠ ⊤ ∧ P.sink h.val ≠ ⊥) (t : Fin 2048) (m : Fin 1024) :
    val_main_v355 (F := Ideal) x0 x1 x2 x3 x4 x5 x6 x7 x8 (ix3 b t m) = mixed P t.val m := by
  unfold mixed layerNorm unitNorm
  simp only [← ref_resid H hs hz]
  rw [← ref_lmean t 0, ← ref_lvar t 0, ← H.lg, ← H.lb]
  pointwise [val_main_v355, val_main_v354, val_main_v353, val_main_v352, val_main_v351, val_main_v350, val_main_v349, val_main_v348,
    val_main_v347, val_main_v346, val_main_v345, val_main_v344, val_main_v343, val_main_cst_38]

/-- The second result. -/
theorem ref_out' (hs : ∀ t h j, score P t h j ≠ ⊤) (hz : ∀ h : Fin 8, P.sink h.val ≠ ⊤ ∧ P.sink h.val ≠ ⊥) (t : Fin 2048) (m : Fin 1024) :
    val_main_v356 (F := Ideal) x0 x1 x2 x3 x4 x5 x6 x7 x8 (ix3 b t m) = mixed P t.val m :=
  Eq.trans (by pointwise [val_main_v356]) (ref_out H hs hz t m)

end Cert.Mixer
-- ==== Proof.Final.lean ====
/-
  The two arrays the kernel leaves are the reference's, for finite inputs.
-/
module

public import proofs.«01_k».proof.Proof.Entry
public import proofs.«01_k».proof.Proof.RefOut

@[expose] public section

noncomputable section

namespace Cert.Mixer

open Idealize.ShloMosaic Idealize.ShloMosaic.TcCoe Cert.KernelIdeal Cert.KernelIdeal.Gen Cert.ReferenceIdeal.Read
open scoped BigOperators

variable (m : (ℓ : Loc nD τ sig) → Buf (Elt Ideal) ℓ) (c : Dev nD)
  (h0 : ∀ i : S8x2048x1024.Idx, Real' ((m ((c : Thread nD τ).loc main_arg0) : S8x2048x1024.Idx → EReal) i))
  (h1 : ∀ i : S1x1024x4864.Idx, Real' ((m ((c : Thread nD τ).loc main_arg1) : S1x1024x4864.Idx → EReal) i))
  (h2 : ∀ i : S1x8.Idx, Real' ((m ((c : Thread nD τ).loc main_arg2) : S1x8.Idx → EReal) i))

include h0 h1 h2

theorem final_out : Value.G14 m c = val_main_v355 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  funext i
  obtain ⟨b, t, q, rfl⟩ : ∃ (b : Fin 8) (t : Fin 2048) (q : Fin 1024), i = ix3 b t q := ⟨i 0, i 1, i 2, eq_ix3 i⟩
  exact (final14_apply m c (seqOf m c) (seq_inputs m c) b t q).trans
    (ref_out (seq_ref m c b) (params_score _ _ _ _ _ _ h0 h1 b.val) (params_sink _ _ _ _ _ _ h2 b.val) t q).symm

theorem final_out' : Value.G15 m c = val_main_v356 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  funext i
  obtain ⟨b, t, q, rfl⟩ : ∃ (b : Fin 8) (t : Fin 2048) (q : Fin 1024), i = ix3 b t q := ⟨i 0, i 1, i 2, eq_ix3 i⟩
  exact (final15_apply m c (seqOf m c) (seq_inputs m c) b t q).trans
    (ref_out' (seq_ref m c b) (params_score _ _ _ _ _ _ h0 h1 b.val) (params_sink _ _ _ _ _ _ h2 b.val) t q).symm

end Cert.Mixer
-- ==== Proof.Finite.lean ====
/-
  The precondition read at an entry: the tokens, the projection's weights and the sinks are real numbers.
-/
module

public import proofs.«01_k».proof.Pre_finite
public import proofs.«01_k».proof.Proof.Real

@[expose] public section

noncomputable section

namespace Cert.Mixer

open Idealize.ShloMosaic Idealize.ShloMosaic.TcCoe Cert.Pre_finite
open scoped BigOperators

variable [Cert.Pre_finite.Facts]

/-- Comparing an absolute value with the word of infinity, read as an order. -/
theorem real_of_cmp {x : EReal} (h : Ideal.cmp .olt (max x (-x)) (Ideal.ofBits .f32 0x7F800000#32) = 1#1) : Real' x := by
  have e : (Ideal.ofBits .f32 0x7F800000#32 : EReal) = ⊤ := by simp [Ideal.ofBits, Ideal.ieee]
  rw [e] at h
  refine real_of_abs ?_
  by_contra hn
  simp [Ideal.cmp, hn] at h

variable (x0 : S8x2048x1024.Idx → EReal) (x1 : S1x1024x4864.Idx → EReal) (x2 : S1x8.Idx → EReal)
    (x3 : S1x512.Idx → EReal) (x4 x5 : S1x512x1024.Idx → EReal) (x6 : S1x1024x1024.Idx → EReal)
    (x7 x8 : S1x1024.Idx → EReal)

theorem finite_tok (h : (fn (F := Ideal) x0 x1 x2 x3 x4 x5 x6 x7 x8).1 = fun _ => 1#1) (i : S8x2048x1024.Idx) : Real' (x0 i) :=
  real_of_cmp (congrFun h i)

theorem finite_win (h : (fn (F := Ideal) x0 x1 x2 x3 x4 x5 x6 x7 x8).2.1 = fun _ => 1#1) (i : S1x1024x4864.Idx) : Real' (x1 i) :=
  real_of_cmp (congrFun h i)

theorem finite_sink (h : (fn (F := Ideal) x0 x1 x2 x3 x4 x5 x6 x7 x8).2.2 = fun _ => 1#1) (i : S1x8.Idx) : Real' (x2 i) :=
  real_of_cmp (congrFun h i)

end Cert.Mixer
-- ==== Proof.PackedRows.lean ====
/-
  The packing of the down table: word `(w, k)` of the packed table is the bf16 rounding of row `2w + 1`, column `k`,
  on the bf16 rounding of row `2w`, column `k`. The kernel's 16 blocks of 512 word rows and the reference's pairs
  both hold that word.
-/
module

public import proofs.«01_k».proof.Proof.Gen.PackDown.Value
public import proofs.«01_k».proof.Proof.Gen.PackDownRef.Read
public import Idealize.ShloMosaic.Lib.BitcastPair
public import Idealize.ShloMosaic.Lib.BitcastConvert
public import Idealize.ShloMosaic.Lib.ValueIdxCore

@[expose] public section

noncomputable section

namespace Cert.PackedRows

open Idealize.ShloMosaic Idealize.ShloMosaic.TcCoe Idealize.ShloMosaic.ValueIdx Cert.PackDown Cert.PackDown.Gen Cert.PackDown.Value

set_option maxRecDepth 16384

variable {F : FTy → Type} [BitOps F]

/-- The sixteen bits of an entry's bf16 rounding. -/
def half (v : F .f32) : BitVec 16 := BitOps.toBits (FloatOps.truncf (φ := .f32) .bf16 bitsLt_bf16_f32 v)

/-- The packed word of two entries, the second in the low half. -/
def pair (v u : F .f32) : BitVec 32 := half v ++ half u

theorem row_odd (i : Fin 8192) : 2 * i.val + 1 < 16384 := by have := i.isLt; omega

theorem row_even (i : Fin 8192) : 2 * i.val < 16384 := by have := i.isLt; omega

/-- The packed table of a table with 16384 rows. -/
def packed (y : S16384x1024.Idx → F .f32) (i : S8192x1024.Idx) : BitVec 32 :=
  pair (y (ix2 (⟨2 * (i 0).val + 1, row_odd (i 0)⟩ : Fin 16384) (i 1 : Fin 1024)))
    (y (ix2 (⟨2 * (i 0).val, row_even (i 0)⟩ : Fin 16384) (i 1 : Fin 1024)))

theorem tile_odd (i : Fin 512) : 2 * i.val + 1 < 1024 := by have := i.isLt; omega

theorem tile_even (i : Fin 512) : 2 * i.val < 1024 := by have := i.isLt; omega

/-- What the body stores of a block, at a word. -/
theorem pay_apply (v : Vec F S1024x1024 .f32) (j : S512x1024.Idx) :
    k0_pay1 v j = pair (v (ix2 (⟨2 * (j 0).val + 1, tile_odd (j 0)⟩ : Fin 1024) (j 1 : Fin 1024)))
      (v (ix2 (⟨2 * (j 0).val, tile_even (j 0)⟩ : Fin 1024) (j 1 : Fin 1024))) := by
  unfold k0_pay1
  rw [shapeCast_self]
  refine (bitcast_16_32 _ _ j).trans ?_
  refine congrArg₂ (fun a b : BitVec 16 => a ++ b) (congrArg (fun i => half (v i)) ?_) (congrArg (fun i => half (v i)) ?_)
  · funext a; apply Fin.ext; match a with | ⟨0, _⟩ => rfl | ⟨1, _⟩ => rfl
  · funext a; apply Fin.ext; match a with | ⟨0, _⟩ => rfl | ⟨1, _⟩ => rfl

theorem zeros : (![0, 0] : Fin 2 → Nat) = fun _ => 0 := funext fun a => by fin_cases a <;> rfl

/-- The body's result for a block is the one stored value. -/
theorem out_eq (x : Vec F S1024x1024 .f32) : out0_1 x = k0_pay1 x := by
  unfold out0_1
  rw [View.canon_unit_zero zeros, View.ld_unit_zero zeros]

theorem idx_in : ∀ t : Fin cfg0.N, win0_0.index t = ![t.val, 0] :=
  (by decide +kernel : ∀ t : Fin grid0.N, win0_0.index t = ![t.val, 0])

theorem idx_out : ∀ t : Fin cfg0.N, win0_1.index t = ![t.val, 0] :=
  (by decide +kernel : ∀ t : Fin grid0.N, win0_1.index t = ![t.val, 0])

variable (m : (ℓ : Loc nD τ sig) → Buf (Elt F) ℓ) (c : Dev nD)

/-- The table as the grid reads it. -/
theorem table : V m c main_v0 = Cert.PackDownRef.Read.val_main_v0 (F := F) (m ((c : Thread nD τ).loc main_arg0)) := by
  entry_read
  rfl

/-- A point writes back its block of the packed table. -/
theorem flushed_eq (t : Fin cfg0.N) :
    (dats m 0 c).flushed 1 t = ((cfg0.win 1).blk t).view.read (Elt F)
      (packed (Cert.PackDownRef.Read.val_main_v0 (F := F) (m ((c : Thread nD τ).loc main_arg0)))) := by
  rw [flushed1, out_eq, ← table m c]
  funext j
  have ei := idx_in t
  have eo := idx_out t
  have ei0 := congrFun ei 0
  have ei1 := congrFun ei 1
  have eo0 := congrFun eo 0
  have eo1 := congrFun eo 1
  refine (pay_apply (iblk m c 0 t) _).trans ?_
  refine congrArg₂ pair (congrArg (V m c main_v0) ?_) (congrArg (V m c main_v0) ?_)
  · funext a; apply Fin.ext
    match a with
    | ⟨0, _⟩ =>
      show win0_0.index t (0 : Fin 2) * 1024 + 1 * (2 * (j 0).val + 1) = 2 * (win0_1.index t (0 : Fin 2) * 512 + 1 * (j 0).val) + 1
      rw [ei0, eo0]; simp; omega
    | ⟨1, _⟩ =>
      show win0_0.index t (1 : Fin 2) * 1024 + 1 * (j 1).val = win0_1.index t (1 : Fin 2) * 1024 + 1 * (j 1).val
      rw [ei1, eo1]
  · funext a; apply Fin.ext
    match a with
    | ⟨0, _⟩ =>
      show win0_0.index t (0 : Fin 2) * 1024 + 1 * (2 * (j 0).val) = 2 * (win0_1.index t (0 : Fin 2) * 512 + 1 * (j 0).val)
      rw [ei0, eo0]; simp; omega
    | ⟨1, _⟩ =>
      show win0_0.index t (1 : Fin 2) * 1024 + 1 * (j 1).val = win0_1.index t (1 : Fin 2) * 1024 + 1 * (j 1).val
      rw [ei1, eo1]

/-- Every word is in the block of the point that holds its row. -/
theorem covered (i : S8192x1024.Idx) :
    ∃ t : Fin cfg0.N, (cfg0.win 1).flush t = true ∧ i ∈ ((cfg0.win 1).blk t).view.set := by
  have h0 : (i 0).val < 8192 := (i 0).isLt
  have ht : (i 0).val / 512 < cfg0.N := by show _ < 16; omega
  refine ⟨⟨(i 0).val / 512, ht⟩, flush0_1 _, ?_⟩
  have eo0 := congrFun (idx_out ⟨(i 0).val / 512, ht⟩) 0
  have eo1 := congrFun (idx_out ⟨(i 0).val / 512, ht⟩) 1
  have h := ((cfg0.win 1).blk (⟨(i 0).val / 512, ht⟩ : Fin cfg0.N)).view.emb_mem_set
    (ix2 (⟨(i 0).val % 512, by omega⟩ : Fin 512) (i 1 : Fin 1024))
  have e : ((cfg0.win 1).blk (⟨(i 0).val / 512, ht⟩ : Fin cfg0.N)).view.emb
    (ix2 (⟨(i 0).val % 512, by omega⟩ : Fin 512) (i 1 : Fin 1024)) = i := by
    funext a; apply Fin.ext
    match a with
    | ⟨0, _⟩ =>
      show win0_1.index ⟨(i 0).val / 512, ht⟩ (0 : Fin 2) * 512 + 1 * ((i 0).val % 512) = (i 0).val
      rw [eo0]; simp; omega
    | ⟨1, _⟩ =>
      show win0_1.index ⟨(i 0).val / 512, ht⟩ (1 : Fin 2) * 1024 + 1 * (i 1).val = (i 1).val
      rw [eo1]; simp
  rwa [e] at h

/-- The kernel's result: the packed table. -/
theorem kernel_eq : (dats m 0 c).arrAt 1 cfg0.N
    = packed (Cert.PackDownRef.Read.val_main_v0 (F := F) (m ((c : Thread nD τ).loc main_arg0))) :=
  (dats m 0 c).arrAt_eq_of_cover 1 _ (fun t _ => flushed_eq m c t) covered

end Cert.PackedRows

namespace Cert.PackedRows

open Idealize.ShloMosaic Idealize.ShloMosaic.ValueIdx Cert.PackDownRef Cert.PackDownRef.Gen Cert.PackDownRef.Read

variable {F : FTy → Type} [BitOps F]

/-- The pair's low half: the even row. -/
theorem stack_low (x : Cert.PackDownRef.S1x16384x1024.Idx → F .f32) (i : Fin 8192) (k : Fin 1024) :
    val_main_v6 (F := F) x (ix3 i k (0 : Fin 2))
      = FloatOps.truncf .bf16 bitsLt_bf16_f32 (val_main_v0 (F := F) x (ix2 (⟨2 * i.val, row_even i⟩ : Fin 16384) k)) := by
  unfold val_main_v6
  refine (concatenate_pair_apply_left 2 _ _ concatenates_S8192x1024x1_S8192x1024x1_S8192x1024x2_d2 (ix3 i k (0 : Fin 2)) rfl
    (ix3 i k (0 : Fin 1)) (fun b => match b with | ⟨0, _⟩ => rfl | ⟨1, _⟩ => rfl | ⟨2, _⟩ => rfl)).trans ?_
  rw [val_main_v4_apply]
  refine congrArg (val_main_v1 (F := F) x) ?_
  funext a; apply Fin.ext
  match a with
  | ⟨0, _⟩ => show 0 + 2 * i.val = 2 * i.val; omega
  | ⟨1, _⟩ => show 0 + 1 * k.val = k.val; omega

/-- The pair's high half: the odd row. -/
theorem stack_high (x : Cert.PackDownRef.S1x16384x1024.Idx → F .f32) (i : Fin 8192) (k : Fin 1024) :
    val_main_v6 (F := F) x (ix3 i k (1 : Fin 2))
      = FloatOps.truncf .bf16 bitsLt_bf16_f32 (val_main_v0 (F := F) x (ix2 (⟨2 * i.val + 1, row_odd i⟩ : Fin 16384) k)) := by
  unfold val_main_v6
  refine (concatenate_pair_apply_right 2 _ _ concatenates_S8192x1024x1_S8192x1024x1_S8192x1024x2_d2 (ix3 i k (1 : Fin 2)) rfl rfl
    (ix3 i k (0 : Fin 1)) (fun b hb => match b, hb with
      | ⟨0, _⟩, _ => rfl | ⟨1, _⟩, _ => rfl | ⟨2, _⟩, hb => absurd rfl hb) rfl).trans ?_
  rw [val_main_v5_apply]
  refine congrArg (val_main_v1 (F := F) x) ?_
  funext a; apply Fin.ext
  match a with
  | ⟨0, _⟩ => show 1 + 2 * i.val = 2 * i.val + 1; omega
  | ⟨1, _⟩ => show 0 + 1 * k.val = k.val; omega

/-- The reference's result: the packed table. -/
theorem reference_eq (x : Cert.PackDownRef.S1x16384x1024.Idx → F .f32) :
    val_main_v7 (F := F) x = packed (val_main_v0 (F := F) x) := by
  funext j
  unfold val_main_v7
  refine (Host.bitcastConvertWiden_apply_16_32 _ _ splits_S8192x1024_w32_S8192x1024x2_w16 j).trans ?_
  refine congrArg₂ (fun a b : BitVec 16 => a ++ b) ((congrArg (fun i => BitOps.toBits (val_main_v6 (F := F) x i)) ?_).trans
    (congrArg BitOps.toBits (stack_high x (j 0) (j 1)))) ((congrArg (fun i => BitOps.toBits (val_main_v6 (F := F) x i)) ?_).trans
    (congrArg BitOps.toBits (stack_low x (j 0) (j 1))))
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl

end Cert.PackedRows

end
-- ==== Proof.PackedColumns.lean ====
/-
  The packing of the up table, columns for rows: word `(w, e)` of the packed table is the bf16 rounding of row `e`,
  column `2w + 1`, on the bf16 rounding of row `e`, column `2w`. The kernel's 16 blocks of 1024 word columns and the
  reference's pairs both hold that word.
-/
module

public import proofs.«01_k».proof.Proof.Gen.PackUp.Value
public import proofs.«01_k».proof.Proof.Gen.PackUpRef.Read
public import Idealize.ShloMosaic.Lib.BitcastPair
public import Idealize.ShloMosaic.Lib.BitcastConvert
public import Idealize.ShloMosaic.Lib.ValueIdxCore

@[expose] public section

noncomputable section

namespace Cert.PackedColumns

open Idealize.ShloMosaic Idealize.ShloMosaic.TcCoe Idealize.ShloMosaic.ValueIdx Cert.PackUp Cert.PackUp.Gen Cert.PackUp.Value

set_option maxRecDepth 16384

variable {F : FTy → Type} [BitOps F]

/-- The sixteen bits of an entry's bf16 rounding. -/
def half (v : F .f32) : BitVec 16 := BitOps.toBits (FloatOps.truncf (φ := .f32) .bf16 bitsLt_bf16_f32 v)

/-- The packed word of two entries, the second in the low half. -/
def pair (v u : F .f32) : BitVec 32 := half v ++ half u

theorem col_odd (i : Fin 512) : 2 * i.val + 1 < 1024 := by have := i.isLt; omega

theorem col_even (i : Fin 512) : 2 * i.val < 1024 := by have := i.isLt; omega

/-- The packed table of a table with 1024 columns. -/
def packed (y : S16384x1024.Idx → F .f32) (i : S512x16384.Idx) : BitVec 32 :=
  pair (y (ix2 (i 1 : Fin 16384) (⟨2 * (i 0).val + 1, col_odd (i 0)⟩ : Fin 1024)))
    (y (ix2 (i 1 : Fin 16384) (⟨2 * (i 0).val, col_even (i 0)⟩ : Fin 1024)))

/-- What the body stores of a block, at a word. -/
theorem pay_apply (v : Vec F S1024x1024 .f32) (j : S512x1024.Idx) :
    k0_pay1 v j = pair (v (ix2 (j 1 : Fin 1024) (⟨2 * (j 0).val + 1, col_odd (j 0)⟩ : Fin 1024)))
      (v (ix2 (j 1 : Fin 1024) (⟨2 * (j 0).val, col_even (j 0)⟩ : Fin 1024))) := by
  unfold k0_pay1
  rw [shapeCast_self]
  refine (bitcast_16_32 _ _ j).trans ?_
  refine congrArg₂ (fun a b : BitVec 16 => a ++ b)
    (congrArg half (transpose_apply [1, 0] v transposes_S1024x1024_p1_0_S1024x1024 _ _ fun b => match b with | ⟨0, _⟩ => rfl | ⟨1, _⟩ => rfl))
    (congrArg half (transpose_apply [1, 0] v transposes_S1024x1024_p1_0_S1024x1024 _ _ fun b => match b with | ⟨0, _⟩ => rfl | ⟨1, _⟩ => rfl))

theorem zeros : (![0, 0] : Fin 2 → Nat) = fun _ => 0 := funext fun a => by fin_cases a <;> rfl

/-- The body's result for a block is the one stored value. -/
theorem out_eq (x : Vec F S1024x1024 .f32) : out0_1 x = k0_pay1 x := by
  unfold out0_1
  rw [View.canon_unit_zero zeros, View.ld_unit_zero zeros]

theorem idx_in : ∀ t : Fin cfg0.N, win0_0.index t = ![t.val, 0] :=
  (by decide +kernel : ∀ t : Fin grid0.N, win0_0.index t = ![t.val, 0])

theorem idx_out : ∀ t : Fin cfg0.N, win0_1.index t = ![0, t.val] :=
  (by decide +kernel : ∀ t : Fin grid0.N, win0_1.index t = ![0, t.val])

variable (m : (ℓ : Loc nD τ sig) → Buf (Elt F) ℓ) (c : Dev nD)

/-- The table as the grid reads it. -/
theorem table : V m c main_v0 = Cert.PackUpRef.Read.val_main_v0 (F := F) (m ((c : Thread nD τ).loc main_arg0)) := by
  entry_read
  rfl

/-- A point writes back its block of the packed table. -/
theorem flushed_eq (t : Fin cfg0.N) :
    (dats m 0 c).flushed 1 t = ((cfg0.win 1).blk t).view.read (Elt F)
      (packed (Cert.PackUpRef.Read.val_main_v0 (F := F) (m ((c : Thread nD τ).loc main_arg0)))) := by
  rw [flushed1, out_eq, ← table m c]
  funext j
  have ei := idx_in t
  have eo := idx_out t
  have ei0 := congrFun ei 0
  have ei1 := congrFun ei 1
  have eo0 := congrFun eo 0
  have eo1 := congrFun eo 1
  refine (pay_apply (iblk m c 0 t) _).trans ?_
  refine congrArg₂ pair (congrArg (V m c main_v0) ?_) (congrArg (V m c main_v0) ?_)
  · funext a; apply Fin.ext
    match a with
    | ⟨0, _⟩ =>
      show win0_0.index t (0 : Fin 2) * 1024 + 1 * (j 1).val = win0_1.index t (1 : Fin 2) * 1024 + 1 * (j 1).val
      rw [ei0, eo1]; rfl
    | ⟨1, _⟩ =>
      show win0_0.index t (1 : Fin 2) * 1024 + 1 * (2 * (j 0).val + 1) = 2 * (win0_1.index t (0 : Fin 2) * 512 + 1 * (j 0).val) + 1
      rw [ei1, eo0]; simp
  · funext a; apply Fin.ext
    match a with
    | ⟨0, _⟩ =>
      show win0_0.index t (0 : Fin 2) * 1024 + 1 * (j 1).val = win0_1.index t (1 : Fin 2) * 1024 + 1 * (j 1).val
      rw [ei0, eo1]; rfl
    | ⟨1, _⟩ =>
      show win0_0.index t (1 : Fin 2) * 1024 + 1 * (2 * (j 0).val) = 2 * (win0_1.index t (0 : Fin 2) * 512 + 1 * (j 0).val)
      rw [ei1, eo0]; simp

/-- Every word is in the block of the point that holds its column. -/
theorem covered (i : S512x16384.Idx) :
    ∃ t : Fin cfg0.N, (cfg0.win 1).flush t = true ∧ i ∈ ((cfg0.win 1).blk t).view.set := by
  have h1 : (i 1).val < 16384 := (i 1).isLt
  have ht : (i 1).val / 1024 < cfg0.N := by show _ < 16; omega
  refine ⟨⟨(i 1).val / 1024, ht⟩, flush0_1 _, ?_⟩
  have eo0 := congrFun (idx_out ⟨(i 1).val / 1024, ht⟩) 0
  have eo1 := congrFun (idx_out ⟨(i 1).val / 1024, ht⟩) 1
  have h := ((cfg0.win 1).blk (⟨(i 1).val / 1024, ht⟩ : Fin cfg0.N)).view.emb_mem_set
    (ix2 (i 0 : Fin 512) (⟨(i 1).val % 1024, by omega⟩ : Fin 1024))
  have e : ((cfg0.win 1).blk (⟨(i 1).val / 1024, ht⟩ : Fin cfg0.N)).view.emb
    (ix2 (i 0 : Fin 512) (⟨(i 1).val % 1024, by omega⟩ : Fin 1024)) = i := by
    funext a; apply Fin.ext
    match a with
    | ⟨0, _⟩ =>
      show win0_1.index ⟨(i 1).val / 1024, ht⟩ (0 : Fin 2) * 512 + 1 * (i 0).val = (i 0).val
      rw [eo0]; simp
    | ⟨1, _⟩ =>
      show win0_1.index ⟨(i 1).val / 1024, ht⟩ (1 : Fin 2) * 1024 + 1 * ((i 1).val % 1024) = (i 1).val
      rw [eo1]; simp; omega
  rwa [e] at h

/-- The kernel's result: the packed table. -/
theorem kernel_eq : (dats m 0 c).arrAt 1 cfg0.N
    = packed (Cert.PackUpRef.Read.val_main_v0 (F := F) (m ((c : Thread nD τ).loc main_arg0))) :=
  (dats m 0 c).arrAt_eq_of_cover 1 _ (fun t _ => flushed_eq m c t) covered

end Cert.PackedColumns

namespace Cert.PackedColumns

open Idealize.ShloMosaic Idealize.ShloMosaic.ValueIdx Cert.PackUpRef Cert.PackUpRef.Gen Cert.PackUpRef.Read

variable {F : FTy → Type} [BitOps F]

/-- The pair's low half: the even column. -/
theorem stack_low (x : Cert.PackUpRef.S1x16384x1024.Idx → F .f32) (i : Fin 512) (k : Fin 16384) :
    val_main_v8 (F := F) x (ix3 i k (0 : Fin 2))
      = FloatOps.truncf .bf16 bitsLt_bf16_f32 (val_main_v0 (F := F) x (ix2 k (⟨2 * i.val, col_even i⟩ : Fin 1024))) := by
  unfold val_main_v8
  refine (concatenate_pair_apply_left 2 _ _ concatenates_S512x16384x1_S512x16384x1_S512x16384x2_d2 (ix3 i k (0 : Fin 2)) rfl
    (ix3 i k (0 : Fin 1)) (fun b => match b with | ⟨0, _⟩ => rfl | ⟨1, _⟩ => rfl | ⟨2, _⟩ => rfl)).trans ?_
  rw [val_main_v6_apply, val_main_v3_apply]
  refine congrArg (val_main_v1 (F := F) x) ?_
  funext a; apply Fin.ext
  match a with
  | ⟨0, _⟩ => show 0 + 1 * k.val = k.val; omega
  | ⟨1, _⟩ => show 0 + 2 * i.val = 2 * i.val; omega

/-- The pair's high half: the odd column. -/
theorem stack_high (x : Cert.PackUpRef.S1x16384x1024.Idx → F .f32) (i : Fin 512) (k : Fin 16384) :
    val_main_v8 (F := F) x (ix3 i k (1 : Fin 2))
      = FloatOps.truncf .bf16 bitsLt_bf16_f32 (val_main_v0 (F := F) x (ix2 k (⟨2 * i.val + 1, col_odd i⟩ : Fin 1024))) := by
  unfold val_main_v8
  refine (concatenate_pair_apply_right 2 _ _ concatenates_S512x16384x1_S512x16384x1_S512x16384x2_d2 (ix3 i k (1 : Fin 2)) rfl rfl
    (ix3 i k (0 : Fin 1)) (fun b hb => match b, hb with
      | ⟨0, _⟩, _ => rfl | ⟨1, _⟩, _ => rfl | ⟨2, _⟩, hb => absurd rfl hb) rfl).trans ?_
  rw [val_main_v7_apply, val_main_v5_apply]
  refine congrArg (val_main_v1 (F := F) x) ?_
  funext a; apply Fin.ext
  match a with
  | ⟨0, _⟩ => show 0 + 1 * k.val = k.val; omega
  | ⟨1, _⟩ => show 1 + 2 * i.val = 2 * i.val + 1; omega

/-- The reference's result: the packed table. -/
theorem reference_eq (x : Cert.PackUpRef.S1x16384x1024.Idx → F .f32) :
    val_main_v9 (F := F) x = packed (val_main_v0 (F := F) x) := by
  funext j
  unfold val_main_v9
  refine (Host.bitcastConvertWiden_apply_16_32 _ _ splits_S512x16384_w32_S512x16384x2_w16 j).trans ?_
  refine congrArg₂ (fun a b : BitVec 16 => a ++ b) ((congrArg (fun i => BitOps.toBits (val_main_v8 (F := F) x i)) ?_).trans
    (congrArg BitOps.toBits (stack_high x (j 0) (j 1)))) ((congrArg (fun i => BitOps.toBits (val_main_v8 (F := F) x i)) ?_).trans
    (congrArg BitOps.toBits (stack_low x (j 0) (j 1))))
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl

end Cert.PackedColumns

end
-- ==== Proof.lean ====
/-
  The claims of the token mixer: the three programs run to quiescence with their arguments unchanged, the
  idealization keeps the program, and for finite inputs the idealized kernel's two results are the reference's.
  The claims of the two packings of the expert tables: kernel and reference run to quiescence with their argument
  unchanged and end with the same words.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Finite
public import proofs.«01_k».proof.Proof.PackedRows
public import proofs.«01_k».proof.Proof.PackedColumns
public import proofs.«01_k».proof.Proof.Gen.PackDown
public import proofs.«01_k».proof.Proof.Gen.PackDown.Frame
public import proofs.«01_k».proof.Proof.Gen.PackDown.Value
public import proofs.«01_k».proof.Proof.Gen.PackUp
public import proofs.«01_k».proof.Proof.Gen.PackUp.Frame
public import proofs.«01_k».proof.Proof.Gen.PackUp.Value
public import proofs.«01_k».proof.Proof.Gen.PackDownRef
public import proofs.«01_k».proof.Proof.Gen.PackDownRef.Run
public import proofs.«01_k».proof.Proof.Gen.PackDownRef.Read
public import proofs.«01_k».proof.Proof.Gen.PackUpRef
public import proofs.«01_k».proof.Proof.Gen.PackUpRef.Run
public import proofs.«01_k».proof.Proof.Gen.PackUpRef.Read
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The shape facts the precondition's operations state. -/
theorem facts_finite : Cert.Pre_finite.Facts := ⟨by decide, by decide, by decide⟩

/-- The reference runs, its arguments unchanged; it has no semaphore. -/
theorem frame_reference : Cert.quiescent_ReferenceIdeal := fun m g _ =>
  (θ_run Cert.ReferenceIdeal.defs _ _).mono (fun r h => And.intro (fun c => (h c).2.2)
      (Idealize.ShloMosaic.sem_eq_zero_of_no_sems (by decide) r.2))
    (Cert.ReferenceIdeal.Value.run (F := Ideal) m g)

/-- A function of nine arguments at equal arguments. -/
theorem congr_nine {A0 A1 A2 A3 A4 A5 A6 A7 A8 B : Type} (f : A0 → A1 → A2 → A3 → A4 → A5 → A6 → A7 → A8 → B)
    {x0 y0 : A0} {x1 y1 : A1} {x2 y2 : A2} {x3 y3 : A3} {x4 y4 : A4} {x5 y5 : A5} {x6 y6 : A6} {x7 y7 : A7} {x8 y8 : A8}
    (h0 : x0 = y0) (h1 : x1 = y1) (h2 : x2 = y2) (h3 : x3 = y3) (h4 : x4 = y4) (h5 : x5 = y5) (h6 : x6 = y6)
    (h7 : x7 = y7) (h8 : x8 = y8) : f x0 x1 x2 x3 x4 x5 x6 x7 x8 = f y0 y1 y2 y3 y4 y5 y6 y7 y8 := by
  subst h0 h1 h2 h3 h4 h5 h6 h7 h8; rfl

/-- For finite inputs the kernel's two results are the reference's. -/
theorem algebraic [Cert.Pre_finite.Facts] : Cert.algebraic_KernelIdeal_ReferenceIdeal_pre_finite := by
  intro m g m' g' hpre hagree
  refine ⟨fun c => Cert.KernelIdeal.Value.G14 m c, fun c => Cert.KernelIdeal.Value.G15 m c, ?_, ?_⟩
  · exact Cert.KernelIdeal.Value.run m g
  · refine (θ_run Cert.ReferenceIdeal.defs _ _).mono (fun r h c => ⟨(h c).1.trans ?_, (h c).2.1.trans ?_, (h c).2.2⟩)
      (Cert.ReferenceIdeal.Value.run (F := Ideal) m' g')
    · obtain ⟨p0, p1, p2⟩ := hpre c
      obtain ⟨a0, a1, a2, a3, a4, a5, a6, a7, a8⟩ := hagree c
      refine (Cert.ReferenceIdeal.Read.val_main_v355_eq (launchContents m' c)).trans ?_
      refine (congr_nine (Cert.ReferenceIdeal.Read.val_main_v355 (F := Ideal)) a0 a1 a2 a3 a4 a5 a6 a7 a8).trans ?_
      exact (Cert.Mixer.final_out m c (Cert.Mixer.finite_tok _ _ _ _ _ _ _ _ _ p0) (Cert.Mixer.finite_win _ _ _ _ _ _ _ _ _ p1)
        (Cert.Mixer.finite_sink _ _ _ _ _ _ _ _ _ p2)).symm
    · obtain ⟨p0, p1, p2⟩ := hpre c
      obtain ⟨a0, a1, a2, a3, a4, a5, a6, a7, a8⟩ := hagree c
      refine (Cert.ReferenceIdeal.Read.val_main_v356_eq (launchContents m' c)).trans ?_
      refine (congr_nine (Cert.ReferenceIdeal.Read.val_main_v356 (F := Ideal)) a0 a1 a2 a3 a4 a5 a6 a7 a8).trans ?_
      exact (Cert.Mixer.final_out' m c (Cert.Mixer.finite_tok _ _ _ _ _ _ _ _ _ p0) (Cert.Mixer.finite_win _ _ _ _ _ _ _ _ _ p1)
        (Cert.Mixer.finite_sink _ _ _ _ _ _ _ _ _ p2)).symm

/-- The plain packing of the down table runs, its argument unchanged; it has no semaphore. -/
theorem frame_down_reference : Cert.quiescent_PackDownRef := fun m g _ =>
  (θ_run Cert.PackDownRef.defs _ _).mono (fun r h => And.intro (fun c => (h c).2)
      (Idealize.ShloMosaic.sem_eq_zero_of_no_sems (by decide) r.2))
    (Cert.PackDownRef.Value.run (F := Bits) m g)

/-- The kernel packs the down table into the reference's words. -/
theorem bitexact_down : Cert.bitexact_PackDown_PackDownRef := by
  intro m g m' g' _ hagree
  refine ⟨fun c => (Cert.PackDown.Gen.dats m 0 c).arrAt 1 Cert.PackDown.cfg0.N, Cert.PackDown.Value.run_blocks m g, ?_⟩
  refine (θ_run Cert.PackDownRef.defs _ _).mono (fun r h c => ⟨(h c).1.trans ?_, (h c).2⟩) (Cert.PackDownRef.Value.run (F := Bits) m' g')
  refine (Cert.PackDownRef.Read.val_main_v7_eq _).trans ((congrArg (Cert.PackDownRef.Read.val_main_v7 (F := Bits)) (hagree c)).trans ?_)
  exact (Cert.PackedRows.reference_eq _).trans (Cert.PackedRows.kernel_eq m c).symm

/-- The plain packing of the up table runs, its argument unchanged; it has no semaphore. -/
theorem frame_up_reference : Cert.quiescent_PackUpRef := fun m g _ =>
  (θ_run Cert.PackUpRef.defs _ _).mono (fun r h => And.intro (fun c => (h c).2)
      (Idealize.ShloMosaic.sem_eq_zero_of_no_sems (by decide) r.2))
    (Cert.PackUpRef.Value.run (F := Bits) m g)

/-- The kernel packs the up table into the reference's words. -/
theorem bitexact_up : Cert.bitexact_PackUp_PackUpRef := by
  intro m g m' g' _ hagree
  refine ⟨fun c => (Cert.PackUp.Gen.dats m 0 c).arrAt 1 Cert.PackUp.cfg0.N, Cert.PackUp.Value.run_blocks m g, ?_⟩
  refine (θ_run Cert.PackUpRef.defs _ _).mono (fun r h c => ⟨(h c).1.trans ?_, (h c).2⟩) (Cert.PackUpRef.Value.run (F := Bits) m' g')
  refine (Cert.PackUpRef.Read.val_main_v9_eq _).trans ((congrArg (Cert.PackUpRef.Read.val_main_v9 (F := Bits)) (hagree c)).trans ?_)
  exact (Cert.PackedColumns.reference_eq _).trans (Cert.PackedColumns.kernel_eq m c).symm

theorem claim : Cert.Claim :=
  ⟨Cert.Kernel.Gen.facts, Cert.KernelIdeal.Gen.facts, Cert.ReferenceIdeal.Gen.facts, Cert.PackDown.Gen.facts,
    Cert.PackDownRef.Gen.facts, Cert.PackUp.Gen.facts, Cert.PackUpRef.Gen.facts, facts_finite,
    fun m g _ => Cert.Kernel.Gen.frame m g,
    fun m g _ => Cert.KernelIdeal.Gen.frame m g,
    fun m g _ => Cert.KernelIdeal.Gen.frame m g,
    fun m g h => frame_reference m g h,
    fun m g _ => frame_reference m g trivial,
    fun m g _ => Cert.PackDown.Gen.frame m g,
    frame_down_reference,
    fun m g _ => Cert.PackUp.Gen.frame m g,
    frame_up_reference,
    trivial,
    @algebraic facts_finite,
    bitexact_down,
    bitexact_up⟩

end Cert.Proof

end
